-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pack.Statement Cert.KernelIdeal.S160x256

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S200x512x768 : Shape := ⟨3, ![200, 512, 768]⟩
abbrev S200x512 : Shape := ⟨2, ![200, 512]⟩
abbrev S200 : Shape := ⟨1, ![200]⟩
abbrev S200x512x10 : Shape := ⟨3, ![200, 512, 10]⟩
abbrev S10x768x16 : Shape := ⟨3, ![10, 768, 16]⟩
abbrev S_ : Shape := ⟨0, ![]⟩

class Facts : Prop where
  bcast_S_S200x512x768 : S_.BroadcastsInDim S200x512x768 (![] : Fin 0 → Fin S200x512x768.rank)
  reducesTo_S200x512x768_S_d0_1_2 : S200x512x768.ReducesTo [0, 1, 2] S_
  h_S_ : 0 < S_.numel
  bcast_S_S10x768x16 : S_.BroadcastsInDim S10x768x16 (![] : Fin 0 → Fin S10x768x16.rank)
  reducesTo_S10x768x16_S_d0_1_2 : S10x768x16.ReducesTo [0, 1, 2] S_
  bcast_S_S200x512 : S_.BroadcastsInDim S200x512 (![] : Fin 0 → Fin S200x512.rank)
  reducesTo_S200x512_S_d0_1 : S200x512.ReducesTo [0, 1] S_

variable [Facts]

def fn_part1 {F : FTy → Type} [FloatOps F] (main_v12 : IVec S_ 1) (main_v15 : IVec S200x512 1) (main_c_5 : IVec S_ 1) : IVec S_ 1 :=
  let main_v16 : IVec S_ 1 := (fun x v => Host.reduce IntOp.andi x v reducesTo_S200x512_S_d0_1 h_S_) main_v15 main_c_5
  let main_v17 : IVec S_ 1 := andi main_v12 main_v16
  main_v17

def fn {F : FTy → Type} [FloatOps F] (main_arg0 : IVec S200x512x768 8) (main_arg1 : FVec F S200x512 .f32) (main_arg2 : IVec S200 32) (main_arg3 : IVec S200x512x10 32) (main_arg4 : IVec S10x768x16 8) : IVec S_ 1 :=
  let main_c : IVec S_ 8 := constantI S_ 8 127#8
  let main_v0 : IVec S200x512x768 8 := broadcastInDim S200x512x768 ![] bcast_S_S200x512x768 main_c
  let main_v1 : IVec S200x512x768 1 := cmpi .ne main_arg0 main_v0
  let main_c_0 : IVec S_ 8 := constantI S_ 8 255#8
  let main_v2 : IVec S200x512x768 8 := broadcastInDim S200x512x768 ![] bcast_S_S200x512x768 main_c_0
  let main_v3 : IVec S200x512x768 1 := cmpi .ne main_arg0 main_v2
  let main_v4 : IVec S200x512x768 1 := andi main_v1 main_v3
  let main_c_1 : IVec S_ 1 := constantI S_ 1 1#1
  let main_v5 : IVec S_ 1 := (fun x v => Host.reduce IntOp.andi x v reducesTo_S200x512x768_S_d0_1_2 h_S_) main_v4 main_c_1
  let main_c_2 : IVec S_ 8 := constantI S_ 8 127#8
  let main_v6 : IVec S10x768x16 8 := broadcastInDim S10x768x16 ![] bcast_S_S10x768x16 main_c_2
  let main_v7 : IVec S10x768x16 1 := cmpi .ne main_arg4 main_v6
  let main_c_3 : IVec S_ 8 := constantI S_ 8 255#8
  let main_v8 : IVec S10x768x16 8 := broadcastInDim S10x768x16 ![] bcast_S_S10x768x16 main_c_3
  let main_v9 : IVec S10x768x16 1 := cmpi .ne main_arg4 main_v8
  let main_v10 : IVec S10x768x16 1 := andi main_v7 main_v9
  let main_c_4 : IVec S_ 1 := constantI S_ 1 1#1
  let main_v11 : IVec S_ 1 := (fun x v => Host.reduce IntOp.andi x v reducesTo_S10x768x16_S_d0_1_2 h_S_) main_v10 main_c_4
  let main_v12 : IVec S_ 1 := andi main_v5 main_v11
  let main_v13 : FVec F S200x512 .f32 := Host.absf main_arg1
  let main_cst : FVec F S_ .f32 := constant S_ .f32 0x7F800000#32
  let main_v14 : FVec F S200x512 .f32 := broadcastInDim S200x512 ![] bcast_S_S200x512 main_cst
  let main_v15 : IVec S200x512 1 := cmpf .olt main_v13 main_v14
  let main_c_5 : IVec S_ 1 := constantI S_ 1 1#1
  fn_part1 (F := F) main_v12 main_v15 main_c_5
-- ==== Kernel.lean ====
abbrev S200x512x768 : Shape := ⟨3, ![200, 512, 768]⟩
abbrev S200x512 : Shape := ⟨2, ![200, 512]⟩
abbrev S200 : Shape := ⟨1, ![200]⟩
abbrev S200x512x10 : Shape := ⟨3, ![200, 512, 10]⟩
abbrev S10x768x16 : Shape := ⟨3, ![10, 768, 16]⟩
abbrev S10x200x512 : Shape := ⟨3, ![10, 200, 512]⟩
abbrev S10x16x768 : Shape := ⟨3, ![10, 16, 768]⟩
abbrev S160x768 : Shape := ⟨2, ![160, 768]⟩
abbrev S200x10240 : Shape := ⟨2, ![200, 10240]⟩
abbrev S10x64x200 : Shape := ⟨3, ![10, 64, 200]⟩
abbrev S8x512x768 : Shape := ⟨3, ![8, 512, 768]⟩
abbrev S8x512 : Shape := ⟨2, ![8, 512]⟩
abbrev S10x8x512 : Shape := ⟨3, ![10, 8, 512]⟩
abbrev S8x10240 : Shape := ⟨2, ![8, 10240]⟩
abbrev S8x5x16x128 : Shape := ⟨4, ![8, 5, 16, 128]⟩
abbrev S5x256x128 : Shape := ⟨3, ![5, 256, 128]⟩
abbrev S1 : Shape := ⟨1, ![1]⟩
abbrev S1x256 : Shape := ⟨2, ![1, 256]⟩
abbrev S10x1x256 : Shape := ⟨3, ![10, 1, 256]⟩
abbrev S10x256 : Shape := ⟨2, ![10, 256]⟩
abbrev S1x256x768 : Shape := ⟨3, ![1, 256, 768]⟩
abbrev S256x768 : Shape := ⟨2, ![256, 768]⟩
abbrev S160x256 : Shape := ⟨2, ![160, 256]⟩
abbrev S16x256 : Shape := ⟨2, ![16, 256]⟩
abbrev S16x128 : Shape := ⟨2, ![16, 128]⟩
abbrev S208x256 : Shape := ⟨2, ![208, 256]⟩
abbrev S64x256 : Shape := ⟨2, ![64, 256]⟩
abbrev S256x256 : Shape := ⟨2, ![256, 256]⟩
abbrev S1x128 : Shape := ⟨2, ![1, 128]⟩
abbrev S112x256 : Shape := ⟨2, ![112, 256]⟩
abbrev S32x256 : Shape := ⟨2, ![32, 256]⟩
abbrev S128x256 : Shape := ⟨2, ![128, 256]⟩
abbrev S112x128 : Shape := ⟨2, ![112, 128]⟩
abbrev S1x1x16x128 : Shape := ⟨4, ![1, 1, 16, 128]⟩
abbrev S1x1x128 : Shape := ⟨3, ![1, 1, 128]⟩
abbrev S128x128 : Shape := ⟨2, ![128, 128]⟩
abbrev S8x128 : Shape := ⟨2, ![8, 128]⟩
abbrev S256x128 : Shape := ⟨2, ![256, 128]⟩
abbrev S1x256x128 : Shape := ⟨3, ![1, 256, 128]⟩
abbrev S64x200 : Shape := ⟨2, ![64, 200]⟩
abbrev S1x64x200 : Shape := ⟨3, ![1, 64, 200]⟩
abbrev S200x10x64 : Shape := ⟨3, ![200, 10, 64]⟩

abbrev nBuf : Space → Nat
  | .hbm => 12
  | .vmem => 12
  | .smem => 1
  | _ => 0

abbrev bufTy : (tb : Table) → Fin (tcTables nBuf tb) → BufTy
  | .hbm, ⟨0, _⟩ => ⟨S200x512x768, .i8⟩
  | .hbm, ⟨1, _⟩ => ⟨S200x512, .f32⟩
  | .hbm, ⟨2, _⟩ => ⟨S200x512x10, .i32⟩
  | .hbm, ⟨3, _⟩ => ⟨S10x768x16, .i8⟩
  | .hbm, ⟨4, _⟩ => ⟨S200x512x768, .fp8e4m3⟩
  | .hbm, ⟨5, _⟩ => ⟨S10x768x16, .fp8e4m3⟩
  | .hbm, ⟨6, _⟩ => ⟨S10x200x512, .i32⟩
  | .hbm, ⟨7, _⟩ => ⟨S10x16x768, .fp8e4m3⟩
  | .hbm, ⟨8, _⟩ => ⟨S160x768, .fp8e4m3⟩
  | .hbm, ⟨9, _⟩ => ⟨S200x10240, .bf16⟩
  | .hbm, ⟨10, _⟩ => ⟨S10x64x200, .i32⟩
  | .hbm, ⟨11, _⟩ => ⟨S200x10x64, .i32⟩
  | .local _ .vmem, ⟨0, _⟩ => ⟨S8x512x768, .fp8e4m3⟩
  | .local _ .vmem, ⟨1, _⟩ => ⟨S8x512x768, .fp8e4m3⟩
  | .local _ .vmem, ⟨2, _⟩ => ⟨S8x512, .f32⟩
  | .local _ .vmem, ⟨3, _⟩ => ⟨S8x512, .f32⟩
  | .local _ .vmem, ⟨4, _⟩ => ⟨S10x8x512, .i32⟩
  | .local _ .vmem, ⟨5, _⟩ => ⟨S10x8x512, .i32⟩
  | .local _ .vmem, ⟨6, _⟩ => ⟨S160x768, .fp8e4m3⟩
  | .local _ .vmem, ⟨7, _⟩ => ⟨S8x10240, .bf16⟩
  | .local _ .vmem, ⟨8, _⟩ => ⟨S8x10240, .bf16⟩
  | .local _ .vmem, ⟨9, _⟩ => ⟨S10x64x200, .i32⟩
  | .local _ .vmem, ⟨10, _⟩ => ⟨S8x5x16x128, .f32⟩
  | .local _ .vmem, ⟨11, _⟩ => ⟨S5x256x128, .f32⟩
  | .local _ .smem, ⟨0, _⟩ => ⟨S200, .i32⟩
  | _, _ => ⟨S200x512x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [BitOps F]

abbrev grid0 : Pipeline.Grid := ⟨1, ![25], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v4 : Index := Scalar.indexCast v3
  ![v4.toNat]
def k0_off2 (i : grid0.Coords) : Fin 3 → Nat :=
  let c0_41 : Index := 0#32
  let arg0 : BitVec 32 := BitVec.ofNat 32 (i 0).val
  let c8_i32_35 : BitVec 32 := 8#32
  let v261 : BitVec 32 := Scalar.muli arg0 c8_i32_35
  let c0_i32_36 : BitVec 32 := 0#32
  let v262 : BitVec 32 := Scalar.addi v261 c0_i32_36
  let v266 : Index := Scalar.indexCast v262
  let c0_42 : Index := 0#32
  ![0, v266.toNat, 0]
def k0_off3 (i : grid0.Coords) : Fin 3 → Nat :=
  let c1_46 : Index := 1#32
  let arg0 : BitVec 32 := BitVec.ofNat 32 (i 0).val
  let c8_i32_35 : BitVec 32 := 8#32
  let v261 : BitVec 32 := Scalar.muli arg0 c8_i32_35
  let c0_i32_36 : BitVec 32 := 0#32
  let v262 : BitVec 32 := Scalar.addi v261 c0_i32_36
  let v273 : Index := Scalar.indexCast v262
  let c0_47 : Index := 0#32
  ![1, v273.toNat, 0]
def k0_off4 (i : grid0.Coords) : Fin 3 → Nat :=
  let c2_51 : Index := 2#32
  let arg0 : BitVec 32 := BitVec.ofNat 32 (i 0).val
  let c8_i32_35 : BitVec 32 := 8#32
  let v261 : BitVec 32 := Scalar.muli arg0 c8_i32_35
  let c0_i32_36 : BitVec 32 := 0#32
  let v262 : BitVec 32 := Scalar.addi v261 c0_i32_36
  let v280 : Index := Scalar.indexCast v262
  let c0_52 : Index := 0#32
  ![2, v280.toNat, 0]
def k0_off5 (i : grid0.Coords) : Fin 3 → Nat :=
  let c3_56 : Index := 3#32
  let arg0 : BitVec 32 := BitVec.ofNat 32 (i 0).val
  let c8_i32_35 : BitVec 32 := 8#32
  let v261 : BitVec 32 := Scalar.muli arg0 c8_i32_35
  let c0_i32_36 : BitVec 32 := 0#32
  let v262 : BitVec 32 := Scalar.addi v261 c0_i32_36
  let v287 : Index := Scalar.indexCast v262
  let c0_57 : Index := 0#32
  ![3, v287.toNat, 0]
def k0_off6 (i : grid0.Coords) : Fin 3 → Nat :=
  let c4_61 : Index := 4#32
  let arg0 : BitVec 32 := BitVec.ofNat 32 (i 0).val
  let c8_i32_35 : BitVec 32 := 8#32
  let v261 : BitVec 32 := Scalar.muli arg0 c8_i32_35
  let c0_i32_36 : BitVec 32 := 0#32
  let v262 : BitVec 32 := Scalar.addi v261 c0_i32_36
  let v294 : Index := Scalar.indexCast v262
  let c0_62 : Index := 0#32
  ![4, v294.toNat, 0]
def k0_off7 (i : grid0.Coords) : Fin 3 → Nat :=
  let c0_1319 : Index := 0#32
  let arg0 : BitVec 32 := BitVec.ofNat 32 (i 0).val
  let c8_i32_1309 : BitVec 32 := 8#32
  let v4070 : BitVec 32 := Scalar.muli arg0 c8_i32_1309
  let c0_i32_1310 : BitVec 32 := 0#32
  let v4071 : BitVec 32 := Scalar.addi v4070 c0_i32_1310
  let v4078 : Index := Scalar.indexCast v4071
  let c0_1320 : Index := 0#32
  ![0, v4078.toNat, 0]
def k0_off8 (i : grid0.Coords) : Fin 3 → Nat :=
  let c1_1331 : Index := 1#32
  let arg0 : BitVec 32 := BitVec.ofNat 32 (i 0).val
  let c8_i32_1309 : BitVec 32 := 8#32
  let v4070 : BitVec 32 := Scalar.muli arg0 c8_i32_1309
  let c0_i32_1310 : BitVec 32 := 0#32
  let v4071 : BitVec 32 := Scalar.addi v4070 c0_i32_1310
  let v4092 : Index := Scalar.indexCast v4071
  let c0_1332 : Index := 0#32
  ![1, v4092.toNat, 0]
def k0_off9 (i : grid0.Coords) : Fin 3 → Nat :=
  let c2_1343 : Index := 2#32
  let arg0 : BitVec 32 := BitVec.ofNat 32 (i 0).val
  let c8_i32_1309 : BitVec 32 := 8#32
  let v4070 : BitVec 32 := Scalar.muli arg0 c8_i32_1309
  let c0_i32_1310 : BitVec 32 := 0#32
  let v4071 : BitVec 32 := Scalar.addi v4070 c0_i32_1310
  let v4106 : Index := Scalar.indexCast v4071
  let c0_1344 : Index := 0#32
  ![2, v4106.toNat, 0]
def k0_off10 (i : grid0.Coords) : Fin 3 → Nat :=
  let c3_1355 : Index := 3#32
  let arg0 : BitVec 32 := BitVec.ofNat 32 (i 0).val
  let c8_i32_1309 : BitVec 32 := 8#32
  let v4070 : BitVec 32 := Scalar.muli arg0 c8_i32_1309
  let c0_i32_1310 : BitVec 32 := 0#32
  let v4071 : BitVec 32 := Scalar.addi v4070 c0_i32_1310
  let v4120 : Index := Scalar.indexCast v4071
  let c0_1356 : Index := 0#32
  ![3, v4120.toNat, 0]
def k0_off11 (i : grid0.Coords) : Fin 3 → Nat :=
  let c4_1367 : Index := 4#32
  let arg0 : BitVec 32 := BitVec.ofNat 32 (i 0).val
  let c8_i32_1309 : BitVec 32 := 8#32
  let v4070 : BitVec 32 := Scalar.muli arg0 c8_i32_1309
  let c0_i32_1310 : BitVec 32 := 0#32
  let v4071 : BitVec 32 := Scalar.addi v4070 c0_i32_1310
  let v4134 : Index := Scalar.indexCast v4071
  let c0_1368 : Index := 0#32
  ![4, v4134.toNat, 0]
def k0_off12 (i : grid0.Coords) : Fin 1 → Nat :=
  let arg0 : BitVec 32 := BitVec.ofNat 32 (i 0).val
  let c8_i32_64 : BitVec 32 := 8#32
  let v301 : BitVec 32 := Scalar.muli arg0 c8_i32_64
  let c1_i32 : BitVec 32 := 1#32
  let v302 : BitVec 32 := Scalar.addi v301 c1_i32
  let v303 : Index := Scalar.indexCast v302
  ![v303.toNat]
def k0_off13 (i : grid0.Coords) : Fin 3 → Nat :=
  let c0_114 : Index := 0#32
  let arg0 : BitVec 32 := BitVec.ofNat 32 (i 0).val
  let c8_i32_108 : BitVec 32 := 8#32
  let v560 : BitVec 32 := Scalar.muli arg0 c8_i32_108
  let c1_i32_109 : BitVec 32 := 1#32
  let v561 : BitVec 32 := Scalar.addi v560 c1_i32_109
  let v565 : Index := Scalar.indexCast v561
  let c0_115 : Index := 0#32
  ![0, v565.toNat, 0]
def k0_off14 (i : grid0.Coords) : Fin 3 → Nat :=
  let c1_120 : Index := 1#32
  let arg0 : BitVec 32 := BitVec.ofNat 32 (i 0).val
  let c8_i32_108 : BitVec 32 := 8#32
  let v560 : BitVec 32 := Scalar.muli arg0 c8_i32_108
  let c1_i32_109 : BitVec 32 := 1#32
  let v561 : BitVec 32 := Scalar.addi v560 c1_i32_109
  let v572 : Index := Scalar.indexCast v561
  let c0_121 : Index := 0#32
  ![1, v572.toNat, 0]
def k0_off15 (i : grid0.Coords) : Fin 3 → Nat :=
  let c2_126 : Index := 2#32
  let arg0 : BitVec 32 := BitVec.ofNat 32 (i 0).val
  let c8_i32_108 : BitVec 32 := 8#32
  let v560 : BitVec 32 := Scalar.muli arg0 c8_i32_108
  let c1_i32_109 : BitVec 32 := 1#32
  let v561 : BitVec 32 := Scalar.addi v560 c1_i32_109
  let v579 : Index := Scalar.indexCast v561
  let c0_127 : Index := 0#32
  ![2, v579.toNat, 0]
def k0_off16 (i : grid0.Coords) : Fin 3 → Nat :=
  let c3_132 : Index := 3#32
  let arg0 : BitVec 32 := BitVec.ofNat 32 (i 0).val
  let c8_i32_108 : BitVec 32 := 8#32
  let v560 : BitVec 32 := Scalar.muli arg0 c8_i32_108
  let c1_i32_109 : BitVec 32 := 1#32
  let v561 : BitVec 32 := Scalar.addi v560 c1_i32_109
  let v586 : Index := Scalar.indexCast v561
  let c0_133 : Index := 0#32
  ![3, v586.toNat, 0]
def k0_off17 (i : grid0.Coords) : Fin 3 → Nat :=
  let c4_138 : Index := 4#32
  let arg0 : BitVec 32 := BitVec.ofNat 32 (i 0).val
  let c8_i32_108 : BitVec 32 := 8#32
  let v560 : BitVec 32 := Scalar.muli arg0 c8_i32_108
  let c1_i32_109 : BitVec 32 := 1#32
  let v561 : BitVec 32 := Scalar.addi v560 c1_i32_109
  let v593 : Index := Scalar.indexCast v561
  let c0_139 : Index := 0#32
  ![4, v593.toNat, 0]
def k0_off18 (i : grid0.Coords) : Fin 3 → Nat :=
  let c0_1319 : Index := 0#32
  let arg0 : BitVec 32 := BitVec.ofNat 32 (i 0).val
  let c8_i32_1309 : BitVec 32 := 8#32
  let v4070 : BitVec 32 := Scalar.muli arg0 c8_i32_1309
  let c1_i32_1310 : BitVec 32 := 1#32
  let v4071 : BitVec 32 := Scalar.addi v4070 c1_i32_1310
  let v4078 : Index := Scalar.indexCast v4071
  let c0_1320 : Index := 0#32
  ![0, v4078.toNat, 0]
def k0_off19 (i : grid0.Coords) : Fin 3 → Nat :=
  let c1_1331 : Index := 1#32
  let arg0 : BitVec 32 := BitVec.ofNat 32 (i 0).val
  let c8_i32_1309 : BitVec 32 := 8#32
  let v4070 : BitVec 32 := Scalar.muli arg0 c8_i32_1309
  let c1_i32_1310 : BitVec 32 := 1#32
  let v4071 : BitVec 32 := Scalar.addi v4070 c1_i32_1310
  let v4092 : Index := Scalar.indexCast v4071
  let c0_1332 : Index := 0#32
  ![1, v4092.toNat, 0]
def k0_off20 (i : grid0.Coords) : Fin 3 → Nat :=
  let c2_1343 : Index := 2#32
  let arg0 : BitVec 32 := BitVec.ofNat 32 (i 0).val
  let c8_i32_1309 : BitVec 32 := 8#32
  let v4070 : BitVec 32 := Scalar.muli arg0 c8_i32_1309
  let c1_i32_1310 : BitVec 32 := 1#32
  let v4071 : BitVec 32 := Scalar.addi v4070 c1_i32_1310
  let v4106 : Index := Scalar.indexCast v4071
  let c0_1344 : Index := 0#32
  ![2, v4106.toNat, 0]
def k0_off21 (i : grid0.Coords) : Fin 3 → Nat :=
  let c3_1355 : Index := 3#32
  let arg0 : BitVec 32 := BitVec.ofNat 32 (i 0).val
  let c8_i32_1309 : BitVec 32 := 8#32
  let v4070 : BitVec 32 := Scalar.muli arg0 c8_i32_1309
  let c1_i32_1310 : BitVec 32 := 1#32
  let v4071 : BitVec 32 := Scalar.addi v4070 c1_i32_1310
  let v4120 : Index := Scalar.indexCast v4071
  let c0_1356 : Index := 0#32
  ![3, v4120.toNat, 0]
def k0_off22 (i : grid0.Coords) : Fin 3 → Nat :=
  let c4_1367 : Index := 4#32
  let arg0 : BitVec 32 := BitVec.ofNat 32 (i 0).val
  let c8_i32_1309 : BitVec 32 := 8#32
  let v4070 : BitVec 32 := Scalar.muli arg0 c8_i32_1309
  let c1_i32_1310 : BitVec 32 := 1#32
  let v4071 : BitVec 32 := Scalar.addi v4070 c1_i32_1310
  let v4134 : Index := Scalar.indexCast v4071
  let c0_1368 : Index := 0#32
  ![4, v4134.toNat, 0]
def k0_off23 (i : grid0.Coords) : Fin 1 → Nat :=
  let arg0 : BitVec 32 := BitVec.ofNat 32 (i 0).val
  let c8_i32_142 : BitVec 32 := 8#32
  let v600 : BitVec 32 := Scalar.muli arg0 c8_i32_142
  let c2_i32_143 : BitVec 32 := 2#32
  let v601 : BitVec 32 := Scalar.addi v600 c2_i32_143
  let v602 : Index := Scalar.indexCast v601
  ![v602.toNat]
def k0_off24 (i : grid0.Coords) : Fin 3 → Nat :=
  let c0_193 : Index := 0#32
  let arg0 : BitVec 32 := BitVec.ofNat 32 (i 0).val
  let c8_i32_187 : BitVec 32 := 8#32
  let v859 : BitVec 32 := Scalar.muli arg0 c8_i32_187
  let c2_i32_188 : BitVec 32 := 2#32
  let v860 : BitVec 32 := Scalar.addi v859 c2_i32_188
  let v864 : Index := Scalar.indexCast v860
  let c0_194 : Index := 0#32
  ![0, v864.toNat, 0]
def k0_off25 (i : grid0.Coords) : Fin 3 → Nat :=
  let c1_199 : Index := 1#32
  let arg0 : BitVec 32 := BitVec.ofNat 32 (i 0).val
  let c8_i32_187 : BitVec 32 := 8#32
  let v859 : BitVec 32 := Scalar.muli arg0 c8_i32_187
  let c2_i32_188 : BitVec 32 := 2#32
  let v860 : BitVec 32 := Scalar.addi v859 c2_i32_188
  let v871 : Index := Scalar.indexCast v860
  let c0_200 : Index := 0#32
  ![1, v871.toNat, 0]
def k0_off26 (i : grid0.Coords) : Fin 3 → Nat :=
  let c2_205 : Index := 2#32
  let arg0 : BitVec 32 := BitVec.ofNat 32 (i 0).val
  let c8_i32_187 : BitVec 32 := 8#32
  let v859 : BitVec 32 := Scalar.muli arg0 c8_i32_187
  let c2_i32_188 : BitVec 32 := 2#32
  let v860 : BitVec 32 := Scalar.addi v859 c2_i32_188
  let v878 : Index := Scalar.indexCast v860
  let c0_206 : Index := 0#32
  ![2, v878.toNat, 0]
def k0_off27 (i : grid0.Coords) : Fin 3 → Nat :=
  let c3_211 : Index := 3#32
  let arg0 : BitVec 32 := BitVec.ofNat 32 (i 0).val
  let c8_i32_187 : BitVec 32 := 8#32
  let v859 : BitVec 32 := Scalar.muli arg0 c8_i32_187
  let c2_i32_188 : BitVec 32 := 2#32
  let v860 : BitVec 32 := Scalar.addi v859 c2_i32_188
  let v885 : Index := Scalar.indexCast v860
  let c0_212 : Index := 0#32
  ![3, v885.toNat, 0]
def k0_off28 (i : grid0.Coords) : Fin 3 → Nat :=
  let c4_217 : Index := 4#32
  let arg0 : BitVec 32 := BitVec.ofNat 32 (i 0).val
  let c8_i32_187 : BitVec 32 := 8#32
  let v859 : BitVec 32 := Scalar.muli arg0 c8_i32_187
  let c2_i32_188 : BitVec 32 := 2#32
  let v860 : BitVec 32 := Scalar.addi v859 c2_i32_188
  let v892 : Index := Scalar.indexCast v860
  let c0_218 : Index := 0#32
  ![4, v892.toNat, 0]
def k0_off29 (i : grid0.Coords) : Fin 3 → Nat :=
  let c0_1319 : Index := 0#32
  let arg0 : BitVec 32 := BitVec.ofNat 32 (i 0).val
  let c8_i32_1309 : BitVec 32 := 8#32
  let v4070 : BitVec 32 := Scalar.muli arg0 c8_i32_1309
  let c2_i32_1310 : BitVec 32 := 2#32
  let v4071 : BitVec 32 := Scalar.addi v4070 c2_i32_1310
  let v4078 : Index := Scalar.indexCast v4071
  let c0_1320 : Index := 0#32
  ![0, v4078.toNat, 0]
def k0_off30 (i : grid0.Coords) : Fin 3 → Nat :=
  let c1_1331 : Index := 1#32
  let arg0 : BitVec 32 := BitVec.ofNat 32 (i 0).val
  let c8_i32_1309 : BitVec 32 := 8#32
  let v4070 : BitVec 32 := Scalar.muli arg0 c8_i32_1309
  let c2_i32_1310 : BitVec 32 := 2#32
  let v4071 : BitVec 32 := Scalar.addi v4070 c2_i32_1310
  let v4092 : Index := Scalar.indexCast v4071
  let c0_1332 : Index := 0#32
  ![1, v4092.toNat, 0]
def k0_off31 (i : grid0.Coords) : Fin 3 → Nat :=
  let c2_1343 : Index := 2#32
  let arg0 : BitVec 32 := BitVec.ofNat 32 (i 0).val
  let c8_i32_1309 : BitVec 32 := 8#32
  let v4070 : BitVec 32 := Scalar.muli arg0 c8_i32_1309
  let c2_i32_1310 : BitVec 32 := 2#32
  let v4071 : BitVec 32 := Scalar.addi v4070 c2_i32_1310
  let v4106 : Index := Scalar.indexCast v4071
  let c0_1344 : Index := 0#32
  ![2, v4106.toNat, 0]
def k0_off32 (i : grid0.Coords) : Fin 3 → Nat :=
  let c3_1355 : Index := 3#32
  let arg0 : BitVec 32 := BitVec.ofNat 32 (i 0).val
  let c8_i32_1309 : BitVec 32 := 8#32
  let v4070 : BitVec 32 := Scalar.muli arg0 c8_i32_1309
  let c2_i32_1310 : BitVec 32 := 2#32
  let v4071 : BitVec 32 := Scalar.addi v4070 c2_i32_1310
  let v4120 : Index := Scalar.indexCast v4071
  let c0_1356 : Index := 0#32
  ![3, v4120.toNat, 0]
def k0_off33 (i : grid0.Coords) : Fin 3 → Nat :=
  let c4_1367 : Index := 4#32
  let arg0 : BitVec 32 := BitVec.ofNat 32 (i 0).val
  let c8_i32_1309 : BitVec 32 := 8#32
  let v4070 : BitVec 32 := Scalar.muli arg0 c8_i32_1309
  let c2_i32_1310 : BitVec 32 := 2#32
  let v4071 : BitVec 32 := Scalar.addi v4070 c2_i32_1310
  let v4134 : Index := Scalar.indexCast v4071
  let c0_1368 : Index := 0#32
  ![4, v4134.toNat, 0]
def k0_off34 (i : grid0.Coords) : Fin 1 → Nat :=
  let arg0 : BitVec 32 := BitVec.ofNat 32 (i 0).val
  let c8_i32_221 : BitVec 32 := 8#32
  let v899 : BitVec 32 := Scalar.muli arg0 c8_i32_221
  let c3_i32_222 : BitVec 32 := 3#32
  let v900 : BitVec 32 := Scalar.addi v899 c3_i32_222
  let v901 : Index := Scalar.indexCast v900
  ![v901.toNat]
def k0_off35 (i : grid0.Coords) : Fin 3 → Nat :=
  let c0_272 : Index := 0#32
  let arg0 : BitVec 32 := BitVec.ofNat 32 (i 0).val
  let c8_i32_266 : BitVec 32 := 8#32
  let v1158 : BitVec 32 := Scalar.muli arg0 c8_i32_266
  let c3_i32_267 : BitVec 32 := 3#32
  let v1159 : BitVec 32 := Scalar.addi v1158 c3_i32_267
  let v1163 : Index := Scalar.indexCast v1159
  let c0_273 : Index := 0#32
  ![0, v1163.toNat, 0]
def k0_off36 (i : grid0.Coords) : Fin 3 → Nat :=
  let c1_278 : Index := 1#32
  let arg0 : BitVec 32 := BitVec.ofNat 32 (i 0).val
  let c8_i32_266 : BitVec 32 := 8#32
  let v1158 : BitVec 32 := Scalar.muli arg0 c8_i32_266
  let c3_i32_267 : BitVec 32 := 3#32
  let v1159 : BitVec 32 := Scalar.addi v1158 c3_i32_267
  let v1170 : Index := Scalar.indexCast v1159
  let c0_279 : Index := 0#32
  ![1, v1170.toNat, 0]
def k0_off37 (i : grid0.Coords) : Fin 3 → Nat :=
  let c2_284 : Index := 2#32
  let arg0 : BitVec 32 := BitVec.ofNat 32 (i 0).val
  let c8_i32_266 : BitVec 32 := 8#32
  let v1158 : BitVec 32 := Scalar.muli arg0 c8_i32_266
  let c3_i32_267 : BitVec 32 := 3#32
  let v1159 : BitVec 32 := Scalar.addi v1158 c3_i32_267
  let v1177 : Index := Scalar.indexCast v1159
  let c0_285 : Index := 0#32
  ![2, v1177.toNat, 0]
def k0_off38 (i : grid0.Coords) : Fin 3 → Nat :=
  let c3_290 : Index := 3#32
  let arg0 : BitVec 32 := BitVec.ofNat 32 (i 0).val
  let c8_i32_266 : BitVec 32 := 8#32
  let v1158 : BitVec 32 := Scalar.muli arg0 c8_i32_266
  let c3_i32_267 : BitVec 32 := 3#32
  let v1159 : BitVec 32 := Scalar.addi v1158 c3_i32_267
  let v1184 : Index := Scalar.indexCast v1159
  let c0_291 : Index := 0#32
  ![3, v1184.toNat, 0]
def k0_off39 (i : grid0.Coords) : Fin 3 → Nat :=
  let c4_296 : Index := 4#32
  let arg0 : BitVec 32 := BitVec.ofNat 32 (i 0).val
  let c8_i32_266 : BitVec 32 := 8#32
  let v1158 : BitVec 32 := Scalar.muli arg0 c8_i32_266
  let c3_i32_267 : BitVec 32 := 3#32
  let v1159 : BitVec 32 := Scalar.addi v1158 c3_i32_267
  let v1191 : Index := Scalar.indexCast v1159
  let c0_297 : Index := 0#32
  ![4, v1191.toNat, 0]
def k0_off40 (i : grid0.Coords) : Fin 3 → Nat :=
  let c0_1319 : Index := 0#32
  let arg0 : BitVec 32 := BitVec.ofNat 32 (i 0).val
  let c8_i32_1309 : BitVec 32 := 8#32
  let v4070 : BitVec 32 := Scalar.muli arg0 c8_i32_1309
  let c3_i32_1310 : BitVec 32 := 3#32
  let v4071 : BitVec 32 := Scalar.addi v4070 c3_i32_1310
  let v4078 : Index := Scalar.indexCast v4071
  let c0_1320 : Index := 0#32
  ![0, v4078.toNat, 0]
def k0_off41 (i : grid0.Coords) : Fin 3 → Nat :=
  let c1_1331 : Index := 1#32
  let arg0 : BitVec 32 := BitVec.ofNat 32 (i 0).val
  let c8_i32_1309 : BitVec 32 := 8#32
  let v4070 : BitVec 32 := Scalar.muli arg0 c8_i32_1309
  let c3_i32_1310 : BitVec 32 := 3#32
  let v4071 : BitVec 32 := Scalar.addi v4070 c3_i32_1310
  let v4092 : Index := Scalar.indexCast v4071
  let c0_1332 : Index := 0#32
  ![1, v4092.toNat, 0]
def k0_off42 (i : grid0.Coords) : Fin 3 → Nat :=
  let c2_1343 : Index := 2#32
  let arg0 : BitVec 32 := BitVec.ofNat 32 (i 0).val
  let c8_i32_1309 : BitVec 32 := 8#32
  let v4070 : BitVec 32 := Scalar.muli arg0 c8_i32_1309
  let c3_i32_1310 : BitVec 32 := 3#32
  let v4071 : BitVec 32 := Scalar.addi v4070 c3_i32_1310
  let v4106 : Index := Scalar.indexCast v4071
  let c0_1344 : Index := 0#32
  ![2, v4106.toNat, 0]
def k0_off43 (i : grid0.Coords) : Fin 3 → Nat :=
  let c3_1355 : Index := 3#32
  let arg0 : BitVec 32 := BitVec.ofNat 32 (i 0).val
  let c8_i32_1309 : BitVec 32 := 8#32
  let v4070 : BitVec 32 := Scalar.muli arg0 c8_i32_1309
  let c3_i32_1310 : BitVec 32 := 3#32
  let v4071 : BitVec 32 := Scalar.addi v4070 c3_i32_1310
  let v4120 : Index := Scalar.indexCast v4071
  let c0_1356 : Index := 0#32
  ![3, v4120.toNat, 0]
def k0_off44 (i : grid0.Coords) : Fin 3 → Nat :=
  let c4_1367 : Index := 4#32
  let arg0 : BitVec 32 := BitVec.ofNat 32 (i 0).val
  let c8_i32_1309 : BitVec 32 := 8#32
  let v4070 : BitVec 32 := Scalar.muli arg0 c8_i32_1309
  let c3_i32_1310 : BitVec 32 := 3#32
  let v4071 : BitVec 32 := Scalar.addi v4070 c3_i32_1310
  let v4134 : Index := Scalar.indexCast v4071
  let c0_1368 : Index := 0#32
  ![4, v4134.toNat, 0]
def k0_off45 (i : grid0.Coords) : Fin 1 → Nat :=
  let arg0 : BitVec 32 := BitVec.ofNat 32 (i 0).val
  let c8_i32_300 : BitVec 32 := 8#32
  let v1198 : BitVec 32 := Scalar.muli arg0 c8_i32_300
  let c4_i32 : BitVec 32 := 4#32
  let v1199 : BitVec 32 := Scalar.addi v1198 c4_i32
  let v1200 : Index := Scalar.indexCast v1199
  ![v1200.toNat]
def k0_off46 (i : grid0.Coords) : Fin 3 → Nat :=
  let c0_350 : Index := 0#32
  let arg0 : BitVec 32 := BitVec.ofNat 32 (i 0).val
  let c8_i32_344 : BitVec 32 := 8#32
  let v1457 : BitVec 32 := Scalar.muli arg0 c8_i32_344
  let c4_i32_345 : BitVec 32 := 4#32
  let v1458 : BitVec 32 := Scalar.addi v1457 c4_i32_345
  let v1462 : Index := Scalar.indexCast v1458
  let c0_351 : Index := 0#32
  ![0, v1462.toNat, 0]
def k0_off47 (i : grid0.Coords) : Fin 3 → Nat :=
  let c1_356 : Index := 1#32
  let arg0 : BitVec 32 := BitVec.ofNat 32 (i 0).val
  let c8_i32_344 : BitVec 32 := 8#32
  let v1457 : BitVec 32 := Scalar.muli arg0 c8_i32_344
  let c4_i32_345 : BitVec 32 := 4#32
  let v1458 : BitVec 32 := Scalar.addi v1457 c4_i32_345
  let v1469 : Index := Scalar.indexCast v1458
  let c0_357 : Index := 0#32
  ![1, v1469.toNat, 0]
def k0_off48 (i : grid0.Coords) : Fin 3 → Nat :=
  let c2_362 : Index := 2#32
  let arg0 : BitVec 32 := BitVec.ofNat 32 (i 0).val
  let c8_i32_344 : BitVec 32 := 8#32
  let v1457 : BitVec 32 := Scalar.muli arg0 c8_i32_344
  let c4_i32_345 : BitVec 32 := 4#32
  let v1458 : BitVec 32 := Scalar.addi v1457 c4_i32_345
  let v1476 : Index := Scalar.indexCast v1458
  let c0_363 : Index := 0#32
  ![2, v1476.toNat, 0]
def k0_off49 (i : grid0.Coords) : Fin 3 → Nat :=
  let c3_368 : Index := 3#32
  let arg0 : BitVec 32 := BitVec.ofNat 32 (i 0).val
  let c8_i32_344 : BitVec 32 := 8#32
  let v1457 : BitVec 32 := Scalar.muli arg0 c8_i32_344
  let c4_i32_345 : BitVec 32 := 4#32
  let v1458 : BitVec 32 := Scalar.addi v1457 c4_i32_345
  let v1483 : Index := Scalar.indexCast v1458
  let c0_369 : Index := 0#32
  ![3, v1483.toNat, 0]
def k0_off50 (i : grid0.Coords) : Fin 3 → Nat :=
  let c4_374 : Index := 4#32
  let arg0 : BitVec 32 := BitVec.ofNat 32 (i 0).val
  let c8_i32_344 : BitVec 32 := 8#32
  let v1457 : BitVec 32 := Scalar.muli arg0 c8_i32_344
  let c4_i32_345 : BitVec 32 := 4#32
  let v1458 : BitVec 32 := Scalar.addi v1457 c4_i32_345
  let v1490 : Index := Scalar.indexCast v1458
  let c0_375 : Index := 0#32
  ![4, v1490.toNat, 0]
def k0_off51 (i : grid0.Coords) : Fin 3 → Nat :=
  let c0_1319 : Index := 0#32
  let arg0 : BitVec 32 := BitVec.ofNat 32 (i 0).val
  let c8_i32_1309 : BitVec 32 := 8#32
  let v4070 : BitVec 32 := Scalar.muli arg0 c8_i32_1309
  let c4_i32_1310 : BitVec 32 := 4#32
  let v4071 : BitVec 32 := Scalar.addi v4070 c4_i32_1310
  let v4078 : Index := Scalar.indexCast v4071
  let c0_1320 : Index := 0#32
  ![0, v4078.toNat, 0]
def k0_off52 (i : grid0.Coords) : Fin 3 → Nat :=
  let c1_1331 : Index := 1#32
  let arg0 : BitVec 32 := BitVec.ofNat 32 (i 0).val
  let c8_i32_1309 : BitVec 32 := 8#32
  let v4070 : BitVec 32 := Scalar.muli arg0 c8_i32_1309
  let c4_i32_1310 : BitVec 32 := 4#32
  let v4071 : BitVec 32 := Scalar.addi v4070 c4_i32_1310
  let v4092 : Index := Scalar.indexCast v4071
  let c0_1332 : Index := 0#32
  ![1, v4092.toNat, 0]
def k0_off53 (i : grid0.Coords) : Fin 3 → Nat :=
  let c2_1343 : Index := 2#32
  let arg0 : BitVec 32 := BitVec.ofNat 32 (i 0).val
  let c8_i32_1309 : BitVec 32 := 8#32
  let v4070 : BitVec 32 := Scalar.muli arg0 c8_i32_1309
  let c4_i32_1310 : BitVec 32 := 4#32
  let v4071 : BitVec 32 := Scalar.addi v4070 c4_i32_1310
  let v4106 : Index := Scalar.indexCast v4071
  let c0_1344 : Index := 0#32
  ![2, v4106.toNat, 0]
def k0_off54 (i : grid0.Coords) : Fin 3 → Nat :=
  let c3_1355 : Index := 3#32
  let arg0 : BitVec 32 := BitVec.ofNat 32 (i 0).val
  let c8_i32_1309 : BitVec 32 := 8#32
  let v4070 : BitVec 32 := Scalar.muli arg0 c8_i32_1309
  let c4_i32_1310 : BitVec 32 := 4#32
  let v4071 : BitVec 32 := Scalar.addi v4070 c4_i32_1310
  let v4120 : Index := Scalar.indexCast v4071
  let c0_1356 : Index := 0#32
  ![3, v4120.toNat, 0]
def k0_off55 (i : grid0.Coords) : Fin 3 → Nat :=
  let c4_1367 : Index := 4#32
  let arg0 : BitVec 32 := BitVec.ofNat 32 (i 0).val
  let c8_i32_1309 : BitVec 32 := 8#32
  let v4070 : BitVec 32 := Scalar.muli arg0 c8_i32_1309
  let c4_i32_1310 : BitVec 32 := 4#32
  let v4071 : BitVec 32 := Scalar.addi v4070 c4_i32_1310
  let v4134 : Index := Scalar.indexCast v4071
  let c0_1368 : Index := 0#32
  ![4, v4134.toNat, 0]
def k0_off56 (i : grid0.Coords) : Fin 1 → Nat :=
  let arg0 : BitVec 32 := BitVec.ofNat 32 (i 0).val
  let c8_i32_378 : BitVec 32 := 8#32
  let v1497 : BitVec 32 := Scalar.muli arg0 c8_i32_378
  let c5_i32 : BitVec 32 := 5#32
  let v1498 : BitVec 32 := Scalar.addi v1497 c5_i32
  let v1499 : Index := Scalar.indexCast v1498
  ![v1499.toNat]
def k0_off57 (i : grid0.Coords) : Fin 3 → Nat :=
  let c0_427 : Index := 0#32
  let arg0 : BitVec 32 := BitVec.ofNat 32 (i 0).val
  let c8_i32_421 : BitVec 32 := 8#32
  let v1756 : BitVec 32 := Scalar.muli arg0 c8_i32_421
  let c5_i32_422 : BitVec 32 := 5#32
  let v1757 : BitVec 32 := Scalar.addi v1756 c5_i32_422
  let v1761 : Index := Scalar.indexCast v1757
  let c0_428 : Index := 0#32
  ![0, v1761.toNat, 0]
def k0_off58 (i : grid0.Coords) : Fin 3 → Nat :=
  let c1_433 : Index := 1#32
  let arg0 : BitVec 32 := BitVec.ofNat 32 (i 0).val
  let c8_i32_421 : BitVec 32 := 8#32
  let v1756 : BitVec 32 := Scalar.muli arg0 c8_i32_421
  let c5_i32_422 : BitVec 32 := 5#32
  let v1757 : BitVec 32 := Scalar.addi v1756 c5_i32_422
  let v1768 : Index := Scalar.indexCast v1757
  let c0_434 : Index := 0#32
  ![1, v1768.toNat, 0]
def k0_off59 (i : grid0.Coords) : Fin 3 → Nat :=
  let c2_439 : Index := 2#32
  let arg0 : BitVec 32 := BitVec.ofNat 32 (i 0).val
  let c8_i32_421 : BitVec 32 := 8#32
  let v1756 : BitVec 32 := Scalar.muli arg0 c8_i32_421
  let c5_i32_422 : BitVec 32 := 5#32
  let v1757 : BitVec 32 := Scalar.addi v1756 c5_i32_422
  let v1775 : Index := Scalar.indexCast v1757
  let c0_440 : Index := 0#32
  ![2, v1775.toNat, 0]
def k0_off60 (i : grid0.Coords) : Fin 3 → Nat :=
  let c3_445 : Index := 3#32
  let arg0 : BitVec 32 := BitVec.ofNat 32 (i 0).val
  let c8_i32_421 : BitVec 32 := 8#32
  let v1756 : BitVec 32 := Scalar.muli arg0 c8_i32_421
  let c5_i32_422 : BitVec 32 := 5#32
  let v1757 : BitVec 32 := Scalar.addi v1756 c5_i32_422
  let v1782 : Index := Scalar.indexCast v1757
  let c0_446 : Index := 0#32
  ![3, v1782.toNat, 0]
def k0_off61 (i : grid0.Coords) : Fin 3 → Nat :=
  let c4_451 : Index := 4#32
  let arg0 : BitVec 32 := BitVec.ofNat 32 (i 0).val
  let c8_i32_421 : BitVec 32 := 8#32
  let v1756 : BitVec 32 := Scalar.muli arg0 c8_i32_421
  let c5_i32_422 : BitVec 32 := 5#32
  let v1757 : BitVec 32 := Scalar.addi v1756 c5_i32_422
  let v1789 : Index := Scalar.indexCast v1757
  let c0_452 : Index := 0#32
  ![4, v1789.toNat, 0]
def k0_off62 (i : grid0.Coords) : Fin 3 → Nat :=
  let c0_1319 : Index := 0#32
  let arg0 : BitVec 32 := BitVec.ofNat 32 (i 0).val
  let c8_i32_1309 : BitVec 32 := 8#32
  let v4070 : BitVec 32 := Scalar.muli arg0 c8_i32_1309
  let c5_i32_1310 : BitVec 32 := 5#32
  let v4071 : BitVec 32 := Scalar.addi v4070 c5_i32_1310
  let v4078 : Index := Scalar.indexCast v4071
  let c0_1320 : Index := 0#32
  ![0, v4078.toNat, 0]
def k0_off63 (i : grid0.Coords) : Fin 3 → Nat :=
  let c1_1331 : Index := 1#32
  let arg0 : BitVec 32 := BitVec.ofNat 32 (i 0).val
  let c8_i32_1309 : BitVec 32 := 8#32
  let v4070 : BitVec 32 := Scalar.muli arg0 c8_i32_1309
  let c5_i32_1310 : BitVec 32 := 5#32
  let v4071 : BitVec 32 := Scalar.addi v4070 c5_i32_1310
  let v4092 : Index := Scalar.indexCast v4071
  let c0_1332 : Index := 0#32
  ![1, v4092.toNat, 0]
def k0_off64 (i : grid0.Coords) : Fin 3 → Nat :=
  let c2_1343 : Index := 2#32
  let arg0 : BitVec 32 := BitVec.ofNat 32 (i 0).val
  let c8_i32_1309 : BitVec 32 := 8#32
  let v4070 : BitVec 32 := Scalar.muli arg0 c8_i32_1309
  let c5_i32_1310 : BitVec 32 := 5#32
  let v4071 : BitVec 32 := Scalar.addi v4070 c5_i32_1310
  let v4106 : Index := Scalar.indexCast v4071
  let c0_1344 : Index := 0#32
  ![2, v4106.toNat, 0]
def k0_off65 (i : grid0.Coords) : Fin 3 → Nat :=
  let c3_1355 : Index := 3#32
  let arg0 : BitVec 32 := BitVec.ofNat 32 (i 0).val
  let c8_i32_1309 : BitVec 32 := 8#32
  let v4070 : BitVec 32 := Scalar.muli arg0 c8_i32_1309
  let c5_i32_1310 : BitVec 32 := 5#32
  let v4071 : BitVec 32 := Scalar.addi v4070 c5_i32_1310
  let v4120 : Index := Scalar.indexCast v4071
  let c0_1356 : Index := 0#32
  ![3, v4120.toNat, 0]
def k0_off66 (i : grid0.Coords) : Fin 3 → Nat :=
  let c4_1367 : Index := 4#32
  let arg0 : BitVec 32 := BitVec.ofNat 32 (i 0).val
  let c8_i32_1309 : BitVec 32 := 8#32
  let v4070 : BitVec 32 := Scalar.muli arg0 c8_i32_1309
  let c5_i32_1310 : BitVec 32 := 5#32
  let v4071 : BitVec 32 := Scalar.addi v4070 c5_i32_1310
  let v4134 : Index := Scalar.indexCast v4071
  let c0_1368 : Index := 0#32
  ![4, v4134.toNat, 0]
def k0_off67 (i : grid0.Coords) : Fin 1 → Nat :=
  let arg0 : BitVec 32 := BitVec.ofNat 32 (i 0).val
  let c8_i32_455 : BitVec 32 := 8#32
  let v1796 : BitVec 32 := Scalar.muli arg0 c8_i32_455
  let c6_i32 : BitVec 32 := 6#32
  let v1797 : BitVec 32 := Scalar.addi v1796 c6_i32
  let v1798 : Index := Scalar.indexCast v1797
  ![v1798.toNat]
def k0_off68 (i : grid0.Coords) : Fin 3 → Nat :=
  let c0_504 : Index := 0#32
  let arg0 : BitVec 32 := BitVec.ofNat 32 (i 0).val
  let c8_i32_498 : BitVec 32 := 8#32
  let v2055 : BitVec 32 := Scalar.muli arg0 c8_i32_498
  let c6_i32_499 : BitVec 32 := 6#32
  let v2056 : BitVec 32 := Scalar.addi v2055 c6_i32_499
  let v2060 : Index := Scalar.indexCast v2056
  let c0_505 : Index := 0#32
  ![0, v2060.toNat, 0]
def k0_off69 (i : grid0.Coords) : Fin 3 → Nat :=
  let c1_510 : Index := 1#32
  let arg0 : BitVec 32 := BitVec.ofNat 32 (i 0).val
  let c8_i32_498 : BitVec 32 := 8#32
  let v2055 : BitVec 32 := Scalar.muli arg0 c8_i32_498
  let c6_i32_499 : BitVec 32 := 6#32
  let v2056 : BitVec 32 := Scalar.addi v2055 c6_i32_499
  let v2067 : Index := Scalar.indexCast v2056
  let c0_511 : Index := 0#32
  ![1, v2067.toNat, 0]
def k0_off70 (i : grid0.Coords) : Fin 3 → Nat :=
  let c2_516 : Index := 2#32
  let arg0 : BitVec 32 := BitVec.ofNat 32 (i 0).val
  let c8_i32_498 : BitVec 32 := 8#32
  let v2055 : BitVec 32 := Scalar.muli arg0 c8_i32_498
  let c6_i32_499 : BitVec 32 := 6#32
  let v2056 : BitVec 32 := Scalar.addi v2055 c6_i32_499
  let v2074 : Index := Scalar.indexCast v2056
  let c0_517 : Index := 0#32
  ![2, v2074.toNat, 0]
def k0_off71 (i : grid0.Coords) : Fin 3 → Nat :=
  let c3_522 : Index := 3#32
  let arg0 : BitVec 32 := BitVec.ofNat 32 (i 0).val
  let c8_i32_498 : BitVec 32 := 8#32
  let v2055 : BitVec 32 := Scalar.muli arg0 c8_i32_498
  let c6_i32_499 : BitVec 32 := 6#32
  let v2056 : BitVec 32 := Scalar.addi v2055 c6_i32_499
  let v2081 : Index := Scalar.indexCast v2056
  let c0_523 : Index := 0#32
  ![3, v2081.toNat, 0]
def k0_off72 (i : grid0.Coords) : Fin 3 → Nat :=
  let c4_528 : Index := 4#32
  let arg0 : BitVec 32 := BitVec.ofNat 32 (i 0).val
  let c8_i32_498 : BitVec 32 := 8#32
  let v2055 : BitVec 32 := Scalar.muli arg0 c8_i32_498
  let c6_i32_499 : BitVec 32 := 6#32
  let v2056 : BitVec 32 := Scalar.addi v2055 c6_i32_499
  let v2088 : Index := Scalar.indexCast v2056
  let c0_529 : Index := 0#32
  ![4, v2088.toNat, 0]
def k0_off73 (i : grid0.Coords) : Fin 3 → Nat :=
  let c0_1319 : Index := 0#32
  let arg0 : BitVec 32 := BitVec.ofNat 32 (i 0).val
  let c8_i32_1309 : BitVec 32 := 8#32
  let v4070 : BitVec 32 := Scalar.muli arg0 c8_i32_1309
  let c6_i32_1310 : BitVec 32 := 6#32
  let v4071 : BitVec 32 := Scalar.addi v4070 c6_i32_1310
  let v4078 : Index := Scalar.indexCast v4071
  let c0_1320 : Index := 0#32
  ![0, v4078.toNat, 0]
def k0_off74 (i : grid0.Coords) : Fin 3 → Nat :=
  let c1_1331 : Index := 1#32
  let arg0 : BitVec 32 := BitVec.ofNat 32 (i 0).val
  let c8_i32_1309 : BitVec 32 := 8#32
  let v4070 : BitVec 32 := Scalar.muli arg0 c8_i32_1309
  let c6_i32_1310 : BitVec 32 := 6#32
  let v4071 : BitVec 32 := Scalar.addi v4070 c6_i32_1310
  let v4092 : Index := Scalar.indexCast v4071
  let c0_1332 : Index := 0#32
  ![1, v4092.toNat, 0]
def k0_off75 (i : grid0.Coords) : Fin 3 → Nat :=
  let c2_1343 : Index := 2#32
  let arg0 : BitVec 32 := BitVec.ofNat 32 (i 0).val
  let c8_i32_1309 : BitVec 32 := 8#32
  let v4070 : BitVec 32 := Scalar.muli arg0 c8_i32_1309
  let c6_i32_1310 : BitVec 32 := 6#32
  let v4071 : BitVec 32 := Scalar.addi v4070 c6_i32_1310
  let v4106 : Index := Scalar.indexCast v4071
  let c0_1344 : Index := 0#32
  ![2, v4106.toNat, 0]
def k0_off76 (i : grid0.Coords) : Fin 3 → Nat :=
  let c3_1355 : Index := 3#32
  let arg0 : BitVec 32 := BitVec.ofNat 32 (i 0).val
  let c8_i32_1309 : BitVec 32 := 8#32
  let v4070 : BitVec 32 := Scalar.muli arg0 c8_i32_1309
  let c6_i32_1310 : BitVec 32 := 6#32
  let v4071 : BitVec 32 := Scalar.addi v4070 c6_i32_1310
  let v4120 : Index := Scalar.indexCast v4071
  let c0_1356 : Index := 0#32
  ![3, v4120.toNat, 0]
def k0_off77 (i : grid0.Coords) : Fin 3 → Nat :=
  let c4_1367 : Index := 4#32
  let arg0 : BitVec 32 := BitVec.ofNat 32 (i 0).val
  let c8_i32_1309 : BitVec 32 := 8#32
  let v4070 : BitVec 32 := Scalar.muli arg0 c8_i32_1309
  let c6_i32_1310 : BitVec 32 := 6#32
  let v4071 : BitVec 32 := Scalar.addi v4070 c6_i32_1310
  let v4134 : Index := Scalar.indexCast v4071
  let c0_1368 : Index := 0#32
  ![4, v4134.toNat, 0]
def k0_off78 (i : grid0.Coords) : Fin 1 → Nat :=
  let arg0 : BitVec 32 := BitVec.ofNat 32 (i 0).val
  let c8_i32_532 : BitVec 32 := 8#32
  let v2095 : BitVec 32 := Scalar.muli arg0 c8_i32_532
  let c7_i32_533 : BitVec 32 := 7#32
  let v2096 : BitVec 32 := Scalar.addi v2095 c7_i32_533
  let v2097 : Index := Scalar.indexCast v2096
  ![v2097.toNat]
def k0_off79 (i : grid0.Coords) : Fin 3 → Nat :=
  let c0_582 : Index := 0#32
  let arg0 : BitVec 32 := BitVec.ofNat 32 (i 0).val
  let c8_i32_576 : BitVec 32 := 8#32
  let v2354 : BitVec 32 := Scalar.muli arg0 c8_i32_576
  let c7_i32_577 : BitVec 32 := 7#32
  let v2355 : BitVec 32 := Scalar.addi v2354 c7_i32_577
  let v2359 : Index := Scalar.indexCast v2355
  let c0_583 : Index := 0#32
  ![0, v2359.toNat, 0]
def k0_off80 (i : grid0.Coords) : Fin 3 → Nat :=
  let c1_588 : Index := 1#32
  let arg0 : BitVec 32 := BitVec.ofNat 32 (i 0).val
  let c8_i32_576 : BitVec 32 := 8#32
  let v2354 : BitVec 32 := Scalar.muli arg0 c8_i32_576
  let c7_i32_577 : BitVec 32 := 7#32
  let v2355 : BitVec 32 := Scalar.addi v2354 c7_i32_577
  let v2366 : Index := Scalar.indexCast v2355
  let c0_589 : Index := 0#32
  ![1, v2366.toNat, 0]
def k0_off81 (i : grid0.Coords) : Fin 3 → Nat :=
  let c2_594 : Index := 2#32
  let arg0 : BitVec 32 := BitVec.ofNat 32 (i 0).val
  let c8_i32_576 : BitVec 32 := 8#32
  let v2354 : BitVec 32 := Scalar.muli arg0 c8_i32_576
  let c7_i32_577 : BitVec 32 := 7#32
  let v2355 : BitVec 32 := Scalar.addi v2354 c7_i32_577
  let v2373 : Index := Scalar.indexCast v2355
  let c0_595 : Index := 0#32
  ![2, v2373.toNat, 0]
def k0_off82 (i : grid0.Coords) : Fin 3 → Nat :=
  let c3_600 : Index := 3#32
  let arg0 : BitVec 32 := BitVec.ofNat 32 (i 0).val
  let c8_i32_576 : BitVec 32 := 8#32
  let v2354 : BitVec 32 := Scalar.muli arg0 c8_i32_576
  let c7_i32_577 : BitVec 32 := 7#32
  let v2355 : BitVec 32 := Scalar.addi v2354 c7_i32_577
  let v2380 : Index := Scalar.indexCast v2355
  let c0_601 : Index := 0#32
  ![3, v2380.toNat, 0]
def k0_off83 (i : grid0.Coords) : Fin 3 → Nat :=
  let c4_606 : Index := 4#32
  let arg0 : BitVec 32 := BitVec.ofNat 32 (i 0).val
  let c8_i32_576 : BitVec 32 := 8#32
  let v2354 : BitVec 32 := Scalar.muli arg0 c8_i32_576
  let c7_i32_577 : BitVec 32 := 7#32
  let v2355 : BitVec 32 := Scalar.addi v2354 c7_i32_577
  let v2387 : Index := Scalar.indexCast v2355
  let c0_607 : Index := 0#32
  ![4, v2387.toNat, 0]
def k0_off84 (i : grid0.Coords) : Fin 3 → Nat :=
  let c0_1319 : Index := 0#32
  let arg0 : BitVec 32 := BitVec.ofNat 32 (i 0).val
  let c8_i32_1309 : BitVec 32 := 8#32
  let v4070 : BitVec 32 := Scalar.muli arg0 c8_i32_1309
  let c7_i32_1310 : BitVec 32 := 7#32
  let v4071 : BitVec 32 := Scalar.addi v4070 c7_i32_1310
  let v4078 : Index := Scalar.indexCast v4071
  let c0_1320 : Index := 0#32
  ![0, v4078.toNat, 0]
def k0_off85 (i : grid0.Coords) : Fin 3 → Nat :=
  let c1_1331 : Index := 1#32
  let arg0 : BitVec 32 := BitVec.ofNat 32 (i 0).val
  let c8_i32_1309 : BitVec 32 := 8#32
  let v4070 : BitVec 32 := Scalar.muli arg0 c8_i32_1309
  let c7_i32_1310 : BitVec 32 := 7#32
  let v4071 : BitVec 32 := Scalar.addi v4070 c7_i32_1310
  let v4092 : Index := Scalar.indexCast v4071
  let c0_1332 : Index := 0#32
  ![1, v4092.toNat, 0]
def k0_off86 (i : grid0.Coords) : Fin 3 → Nat :=
  let c2_1343 : Index := 2#32
  let arg0 : BitVec 32 := BitVec.ofNat 32 (i 0).val
  let c8_i32_1309 : BitVec 32 := 8#32
  let v4070 : BitVec 32 := Scalar.muli arg0 c8_i32_1309
  let c7_i32_1310 : BitVec 32 := 7#32
  let v4071 : BitVec 32 := Scalar.addi v4070 c7_i32_1310
  let v4106 : Index := Scalar.indexCast v4071
  let c0_1344 : Index := 0#32
  ![2, v4106.toNat, 0]
def k0_off87 (i : grid0.Coords) : Fin 3 → Nat :=
  let c3_1355 : Index := 3#32
  let arg0 : BitVec 32 := BitVec.ofNat 32 (i 0).val
  let c8_i32_1309 : BitVec 32 := 8#32
  let v4070 : BitVec 32 := Scalar.muli arg0 c8_i32_1309
  let c7_i32_1310 : BitVec 32 := 7#32
  let v4071 : BitVec 32 := Scalar.addi v4070 c7_i32_1310
  let v4120 : Index := Scalar.indexCast v4071
  let c0_1356 : Index := 0#32
  ![3, v4120.toNat, 0]
def k0_off88 (i : grid0.Coords) : Fin 3 → Nat :=
  let c4_1367 : Index := 4#32
  let arg0 : BitVec 32 := BitVec.ofNat 32 (i 0).val
  let c8_i32_1309 : BitVec 32 := 8#32
  let v4070 : BitVec 32 := Scalar.muli arg0 c8_i32_1309
  let c7_i32_1310 : BitVec 32 := 7#32
  let v4071 : BitVec 32 := Scalar.addi v4070 c7_i32_1310
  let v4134 : Index := Scalar.indexCast v4071
  let c0_1368 : Index := 0#32
  ![4, v4134.toNat, 0]
def k0_cond9 (i : grid0.Coords) : BitVec 1 :=
  let arg0 : BitVec 32 := BitVec.ofNat 32 (i 0).val
  let c24_i32 : BitVec 32 := 24#32
  let v3812 : BitVec 1 := Scalar.cmpi .eq arg0 c24_i32
  let v3813 : BitVec 32 := Scalar.extui v3812
  let c0_i32_1265 : BitVec 32 := 0#32
  let v3814 : BitVec 1 := Scalar.cmpi .ne v3813 c0_i32_1265
  v3814

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x512x768 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10x8x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x768 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x10240 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S10x64x200 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F]
-- ==== ReferenceIdeal.lean ====
abbrev S200x512x768 : Shape := ⟨3, ![200, 512, 768]⟩
abbrev S200x512 : Shape := ⟨2, ![200, 512]⟩
abbrev S200 : Shape := ⟨1, ![200]⟩
abbrev S200x512x10 : Shape := ⟨3, ![200, 512, 10]⟩
abbrev S10x768x16 : Shape := ⟨3, ![10, 768, 16]⟩
abbrev S200x10240 : Shape := ⟨2, ![200, 10240]⟩
abbrev S200x10x64 : Shape := ⟨3, ![200, 10, 64]⟩
abbrev S200x512x10x16 : Shape := ⟨4, ![200, 512, 10, 16]⟩
abbrev S200x512x1x1 : Shape := ⟨4, ![200, 512, 1, 1]⟩
abbrev S1x512 : Shape := ⟨2, ![1, 512]⟩
abbrev S512 : Shape := ⟨1, ![512]⟩
abbrev S200x1 : Shape := ⟨2, ![200, 1]⟩
abbrev S200x512x10x1 : Shape := ⟨4, ![200, 512, 10, 1]⟩
abbrev S1x64 : Shape := ⟨2, ![1, 64]⟩
abbrev S64 : Shape := ⟨1, ![64]⟩
abbrev S1x1x1x64 : Shape := ⟨4, ![1, 1, 1, 64]⟩
abbrev S200x512x10x64 : Shape := ⟨4, ![200, 512, 10, 64]⟩
abbrev S200x512x10x64x1 : Shape := ⟨5, ![200, 512, 10, 64, 1]⟩
abbrev S200x512x10x1x16 : Shape := ⟨5, ![200, 512, 10, 1, 16]⟩
abbrev S200x512x10x64x16 : Shape := ⟨5, ![200, 512, 10, 64, 16]⟩
abbrev S200x10x64x16 : Shape := ⟨4, ![200, 10, 64, 16]⟩

abbrev nBuf : Space → Nat
  | .hbm => 9
  | .vmem => 7
  | .smem => 0
  | _ => 0

abbrev bufTy : (tb : Table) → Fin (tcTables nBuf tb) → BufTy
  | .hbm, ⟨0, _⟩ => ⟨S200x512x768, .i8⟩
  | .hbm, ⟨1, _⟩ => ⟨S200x512, .f32⟩
  | .hbm, ⟨2, _⟩ => ⟨S200, .i32⟩
  | .hbm, ⟨3, _⟩ => ⟨S200x512x10, .i32⟩
  | .hbm, ⟨4, _⟩ => ⟨S10x768x16, .i8⟩
  | .hbm, ⟨5, _⟩ => ⟨S200x512x768, .fp8e4m3⟩
  | .hbm, ⟨6, _⟩ => ⟨S10x768x16, .fp8e4m3⟩
  | .hbm, ⟨7, _⟩ => ⟨S200x10240, .bf16⟩
  | .hbm, ⟨8, _⟩ => ⟨S200x10x64, .i32⟩
  | .local _ .vmem, ⟨0, _⟩ => ⟨S200x512x768, .fp8e4m3⟩
  | .local _ .vmem, ⟨1, _⟩ => ⟨S200x512, .f32⟩
  | .local _ .vmem, ⟨2, _⟩ => ⟨S200, .i32⟩
  | .local _ .vmem, ⟨3, _⟩ => ⟨S200x512x10, .i32⟩
  | .local _ .vmem, ⟨4, _⟩ => ⟨S10x768x16, .fp8e4m3⟩
  | .local _ .vmem, ⟨5, _⟩ => ⟨S200x10240, .bf16⟩
  | .local _ .vmem, ⟨6, _⟩ => ⟨S200x10x64, .i32⟩
  | _, _ => ⟨S200x512x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S200x512x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S200x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S200 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S200x512x10 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10x768x16 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S200x10240 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S200x10x64 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.BodyBits.lean ====
/- The printed body's run, nothing of its results named: on whole staging memrefs and scratch buffers the body at any grid
   point and under any table of document lengths terminates without a fault, hands its four inputs and the table back as they
   were and its two results and two scratch buffers back at some contents. -/
module

public import proofs.«01_k».proof.Proof.Gen.Kernel.Launch
public import proofs.«01_k».proof.Proof.Gen.Kernel.Skeleton
public import Idealize.ShloMosaic.Lib.Pipeline.FrameBody
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The table of document lengths as the body is handed it, and the two scratch buffers. -/
abbrev tbM : Memref sig .tc .smem S200 .i32 := Memref.whole main_arg2
abbrev scM0 : Memref sig .tc .vmem S8x5x16x128 .f32 := Memref.whole cc0_scratch0
abbrev scM1 : Memref sig .tc .vmem S5x256x128 .f32 := Memref.whole cc0_scratch1
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

set_option maxHeartbeats 4000000 in
theorem bodyRun (c : Dev nD) (i : grid0.Coords)
    (arg2 : Memref sig .tc .vmem S8x512x768 .fp8e4m3) (harg2 : arg2.IsWhole) (arg3 : Memref sig .tc .vmem S8x512 .f32) (harg3 : arg3.IsWhole)
    (arg4 : Memref sig .tc .vmem S10x8x512 .i32) (harg4 : arg4.IsWhole) (arg5 : Memref sig .tc .vmem S160x768 .fp8e4m3) (harg5 : arg5.IsWhole)
    (arg6 : Memref sig .tc .vmem S8x10240 .bf16) (harg6 : arg6.IsWhole) (arg7 : Memref sig .tc .vmem S10x64x200 .i32) (harg7 : arg7.IsWhole)
    (x0 : Vec F S8x512x768 .fp8e4m3) (x1 : Vec F S8x512 .f32) (x2 : Vec F S10x8x512 .i32) (x3 : Vec F S160x768 .fp8e4m3)
    (xt : TbBuf (F := F) c tbM) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ tbPt c tbM xt ∗ (∃ d, owns (c : Thread nD τ) scM0 fullShare d) ∗ (∃ d, owns (c : Thread nD τ) scM1 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ tbPt c tbM xt ∗ (∃ d, owns (c : Thread nD τ) scM0 fullShare d) ∗ (∃ d, owns (c : Thread nD τ) scM1 fullShare d)) -∗ K ⟨⟩))
      ⊢ wp frame (wpE (defs₀ (F := F)) Variants.none c none) E
        (cc0_muvera_fde i tbM (Memref.isWhole_whole _) arg2 harg2 arg3 harg3 arg4 harg4 arg5 harg5 arg6 harg6 arg7 harg7
          scM0 (Memref.isWhole_whole _) scM1 (Memref.isWhole_whole _)) K := by
  simp only [cc0_muvera_fde_eq_skeleton]; unfold cc0_muvera_fde_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, HT, ⟨%ds0, %fs0, -, HS0⟩, ⟨%ds1, %fs1, -, HS1⟩, Hk⟩
  obtain rfl := harg2.eq_unread hf0; obtain rfl := harg3.eq_unread hf1
  obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  isplitl [HT]; · iexact HT
  isplitl [HS0]
  · iexists _, _; isplitr; swap; · iexact HS0
    ipureintro; rfl
  iexists _, _; isplitr; swap; · iexact HS1
  ipureintro; rfl

end Cert.Kernel.Hand

end
-- ==== Proof.FrameBits.lean ====
/- The frame of the printed program: under any table of document lengths, from any memory with its counters at zero, the run
   ends without a fault with its argument arrays as they were and every counter at zero; what the results hold is not stated. -/
module

public import proofs.«01_k».proof.Proof.BodyBits
public import Idealize.ShloMosaic.Lib.Claim
public import Idealize.ShloMosaic.Lib.Pipeline.FrameSuffix

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffers when the region is entered: the launch's after the two reinterpretations of bytes, the two transposes and the reshape. -/
def V0 (c : Dev nD) : Valuation τ sig (Elt F) := StableHlo.after ([hostOps0].flatten) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simpa only [List.Forall] using hostOps0_sub)
    (by simpa only [List.Forall] using hostOps0_fresh) main_chain

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl
  intro k
  simp only [StableHlo.unary_bufs, Finset.mem_insert, Finset.mem_singleton, not_or]
  fin_cases k
  exact ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.unary_writes, Finset.mem_singleton] <;> exact StableHlo.devRef_ne_of_ne (by decide)
theorem sfx_writes : ∀ ops ∈ ([hostOps1] : List (List (HloOp τ sig (Elt F)))), ∀ op ∈ ops, ∀ b : Ref sig .tc,
    Proc.devRef .tc b ∈ op.writes → b ∈ ({main_v6} : Finset (Ref sig .tc)) := by
  intro ops hops op hop
  simp only [List.mem_cons, List.mem_nil_iff, or_false] at hops
  rcases hops with rfl
  simp only [hostOps1, List.mem_cons, List.mem_nil_iff, or_false] at hop
  rcases hop with rfl
  intro b hb
  simp only [StableHlo.unary_writes, Finset.mem_singleton] at hb ⊢
  exact Proc.devRef_injective (τ := τ) _ hb

theorem V_of_ne (c : Dev nD) (b : Ref sig .tc) (h0 : b ≠ main_v0) (h1 : b ≠ main_v1) (h2 : b ≠ main_v2) (h3 : b ≠ main_v3)
    (h4 : b ≠ main_v4) :
    V m c b = m ((c : Thread nD τ).loc b) := by
  unfold V V0
  refine (StableHlo.after_of_forall_not_mem _ _ fun op hop => ?_).trans rfl
  simp only [List.flatten_cons, List.flatten_nil, List.append_nil, hostOps0, List.mem_cons, List.mem_nil_iff, or_false] at hop
  rcases hop with rfl | rfl | rfl | rfl | rfl
  all_goals simp only [StableHlo.unary_writes, StableHlo.reshape_writes, Finset.mem_singleton]
  · exact StableHlo.devRef_ne_of_ne h0
  · exact StableHlo.devRef_ne_of_ne h1
  · exact StableHlo.devRef_ne_of_ne h2
  · exact StableHlo.devRef_ne_of_ne h3
  · exact StableHlo.devRef_ne_of_ne h4

/-! ## The table -/

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

theorem PhiT0_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl
theorem PhiA0_eq (c : Dev nD) : (Pipeline.ΦA spec0 c : sProp 𝕄)
    = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The windows -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin (cfgM m).N) : Memref sig .tc .vmem S8x512x768 .fp8e4m3 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S8x512 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S10x8x512 .i32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S160x768 .fp8e4m3 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S8x10240 .bf16 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S10x64x200 .i32 := spec0_5.stage ((cfgM m).slots t 5)
abbrev hs0_5 (t : Fin (cfgM m).N) : (ms0_5 m t).IsWhole := hstage0_5 (((cfgM m).slots t 5).cast nbuf0_5)

/-- The body at point `t`, as the pipeline calls it. -/
abbrev bodyAt (t : Fin (cfgM m).N) : Prog (TpuEff nD τ sig (Elt F) Λ₀ .tc) PUnit :=
  cc0_muvera_fde (grid0.coords t) tbM (Memref.isWhole_whole _) (ms0_0 m t) (hs0_0 m t) (ms0_1 m t) (hs0_1 m t) (ms0_2 m t) (hs0_2 m t)
    (ms0_3 m t) (hs0_3 m t) (ms0_4 m t) (hs0_4 m t) (ms0_5 m t) (hs0_5 m t) scM0 (Memref.isWhole_whole _) scM1 (Memref.isWhole_whole _)

theorem defs₀_row (t : Fin (cfgM m).N) :
    defs₀ (F := F) .tc (cfgM m).body ((cfgM m).bodyArgs t ((cfgM m).slots t)) = bodyAt m t := by
  unfold defs₀; rw [Defs.onTc_tc]

/-! ## The proof data -/

/-- The two results' windows, of which nothing is stated. -/
def forgets0 : Fin 6 → Bool := fun w => 4 ≤ w.val

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := (cfgM m)) ⟨4, h⟩ t
    | ⟨5, h⟩ => Pipeline.Dat.unnamed (cfg := (cfgM m)) ⟨5, h⟩ t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d
theorem before0_3 (c : Dev nD) (t : Fin (cfgM m).N) (d) : (dats m 0 c).before 3 t d = iblk m c 3 t :=
  before0_3_of m (dats m 0 c) (A_eq m c 3) (after0_3 m c) t d

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare d)
    ∗ (∃ d, owns (c : Thread nD τ) (ms0_5 m t) fullShare d))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ (∃ d, owns (c : Thread nD τ) (ms0_4 m t) fullShare d)
    ∗ (∃ d, owns (c : Thread nD τ) (ms0_5 m t) fullShare d))

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = iprop(Pipeline.ΦA spec0 c ∗ Pipeline.ΦT pre0 (tbl m) c) from rfl, PhiT0_eq, PhiA0_eq]
  iintro ⟨⟨⟨⟨HS0, HS1⟩, Hg⟩, HT⟩, Ho, ⟨%d0, H0⟩, ⟨%d1, H1⟩, ⟨%d2, H2⟩, ⟨%d3, H3⟩, ⟨%d4, H4⟩, ⟨%d5, H5⟩⟩
  iapply (bodyRun c (grid0.coords t) (ms0_0 m t) (hs0_0 m t) (ms0_1 m t) (hs0_1 m t) (ms0_2 m t) (hs0_2 m t) (ms0_3 m t) (hs0_3 m t)
    (ms0_4 m t) (hs0_4 m t) (ms0_5 m t) (hs0_5 m t) (iblk m c 0 t) (iblk m c 1 t) (iblk m c 2 t) (iblk m c 3 t) (tbl m 0) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HT]; · iexact HT
  isplitl [HS0]; · iexact HS0
  isplitl [HS1]; · iexact HS1
  iintro ⟨H0, H1, H2, H3, H4, H5, HT, HS0, HS1⟩
  isplitl [HS0 HS1 Hg HT]
  · isplitl [HS0 HS1 Hg]
    · isplitl [HS0 HS1]
      · isplitl [HS0]
        · iexact HS0
        iexact HS1
      iexact Hg
    iexact HT
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ forgets0 := fun t => by
  rw [bigSep_W0, bigSep_W0, defs₀_row m]
  exact triple_restated (sound_body m c t) rfl .rfl fun _ => .rfl

/-! ## The run and the frame -/

set_option backward.isDefEq.respectTransparency.types false in
theorem run_main : θ_run defs (onTc (τ := τ) (main (F := F))) (s₀ m ρ) (fun r => (Pipeline.RDat.FramePostR ((Pipeline.pin pcfgs fun _ => adm m) 0)
      (fun c => (dats m 0 c).toRForget forgets0) {main_v6} (V m)) r ∧ r.2.sem = fun _ => 0) :=
  Pipeline.θ_run_frameP_around_T_forget (Q' := _) pcfgs (fun _ => adm m) (dats m) (0 : Fin 1) launch0 defs₀ Variants.none forgets0 {main_v6} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hpf := V_pre m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  have rest : ∀ b : Ref sig .tc, b ∈ Pipeline.restRefs sig spec0 \ {main_v6} → b ≠ main_v0 → b ≠ main_v1 → b ≠ main_v2 → b ≠ main_v3 → b ≠ main_v4 →
      r.2.mem ((c.tc : Thread nD τ).loc b) = m ((c.tc : Thread nD τ).loc b) := fun b hb h0 h1 h2 h3 h4 =>
    ((h.1 c).2 b hb).trans (V_of_ne m c b h0 h1 h2 h3 h4)
  exact ⟨rest main_arg0 (by decide) (by decide) (by decide) (by decide) (by decide) (by decide),
    (Pipeline.RDat.FramePostR.arr_in h.1 c 1 rfl).trans ((A_eq m c 1).trans (V_of_ne m c main_arg1 (by decide) (by decide) (by decide) (by decide) (by decide))),
    rest main_arg2 (by decide) (by decide) (by decide) (by decide) (by decide) (by decide),
    rest main_arg3 (by decide) (by decide) (by decide) (by decide) (by decide) (by decide),
    rest main_arg4 (by decide) (by decide) (by decide) (by decide) (by decide) (by decide)⟩

end Cert.Kernel.Hand

end
-- ==== Proof.BodyIdeal.lean ====
/- The printed body's run, nothing of its results named: on whole staging memrefs and scratch buffers the body at any grid
   point and under any table of document lengths terminates without a fault, hands its four inputs and the table back as they
   were and its two results and two scratch buffers back at some contents. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of document lengths as the body is handed it, and the two scratch buffers. -/
abbrev tbM : Memref sig .tc .smem S200 .i32 := Memref.whole main_arg2
abbrev scM0 : Memref sig .tc .vmem S8x5x16x128 .f32 := Memref.whole cc0_scratch0
abbrev scM1 : Memref sig .tc .vmem S5x256x128 .f32 := Memref.whole cc0_scratch1
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

set_option maxHeartbeats 4000000 in
theorem bodyRun (c : Dev nD) (i : grid0.Coords)
    (arg2 : Memref sig .tc .vmem S8x512x768 .fp8e4m3) (harg2 : arg2.IsWhole) (arg3 : Memref sig .tc .vmem S8x512 .f32) (harg3 : arg3.IsWhole)
    (arg4 : Memref sig .tc .vmem S10x8x512 .i32) (harg4 : arg4.IsWhole) (arg5 : Memref sig .tc .vmem S160x768 .fp8e4m3) (harg5 : arg5.IsWhole)
    (arg6 : Memref sig .tc .vmem S8x10240 .bf16) (harg6 : arg6.IsWhole) (arg7 : Memref sig .tc .vmem S10x64x200 .i32) (harg7 : arg7.IsWhole)
    (x0 : Vec F S8x512x768 .fp8e4m3) (x1 : Vec F S8x512 .f32) (x2 : Vec F S10x8x512 .i32) (x3 : Vec F S160x768 .fp8e4m3)
    (xt : TbBuf (F := F) c tbM) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ tbPt c tbM xt ∗ (∃ d, owns (c : Thread nD τ) scM0 fullShare d) ∗ (∃ d, owns (c : Thread nD τ) scM1 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ tbPt c tbM xt ∗ (∃ d, owns (c : Thread nD τ) scM0 fullShare d) ∗ (∃ d, owns (c : Thread nD τ) scM1 fullShare d)) -∗ K ⟨⟩))
      ⊢ wp frame (wpE (defs₀ (F := F)) Variants.none c none) E
        (cc0_muvera_fde i tbM (Memref.isWhole_whole _) arg2 harg2 arg3 harg3 arg4 harg4 arg5 harg5 arg6 harg6 arg7 harg7
          scM0 (Memref.isWhole_whole _) scM1 (Memref.isWhole_whole _)) K := by
  simp only [cc0_muvera_fde_eq_skeleton]; unfold cc0_muvera_fde_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, HT, ⟨%ds0, %fs0, -, HS0⟩, ⟨%ds1, %fs1, -, HS1⟩, Hk⟩
  obtain rfl := harg2.eq_unread hf0; obtain rfl := harg3.eq_unread hf1
  obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  isplitl [HT]; · iexact HT
  isplitl [HS0]
  · iexists _, _; isplitr; swap; · iexact HS0
    ipureintro; rfl
  iexists _, _; isplitr; swap; · iexact HS1
  ipureintro; rfl

end Cert.KernelIdeal.Hand

end
-- ==== Proof.LaunchIdeal.lean ====
/- The printed program around its one region, and the region's windows: what each buffer holds when the region is entered,
   the table the region reads, the windows' blocks, the body as the pipeline calls it. -/
module

public import proofs.«01_k».proof.Proof.BodyIdeal
public import Idealize.ShloMosaic.Lib.Claim
public import Idealize.ShloMosaic.Lib.Pipeline.FrameSuffix

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffers when the region is entered: the launch's after the two reinterpretations of bytes, the two transposes and the reshape. -/
def V0 (c : Dev nD) : Valuation τ sig (Elt F) := StableHlo.after ([hostOps0].flatten) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simpa only [List.Forall] using hostOps0_sub)
    (by simpa only [List.Forall] using hostOps0_fresh) main_chain

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl
  intro k
  simp only [StableHlo.unary_bufs, Finset.mem_insert, Finset.mem_singleton, not_or]
  fin_cases k
  exact ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.unary_writes, Finset.mem_singleton] <;> exact StableHlo.devRef_ne_of_ne (by decide)
theorem sfx_writes : ∀ ops ∈ ([hostOps1] : List (List (HloOp τ sig (Elt F)))), ∀ op ∈ ops, ∀ b : Ref sig .tc,
    Proc.devRef .tc b ∈ op.writes → b ∈ ({main_v6} : Finset (Ref sig .tc)) := by
  intro ops hops op hop
  simp only [List.mem_cons, List.mem_nil_iff, or_false] at hops
  rcases hops with rfl
  simp only [hostOps1, List.mem_cons, List.mem_nil_iff, or_false] at hop
  rcases hop with rfl
  intro b hb
  simp only [StableHlo.unary_writes, Finset.mem_singleton] at hb ⊢
  exact Proc.devRef_injective (τ := τ) _ hb

theorem V_of_ne (c : Dev nD) (b : Ref sig .tc) (h0 : b ≠ main_v0) (h1 : b ≠ main_v1) (h2 : b ≠ main_v2) (h3 : b ≠ main_v3)
    (h4 : b ≠ main_v4) :
    V m c b = m ((c : Thread nD τ).loc b) := by
  unfold V V0
  refine (StableHlo.after_of_forall_not_mem _ _ fun op hop => ?_).trans rfl
  simp only [List.flatten_cons, List.flatten_nil, List.append_nil, hostOps0, List.mem_cons, List.mem_nil_iff, or_false] at hop
  rcases hop with rfl | rfl | rfl | rfl | rfl
  all_goals simp only [StableHlo.unary_writes, StableHlo.reshape_writes, Finset.mem_singleton]
  · exact StableHlo.devRef_ne_of_ne h0
  · exact StableHlo.devRef_ne_of_ne h1
  · exact StableHlo.devRef_ne_of_ne h2
  · exact StableHlo.devRef_ne_of_ne h3
  · exact StableHlo.devRef_ne_of_ne h4

/-! ## The table -/

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

theorem PhiT0_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl
theorem PhiA0_eq (c : Dev nD) : (Pipeline.ΦA spec0 c : sProp 𝕄)
    = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The windows -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin (cfgM m).N) : Memref sig .tc .vmem S8x512x768 .fp8e4m3 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S8x512 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S10x8x512 .i32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S160x768 .fp8e4m3 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S8x10240 .bf16 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S10x64x200 .i32 := spec0_5.stage ((cfgM m).slots t 5)
abbrev hs0_5 (t : Fin (cfgM m).N) : (ms0_5 m t).IsWhole := hstage0_5 (((cfgM m).slots t 5).cast nbuf0_5)

/-- The body at point `t`, as the pipeline calls it. -/
abbrev bodyAt (t : Fin (cfgM m).N) : Prog (TpuEff nD τ sig (Elt F) Λ₀ .tc) PUnit :=
  cc0_muvera_fde (grid0.coords t) tbM (Memref.isWhole_whole _) (ms0_0 m t) (hs0_0 m t) (ms0_1 m t) (hs0_1 m t) (ms0_2 m t) (hs0_2 m t)
    (ms0_3 m t) (hs0_3 m t) (ms0_4 m t) (hs0_4 m t) (ms0_5 m t) (hs0_5 m t) scM0 (Memref.isWhole_whole _) scM1 (Memref.isWhole_whole _)

theorem defs₀_row (t : Fin (cfgM m).N) :
    defs₀ (F := F) .tc (cfgM m).body ((cfgM m).bodyArgs t ((cfgM m).slots t)) = bodyAt m t := by
  unfold defs₀; rw [Defs.onTc_tc]

end Cert.KernelIdeal.Hand

end
-- ==== Proof.FrameIdeal.lean ====
/- The frame of the idealized program: under any table of document lengths, from any memory with its counters at zero, the run
   ends without a fault with its argument arrays as they were and every counter at zero; what the results hold is not stated. -/
module

public import proofs.«01_k».proof.Proof.LaunchIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The two results' windows, of which nothing is stated. -/
def forgets0 : Fin 6 → Bool := fun w => 4 ≤ w.val

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := (cfgM m)) ⟨4, h⟩ t
    | ⟨5, h⟩ => Pipeline.Dat.unnamed (cfg := (cfgM m)) ⟨5, h⟩ t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d
theorem before0_3 (c : Dev nD) (t : Fin (cfgM m).N) (d) : (dats m 0 c).before 3 t d = iblk m c 3 t :=
  before0_3_of m (dats m 0 c) (A_eq m c 3) (after0_3 m c) t d

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare d)
    ∗ (∃ d, owns (c : Thread nD τ) (ms0_5 m t) fullShare d))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ (∃ d, owns (c : Thread nD τ) (ms0_4 m t) fullShare d)
    ∗ (∃ d, owns (c : Thread nD τ) (ms0_5 m t) fullShare d))

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = iprop(Pipeline.ΦA spec0 c ∗ Pipeline.ΦT pre0 (tbl m) c) from rfl, PhiT0_eq, PhiA0_eq]
  iintro ⟨⟨⟨⟨HS0, HS1⟩, Hg⟩, HT⟩, Ho, ⟨%d0, H0⟩, ⟨%d1, H1⟩, ⟨%d2, H2⟩, ⟨%d3, H3⟩, ⟨%d4, H4⟩, ⟨%d5, H5⟩⟩
  iapply (bodyRun c (grid0.coords t) (ms0_0 m t) (hs0_0 m t) (ms0_1 m t) (hs0_1 m t) (ms0_2 m t) (hs0_2 m t) (ms0_3 m t) (hs0_3 m t)
    (ms0_4 m t) (hs0_4 m t) (ms0_5 m t) (hs0_5 m t) (iblk m c 0 t) (iblk m c 1 t) (iblk m c 2 t) (iblk m c 3 t) (tbl m 0) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HT]; · iexact HT
  isplitl [HS0]; · iexact HS0
  isplitl [HS1]; · iexact HS1
  iintro ⟨H0, H1, H2, H3, H4, H5, HT, HS0, HS1⟩
  isplitl [HS0 HS1 Hg HT]
  · isplitl [HS0 HS1 Hg]
    · isplitl [HS0 HS1]
      · isplitl [HS0]
        · iexact HS0
        iexact HS1
      iexact Hg
    iexact HT
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ forgets0 := fun t => by
  rw [bigSep_W0, bigSep_W0, defs₀_row m]
  exact triple_restated (sound_body m c t) rfl .rfl fun _ => .rfl

/-! ## The run and the frame -/

set_option backward.isDefEq.respectTransparency.types false in
theorem run_main : θ_run defs (onTc (τ := τ) (main (F := F))) (s₀ m ρ) (fun r => (Pipeline.RDat.FramePostR ((Pipeline.pin pcfgs fun _ => adm m) 0)
      (fun c => (dats m 0 c).toRForget forgets0) {main_v6} (V m)) r ∧ r.2.sem = fun _ => 0) :=
  Pipeline.θ_run_frameP_around_T_forget (Q' := _) pcfgs (fun _ => adm m) (dats m) (0 : Fin 1) launch0 defs₀ Variants.none forgets0 {main_v6} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hpf := V_pre m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  have rest : ∀ b : Ref sig .tc, b ∈ Pipeline.restRefs sig spec0 \ {main_v6} → b ≠ main_v0 → b ≠ main_v1 → b ≠ main_v2 → b ≠ main_v3 → b ≠ main_v4 →
      r.2.mem ((c.tc : Thread nD τ).loc b) = m ((c.tc : Thread nD τ).loc b) := fun b hb h0 h1 h2 h3 h4 =>
    ((h.1 c).2 b hb).trans (V_of_ne m c b h0 h1 h2 h3 h4)
  exact ⟨rest main_arg0 (by decide) (by decide) (by decide) (by decide) (by decide) (by decide),
    (Pipeline.RDat.FramePostR.arr_in h.1 c 1 rfl).trans ((A_eq m c 1).trans (V_of_ne m c main_arg1 (by decide) (by decide) (by decide) (by decide) (by decide))),
    rest main_arg2 (by decide) (by decide) (by decide) (by decide) (by decide) (by decide),
    rest main_arg3 (by decide) (by decide) (by decide) (by decide) (by decide) (by decide),
    rest main_arg4 (by decide) (by decide) (by decide) (by decide) (by decide) (by decide)⟩

end Cert.KernelIdeal.Hand

end
-- ==== Proof.Model.lean ====
/- The kernel's body written once per fragment: the values a token tile computes, the tile, the document (two tiles, the
   second under its guard), the epilogue of a pair of repetitions and the last point's counts, each with its number as a
   parameter, and the body as the sequence of them. `Proof.ModelEq` shows the printed body is this program. -/
module

public import proofs.«01_k».proof.Proof.Gen.KernelIdeal.Launch

@[expose] public section

noncomputable section

namespace Cert.KernelIdeal.Hand

open Cert.KernelIdeal Cert.KernelIdeal.Gen
open Idealize.ShloMosaic Idealize.SL.Sem

variable {F : FTy → Type} [FloatOps F]

/-! ## Boxes inside their arrays, the fragment's number a parameter -/

theorem slices_piece (r : ℕ) (hr : r < 10) : S160x256.Slices ![16 * r, 0] S16x256 :=
  ⟨rfl, fun a => by fin_cases a <;> simp <;> omega⟩
theorem slices_row (r : ℕ) (hr : r < 10) : S10x256.Slices ![r, 0] S1x256 :=
  ⟨rfl, fun a => by fin_cases a <;> simp <;> omega⟩
theorem slices_out4 (i h : ℕ) (hi : i ≤ 192) (hh : h < 2) : S208x256.Slices ![i, 128 * h] S16x128 :=
  ⟨rfl, fun a => by fin_cases a <;> simp <;> omega⟩
theorem slices_out2 (i : ℕ) (hi : i ≤ 96) : S112x128.Slices ![i, 0] S16x128 :=
  ⟨rfl, fun a => by fin_cases a <;> simp <;> omega⟩
theorem slices_m (x : ℕ) (hx : x < 16) : S128x128.Slices ![8 * x, 0] S8x128 :=
  ⟨rfl, fun a => by fin_cases a <;> simp <;> omega⟩
theorem slices_cnt (q : ℕ) (hq : q < 2) : S128x256.Slices ![64 * q, 0] S64x200 :=
  ⟨rfl, fun a => by fin_cases a <;> simp <;> omega⟩
theorem inb_x (b t : ℕ) (hb : b < 8) (ht : t < 2) : ∀ a, (![b, 256 * t, 0] : Fin 3 → ℕ) a + S1x256x768.size a ≤ S8x512x768.size a :=
  fun a => by fin_cases a <;> simp <;> omega
theorem inb_scale (b t : ℕ) (hb : b < 8) (ht : t < 2) : ∀ a, (![b, 256 * t] : Fin 2 → ℕ) a + S1x256.size a ≤ S8x512.size a :=
  fun a => by fin_cases a <;> simp <;> omega
theorem inb_code (b t : ℕ) (hb : b < 8) (ht : t < 2) : ∀ a, (![0, b, 256 * t] : Fin 3 → ℕ) a + S10x1x256.size a ≤ S10x8x512.size a :=
  fun a => by fin_cases a <;> simp <;> omega
theorem inb_acc (b k : ℕ) (hb : b < 8) (hk : k < 5) : ∀ a, (![b, k, 0, 0] : Fin 4 → ℕ) a + S1x1x16x128.size a ≤ S8x5x16x128.size a :=
  fun a => by fin_cases a <;> simp <;> omega
theorem inb_fde (c : ℕ) (hc : c < 80) : ∀ a, (![0, c * 128] : Fin 2 → ℕ) a + S8x128.size a ≤ S8x10240.size a :=
  fun a => by fin_cases a <;> simp <;> omega
theorem inb_cblk (k : ℕ) (hk : k < 5) : ∀ a, (![k, 0, 0] : Fin 3 → ℕ) a + S1x256x128.size a ≤ S5x256x128.size a :=
  fun a => by fin_cases a <;> simp <;> omega
theorem inb_cout (q : ℕ) (hq : q < 10) : ∀ a, (![q, 0, 0] : Fin 3 → ℕ) a + S1x64x200.size a ≤ S10x64x200.size a :=
  fun a => by fin_cases a <;> simp <;> omega

/-- The document's row in the batch, as the body computes it. -/
def rowW (i : grid0.Coords) (b : ℕ) : BitVec 32 :=
  Scalar.indexCast (Scalar.addi (Scalar.muli (BitVec.ofNat 32 (i 0).val) 8#32) (BitVec.ofNat 32 b))

theorem rowW_toNat (i : grid0.Coords) (b : ℕ) (hb : b < 8) : (rowW i b).toNat = 8 * (i 0).val + b := by
  have h : (i 0).val < 25 := (i 0).isLt
  simp only [rowW, Scalar.indexCast, Scalar.addi, Scalar.muli, IntOp.addi, IntOp.muli, BitVec.toNat_add, BitVec.toNat_mul, BitVec.toNat_ofNat]
  omega

def lenOff (i : grid0.Coords) (b : ℕ) : Fin 1 → ℕ := ![(rowW i b).toNat]
def cntOff (i : grid0.Coords) (b k : ℕ) : Fin 3 → ℕ := ![k, (rowW i b).toNat, 0]
theorem inb_len (i : grid0.Coords) (b : ℕ) (hb : b < 8) : ∀ a, lenOff i b a + S1.size a ≤ S200.size a := by
  have h : (i 0).val < 25 := (i 0).isLt
  intro a; fin_cases a; simp [lenOff, rowW_toNat i b hb]; omega
theorem inb_cnt (i : grid0.Coords) (b k : ℕ) (hb : b < 8) (hk : k < 5) :
    ∀ a, cntOff i b k a + S1x1x128.size a ≤ S5x256x128.size a := by
  have h : (i 0).val < 25 := (i 0).isLt
  intro a; fin_cases a <;> simp [cntOff, rowW_toNat i b hb] <;> omega

/-! ## What a token tile computes -/

/-- Which of tile `t`'s tokens are below the document's length `n`. -/
def valid (t : ℕ) (n : BitVec 32) : IVec S1x256 1 :=
  cmpi .slt (addi (iota .tc S1x256 32 [1] iota_S1x256_d1_w32) (broadcast S1x256 (BitVec.ofNat 32 (256 * t)))) (broadcast S1x256 n)
def scaleRow (t : ℕ) (n : BitVec 32) (vs : Vec F S1x256 .f32) : FVec F S1x256 .f32 :=
  select (valid t n) (mulf vs (broadcast S1x256 (Scalar.ofBits .f32 0x3E800000#32))) (broadcast S1x256 (Scalar.ofBits .f32 0x00000000#32))
def codeRow (t : ℕ) (n : BitVec 32) (vc : Vec F S10x1x256 .i32) : IVec S10x256 32 :=
  select (broadcastTo S10x256 (shapeCast S1x256 (valid t n) shapeCasts_S1x256_S1x256) broadcasts_S1x256_S10x256)
    (shapeCast S10x256 vc shapeCasts_S10x1x256_S10x256) (broadcast S10x256 4294967295#32)
/-- The scaled projections of the tile's tokens. -/
def proj (t : ℕ) (n : BitVec 32) (vp : FVec F S160x768 .fp8e4m3) (vs : Vec F S1x256 .f32) (vx : Vec F S1x256x768 .fp8e4m3) :
    FVec F S160x256 .f32 :=
  mulf (matmul dot_S160x768_S256x768_S160x256_1_1_0_0_n_n none vp (shapeCast S256x768 vx shapeCasts_S1x256x768_S256x768)
      (constant S160x256 .f32 0x00000000#32)) (broadcastTo S160x256 (scaleRow t n vs) broadcasts_S1x256_S160x256)
def upper (p : FVec F S160x256 .f32) : FVec F S160x256 .f32 := extf .f32 (truncf .bf16 p)
def hi (p : FVec F S160x256 .f32) : FVec F S160x256 .bf16 := truncf .bf16 (upper p) bitsLt_bf16_f32
def mid (p : FVec F S160x256 .f32) : FVec F S160x256 .bf16 := truncf .bf16 (upper (subf p (upper p))) bitsLt_bf16_f32
def lo (p : FVec F S160x256 .f32) : FVec F S160x256 .bf16 :=
  truncf .bf16 (subf (subf p (upper p)) (upper (subf p (upper p)))) bitsLt_bf16_f32
/-- The one-hot row of each token: its bucket with the low three bits turned by the document's number. -/
def rowOf (b : ℕ) (code : IVec S10x256 32) : IVec S10x256 32 :=
  addi (andi code (broadcast S10x256 4294967288#32))
    (andi (addi code (broadcast S10x256 (BitVec.ofNat 32 b))) (broadcast S10x256 7#32))
def idxOf (b : ℕ) (code : IVec S10x256 32) : IVec S10x256 32 :=
  select (cmpi .slt code (broadcast S10x256 0#32)) (broadcast S10x256 4294967295#32)
    (shrsi (rowOf b code) (broadcast S10x256 2#32))
def wordOf (b : ℕ) (code : IVec S10x256 32) : IVec S10x256 32 :=
  shli (broadcast S10x256 56#32) (shli (andi (rowOf b code) (broadcast S10x256 3#32)) (broadcast S10x256 3#32))
def piece (p : FVec F S160x256 .bf16) (r : ℕ) (hr : r < 10) : FVec F S16x256 .bf16 :=
  extractStridedSlice S16x256 ![16 * r, 0] p (slices_piece r hr)
def ones : FVec F S16x256 .bf16 := broadcast S16x256 (Scalar.ofBits .bf16 0x3F80#16)
def words (idx val : IVec S10x256 32) (r : ℕ) (hr : r < 10) : IVec S16x256 32 :=
  select (cmpi .eq (iota .tc S16x256 32 [0] iota_S16x256_d0_w32)
      (broadcastTo S16x256 (extractStridedSlice S1x256 ![r, 0] idx (slices_row r hr)) broadcasts_S1x256_S16x256))
    (broadcastTo S16x256 (shapeCast S1x256 (extractStridedSlice S1x256 ![r, 0] val (slices_row r hr)) shapeCasts_S1x256_S1x256)
      broadcasts_S1x256_S16x256)
    (broadcast S16x256 0#32)

def lhs4 (p : FVec F S160x256 .f32) (r : ℕ) (hr : r + 3 < 10) : FVec F S208x256 .bf16 :=
  concatenate S208x256 0 [⟨S16x256, piece (hi p) r (by omega)⟩, ⟨S16x256, piece (mid p) r (by omega)⟩, ⟨S16x256, piece (lo p) r (by omega)⟩,
    ⟨S16x256, piece (hi p) (r + 1) (by omega)⟩, ⟨S16x256, piece (mid p) (r + 1) (by omega)⟩, ⟨S16x256, piece (lo p) (r + 1) (by omega)⟩,
    ⟨S16x256, piece (hi p) (r + 2) (by omega)⟩, ⟨S16x256, piece (mid p) (r + 2) (by omega)⟩, ⟨S16x256, piece (lo p) (r + 2) (by omega)⟩,
    ⟨S16x256, piece (hi p) (r + 3) (by omega)⟩, ⟨S16x256, piece (mid p) (r + 3) (by omega)⟩, ⟨S16x256, piece (lo p) (r + 3) (by omega)⟩,
    ⟨S16x256, ones⟩]
    concatenates_S16x256_S16x256_S16x256_S16x256_S16x256_S16x256_S16x256_S16x256_S16x256_S16x256_S16x256_S16x256_S16x256_S208x256_d0
def oneHot4 (idx val : IVec S10x256 32) (r : ℕ) (hr : r + 3 < 10) : FVec F S256x256 .fp8e4m3 :=
  bitcastToFloat .fp8e4m3 (bitcast S256x256 8 (concatenate S64x256 0 [⟨S16x256, words idx val r (by omega)⟩,
    ⟨S16x256, words idx val (r + 1) (by omega)⟩, ⟨S16x256, words idx val (r + 2) (by omega)⟩, ⟨S16x256, words idx val (r + 3) (by omega)⟩]
    concatenates_S16x256_S16x256_S16x256_S16x256_S64x256_d0) bitcasts_S64x256_w32_S256x256_w8)
/-- Four repetitions' sums (each in three pieces) and counts at once. -/
def out4 (p : FVec F S160x256 .f32) (idx val : IVec S10x256 32) (r : ℕ) (hr : r + 3 < 10) : FVec F S208x256 .f32 :=
  matmul dot_S208x256_S256x256_S208x256_1_1_0_0_n_n none (lhs4 p r hr) (oneHot4 idx val r hr) (constant S208x256 .f32 0x00000000#32)
def lhs2 (p : FVec F S160x256 .f32) (r : ℕ) (hr : r + 1 < 10) : FVec F S112x256 .bf16 :=
  concatenate S112x256 0 [⟨S16x256, piece (hi p) r (by omega)⟩, ⟨S16x256, piece (mid p) r (by omega)⟩, ⟨S16x256, piece (lo p) r (by omega)⟩,
    ⟨S16x256, piece (hi p) (r + 1) (by omega)⟩, ⟨S16x256, piece (mid p) (r + 1) (by omega)⟩, ⟨S16x256, piece (lo p) (r + 1) (by omega)⟩,
    ⟨S16x256, ones⟩]
    concatenates_S16x256_S16x256_S16x256_S16x256_S16x256_S16x256_S16x256_S112x256_d0
def oneHot2 (idx val : IVec S10x256 32) (r : ℕ) (hr : r + 1 < 10) : FVec F S128x256 .fp8e4m3 :=
  bitcastToFloat .fp8e4m3 (bitcast S128x256 8 (concatenate S32x256 0 [⟨S16x256, words idx val r (by omega)⟩,
    ⟨S16x256, words idx val (r + 1) (by omega)⟩]
    concatenates_S16x256_S16x256_S32x256_d0) bitcasts_S32x256_w32_S128x256_w8)
/-- Two repetitions' sums and counts. -/
def out2 (p : FVec F S160x256 .f32) (idx val : IVec S10x256 32) (r : ℕ) (hr : r + 1 < 10) : FVec F S112x128 .f32 :=
  matmul dot_S112x256_S128x256_S112x128_1_1_0_0_n_n none (lhs2 p r hr) (oneHot2 idx val r hr) (constant S112x128 .f32 0x00000000#32)

def slice4 (o : FVec F S208x256 .f32) (i h : ℕ) (hi : i ≤ 192) (hh : h < 2) : FVec F S16x128 .f32 :=
  extractStridedSlice S16x128 ![i, 128 * h] o (slices_out4 i h hi hh)
def lanes : IVec S16x128 32 := iota .tc S16x128 32 [1] iota_S16x128_d1_w32
/-- A pair of repetitions' sums: the pieces added from the lowest, the left half of the lanes the first repetition's. -/
def sum4 (o : FVec F S208x256 .f32) (h : ℕ) (hh : h < 2) : FVec F S16x128 .f32 :=
  select (cmpi .slt lanes (broadcast S16x128 64#32))
    (addf (addf (slice4 o (96 * h + 32) h (by omega) hh) (slice4 o (96 * h + 16) h (by omega) hh)) (slice4 o (96 * h) h (by omega) hh))
    (addf (addf (slice4 o (96 * h + 80) h (by omega) hh) (slice4 o (96 * h + 64) h (by omega) hh)) (slice4 o (96 * h + 48) h (by omega) hh))
def cnt4 (o : FVec F S208x256 .f32) (h : ℕ) (hh : h < 2) : FVec F S1x128 .f32 :=
  extractStridedSlice S1x128 ![0, 0] (slice4 o 192 h (by omega) hh) slices_S16x128_o0_0_S1x128
def slice2 (o : FVec F S112x128 .f32) (i : ℕ) (hi : i ≤ 96) : FVec F S16x128 .f32 :=
  extractStridedSlice S16x128 ![i, 0] o (slices_out2 i hi)
def sum2 (o : FVec F S112x128 .f32) : FVec F S16x128 .f32 :=
  select (cmpi .slt lanes (broadcast S16x128 64#32))
    (addf (addf (slice2 o 32 (by omega)) (slice2 o 16 (by omega))) (slice2 o 0 (by omega)))
    (addf (addf (slice2 o 80 (by omega)) (slice2 o 64 (by omega))) (slice2 o 48 (by omega)))
def cnt2 (o : FVec F S112x128 .f32) : FVec F S1x128 .f32 :=
  extractStridedSlice S1x128 ![0, 0] (slice2 o 96 (by omega)) slices_S16x128_o0_0_S1x128

/-! ### The epilogue -/

def low : IVec S16x128 32 := andi (iota .tc S16x128 32 [1] iota_S16x128_d1_w32) (broadcast S16x128 7#32)
/-- One step of the choice by the lane's low three bits. -/
def pickStep (r : ℕ) (a v : FVec F S16x128 .f32) : FVec F S16x128 .f32 :=
  select (cmpi .eq low (broadcast S16x128 (BitVec.ofNat 32 (r % 8)))) a v
/-- Of eight rows of sums, by the lane's low three bits, that of document `low - t`. -/
def pick (a : Fin 8 → FVec F S16x128 .f32) (t : ℕ) : FVec F S16x128 .f32 :=
  pickStep (7 + t) (a 7) (pickStep (6 + t) (a 6) (pickStep (5 + t) (a 5) (pickStep (4 + t) (a 4) (pickStep (3 + t) (a 3)
    (pickStep (2 + t) (a 2) (pickStep (1 + t) (a 1) (a 0)))))))
/-- Lanes moved down by `t` within groups of eight. -/
def unshift (t : ℕ) (v : FVec F S16x128 .f32) : FVec F S16x128 .f32 :=
  select (cmpi .slt (addi low (broadcast S16x128 (BitVec.ofNat 32 t))) (broadcast S16x128 8#32))
    (dynamicRotate 1 (BitVec.ofNat 32 (128 - t)) none v rotates_S16x128_d1) (dynamicRotate 1 (BitVec.ofNat 32 (8 - t)) none v rotates_S16x128_d1)
def turned (a : Fin 8 → FVec F S16x128 .f32) : FVec F S128x128 .f32 :=
  transpose S128x128 [1, 0] (concatenate S128x128 0 [⟨S16x128, pick a 0⟩, ⟨S16x128, unshift 1 (pick a 1)⟩, ⟨S16x128, unshift 2 (pick a 2)⟩,
    ⟨S16x128, unshift 3 (pick a 3)⟩, ⟨S16x128, unshift 4 (pick a 4)⟩, ⟨S16x128, unshift 5 (pick a 5)⟩, ⟨S16x128, unshift 6 (pick a 6)⟩,
    ⟨S16x128, unshift 7 (pick a 7)⟩] concatenates_S16x128_S16x128_S16x128_S16x128_S16x128_S16x128_S16x128_S16x128_S128x128_d0)
    transposes_S128x128_p1_0_S128x128

/-! ### The last point's counts -/

def lowRow : IVec S256x128 32 := andi (iota .tc S256x128 32 [0] iota_S256x128_d0_w32) (broadcast S256x128 7#32)
def lowLane : IVec S256x128 32 := andi (iota .tc S256x128 32 [1] iota_S256x128_d1_w32) (broadcast S256x128 7#32)
def unshiftStep (s : ℕ) (v u : FVec F S256x128 .f32) : FVec F S256x128 .f32 :=
  select (cmpi .eq lowRow (broadcast S256x128 (BitVec.ofNat 32 s)))
    (select (cmpi .slt (addi lowLane (broadcast S256x128 (BitVec.ofNat 32 s))) (broadcast S256x128 8#32))
      (dynamicRotate 1 (BitVec.ofNat 32 (128 - s)) none v rotates_S256x128_d1) (dynamicRotate 1 (BitVec.ofNat 32 (8 - s)) none v rotates_S256x128_d1)) u
/-- Each document's counts moved back, the documents along the lanes, as integers. -/
def counts (w : Vec F S1x256x128 .f32) : IVec S128x256 32 :=
  let v := shapeCast S256x128 w shapeCasts_S1x256x128_S256x128
  fptosi 32 (transpose S128x256 [1, 0] (unshiftStep 7 v (unshiftStep 6 v (unshiftStep 5 v (unshiftStep 4 v (unshiftStep 3 v (unshiftStep 2 v
    (unshiftStep 1 v v))))))) transposes_S256x128_p1_0_S128x256)

/-! ## The fragments -/

/-- A program of the body's. -/
abbrev Body (F : FTy → Type) (α : Type) : Type 1 := Prog (TpuEff nD τ sig (Elt F) Λ₀ .tc) α

section Prog

variable (i : grid0.Coords) (arg1 : Memref sig .tc .smem S200 .i32) (arg2 : Memref sig .tc .vmem S8x512x768 .fp8e4m3)
  (arg3 : Memref sig .tc .vmem S8x512 .f32) (arg4 : Memref sig .tc .vmem S10x8x512 .i32) (arg5 : Memref sig .tc .vmem S160x768 .fp8e4m3)
  (arg6 : Memref sig .tc .vmem S8x10240 .bf16) (harg6 : arg6.IsWhole) (arg7 : Memref sig .tc .vmem S10x64x200 .i32)
  (arg8 : Memref sig .tc .vmem S8x5x16x128 .f32) (arg9 : Memref sig .tc .vmem S5x256x128 .f32)

def loadAcc (b k : ℕ) (hb : b < 8) (hk : k < 5) : Body F (Vec F S1x1x16x128 .f32) :=
  Prog.lift (.load arg8 (Rect.unit (s := S8x5x16x128) ![b, k, 0, 0] S1x1x16x128.size (inb_acc b k hb hk)).toLoadRect (View.loadsAt_vmem h_S1x1x16x128))
def storeAcc (b k : ℕ) (hb : b < 8) (hk : k < 5) (v : FVec F S16x128 .f32) : Body F PUnit :=
  Prog.lift (.store arg8 (Rect.unit (s := S8x5x16x128) ![b, k, 0, 0] S1x1x16x128.size (inb_acc b k hb hk))
    (shapeCast S1x1x16x128 v shapeCasts_S16x128_S1x1x16x128) Finset.univ (View.stores_vmem_bits_univ h_S1x1x16x128 rfl) (.inl rfl))
def loadCnt (b k : ℕ) (hb : b < 8) (hk : k < 5) : Body F (Vec F S1x1x128 .f32) :=
  Prog.lift (.load arg9 (Rect.unit (s := S5x256x128) (cntOff i b k) S1x1x128.size (inb_cnt i b k hb hk)).toLoadRect (View.loadsAt_vmem h_S1x1x128))
def storeCnt (b k : ℕ) (hb : b < 8) (hk : k < 5) (v : FVec F S1x128 .f32) : Body F PUnit :=
  Prog.lift (.store arg9 (Rect.unit (s := S5x256x128) (cntOff i b k) S1x1x128.size (inb_cnt i b k hb hk))
    (shapeCast S1x1x128 v shapeCasts_S1x128_S1x1x128) Finset.univ (View.stores_vmem_bits_univ h_S1x1x128 rfl) (.inl rfl))

/-- The first tile's result of a pair of repetitions, put down. -/
def put (b k : ℕ) (hb : b < 8) (hk : k < 5) (s : FVec F S16x128 .f32) (n : FVec F S1x128 .f32) : Body F PUnit := do
  let _ ← loadAcc arg8 b k hb hk
  storeAcc arg8 b k hb hk s
  let _ ← loadCnt i arg9 b k hb hk
  storeCnt i arg9 b k hb hk n

/-- The second tile's result of a pair of repetitions, added on. -/
def add (b k : ℕ) (hb : b < 8) (hk : k < 5) (s : FVec F S16x128 .f32) (n : FVec F S1x128 .f32) : Body F PUnit := do
  let v ← loadAcc arg8 b k hb hk
  let _ ← loadAcc arg8 b k hb hk
  storeAcc arg8 b k hb hk (addf (shapeCast S16x128 v shapeCasts_S1x1x16x128_S16x128) s)
  let w ← loadCnt i arg9 b k hb hk
  let _ ← loadCnt i arg9 b k hb hk
  storeCnt i arg9 b k hb hk (addf (shapeCast S1x128 w shapeCasts_S1x1x128_S1x128) n)

def loadLen (b : ℕ) (hb : b < 8) : Body F (Elt F .i32) :=
  smemLoad arg1 (Rect.unit (s := S200) (lenOff i b) S1.size (inb_len i b hb)) numel1_S1 rfl
def loadScale (b t : ℕ) (hb : b < 8) (ht : t < 2) : Body F (Vec F S1x256 .f32) :=
  Prog.lift (.load arg3 (Rect.unit (s := S8x512) ![b, 256 * t] S1x256.size (inb_scale b t hb ht)).toLoadRect (View.loadsAt_vmem h_S1x256))
def loadCode (b t : ℕ) (hb : b < 8) (ht : t < 2) : Body F (Vec F S10x1x256 .i32) :=
  Prog.lift (.load arg4 (Rect.unit (s := S10x8x512) ![0, b, 256 * t] S10x1x256.size (inb_code b t hb ht)).toLoadRect (View.loadsAt_vmem h_S10x1x256))
def loadX (b t : ℕ) (hb : b < 8) (ht : t < 2) : Body F (Vec F S1x256x768 .fp8e4m3) :=
  Prog.lift (.load arg2 (Rect.unit (s := S8x512x768) ![b, 256 * t, 0] S1x256x768.size (inb_x b t hb ht)).toLoadRect (View.loadsAt_vmem h_S1x256x768))

/-- The scaled projections and the codes of tile `t` of document `b`, and what `f` does with each pair's sums and counts. -/
def tile (b t : ℕ) (hb : b < 8) (ht : t < 2) (n : BitVec 32) (vp : FVec F S160x768 .fp8e4m3)
    (f : (k : ℕ) → k < 5 → FVec F S16x128 .f32 → FVec F S1x128 .f32 → Body F PUnit) : Body F PUnit := do
  let vs ← loadScale arg3 b t hb ht
  let vc ← loadCode arg4 b t hb ht
  let vx ← loadX arg2 b t hb ht
  let p := proj t n vp vs vx
  let idx := idxOf b (codeRow t n vc)
  let val := wordOf b (codeRow t n vc)
  f 0 (by omega) (sum4 (out4 p idx val 0 (by omega)) 0 (by omega)) (cnt4 (out4 p idx val 0 (by omega)) 0 (by omega))
  f 1 (by omega) (sum4 (out4 p idx val 0 (by omega)) 1 (by omega)) (cnt4 (out4 p idx val 0 (by omega)) 1 (by omega))
  f 2 (by omega) (sum4 (out4 p idx val 4 (by omega)) 0 (by omega)) (cnt4 (out4 p idx val 4 (by omega)) 0 (by omega))
  f 3 (by omega) (sum4 (out4 p idx val 4 (by omega)) 1 (by omega)) (cnt4 (out4 p idx val 4 (by omega)) 1 (by omega))
  f 4 (by omega) (sum2 (out2 p idx val 8 (by omega))) (cnt2 (out2 p idx val 8 (by omega)))

/-- Document `b` of the point: its first tile, and its second if it reaches there. -/
def doc (vp : FVec F S160x768 .fp8e4m3) (b : ℕ) (hb : b < 8) : Body F PUnit := do
  let n ← loadLen i arg1 b hb
  tile arg2 arg3 arg4 b 0 hb (by omega) n vp (fun k hk s c => put i arg8 arg9 b k hb hk s c)
  if (Scalar.cmpi .ne (Scalar.extui (Scalar.cmpi .sgt n 256#32)) 0#32 : BitVec 1) = 1#1 then
    tile arg2 arg3 arg4 b 1 hb (by omega) n vp (fun k hk s c => add i arg8 arg9 b k hb hk s c)
  else pure ⟨⟩

/-- The `n` first documents of the point. -/
def docs (vp : FVec F S160x768 .fp8e4m3) : (n : ℕ) → n ≤ 8 → Body F PUnit
  | 0, _ => pure ⟨⟩
  | n + 1, h => do
    docs vp n (by omega)
    doc i arg1 arg2 arg3 arg4 arg8 arg9 vp n (by omega)

theorem packed_fde (c : ℕ) (hc : c < 80) :
    (Rect.unit (s := S8x10240) ![0, c * 128] S8x128.size (inb_fde c hc)).PackedRows (EltTy.packing .bf16) := by
  have h2 : 2 ≤ S8x10240.rank := by decide
  exact Or.inr ⟨h2, rfl, Or.inl ⟨Nat.dvd_zero _, (by decide : EltTy.packing .bf16 ∣ 8)⟩⟩

/-- Block `x` of a pair's result, into its place of the point's rows. -/
def putFde (k : ℕ) (hk : k < 5) (m : FVec F S128x128 .f32) (x : ℕ) (hx : x < 16) : Body F PUnit := do
  let _ ← Prog.lift (.load arg6 (Rect.unit (s := S8x10240) ![0, (16 * k + x) * 128] S8x128.size (inb_fde (16 * k + x) (by omega))).toLoadRect (View.loadsAt_vmem h_S8x128))
  Prog.lift (.store arg6 (Rect.unit (s := S8x10240) ![0, (16 * k + x) * 128] S8x128.size (inb_fde (16 * k + x) (by omega)))
    (truncf .bf16 (extractStridedSlice S8x128 ![8 * x, 0] m (slices_m x hx)) bitsLt_bf16_f32) Finset.univ
    (View.stores_vmem h_S8x128 (harg6.storeExact_slice rfl _ (packed_fde (16 * k + x) (by omega))) (fun _ => rfl)) (.inl rfl))

/-- The first `n` blocks. -/
def putFdes (k : ℕ) (hk : k < 5) (m : FVec F S128x128 .f32) : (n : ℕ) → n ≤ 16 → Body F PUnit
  | 0, _ => pure ⟨⟩
  | n + 1, h => do
    putFdes k hk m n (by omega)
    putFde arg6 harg6 k hk m n (by omega)

/-- The epilogue of pair `k` of repetitions. -/
def epi (k : ℕ) (hk : k < 5) : Body F PUnit := do
  let a0 ← loadAcc arg8 0 k (by omega) hk
  let a1 ← loadAcc arg8 1 k (by omega) hk
  let a2 ← loadAcc arg8 2 k (by omega) hk
  let a3 ← loadAcc arg8 3 k (by omega) hk
  let a4 ← loadAcc arg8 4 k (by omega) hk
  let a5 ← loadAcc arg8 5 k (by omega) hk
  let a6 ← loadAcc arg8 6 k (by omega) hk
  let a7 ← loadAcc arg8 7 k (by omega) hk
  putFdes arg6 harg6 k hk (turned fun b => shapeCast S16x128 (![a0, a1, a2, a3, a4, a5, a6, a7] b) shapeCasts_S1x1x16x128_S16x128) 16 (by omega)

def epis : (n : ℕ) → n ≤ 5 → Body F PUnit
  | 0, _ => pure ⟨⟩
  | n + 1, h => do
    epis n (by omega)
    epi arg6 harg6 arg8 n (by omega)

/-- One repetition's counts, written. -/
def putCnt (k : ℕ) (hk : k < 5) (q : ℕ) (hq : q < 2) (u : IVec S128x256 32) : Body F PUnit := do
  let _ ← Prog.lift (.load arg7 (Rect.unit (s := S10x64x200) ![2 * k + q, 0, 0] S1x64x200.size (inb_cout (2 * k + q) (by omega))).toLoadRect (View.loadsAt_vmem h_S1x64x200))
  Prog.lift (.store arg7 (Rect.unit (s := S10x64x200) ![2 * k + q, 0, 0] S1x64x200.size (inb_cout (2 * k + q) (by omega)))
    (shapeCast S1x64x200 (extractStridedSlice S64x200 ![64 * q, 0] u (slices_cnt q hq)) shapeCasts_S64x200_S1x64x200) Finset.univ
    (View.stores_vmem_bits_univ h_S1x64x200 rfl) (.inl rfl))

/-- The counts of pair `k` of repetitions. -/
def cnt (k : ℕ) (hk : k < 5) : Body F PUnit := do
  let w ← Prog.lift (.load arg9 (Rect.unit (s := S5x256x128) ![k, 0, 0] S1x256x128.size (inb_cblk k hk)).toLoadRect (View.loadsAt_vmem h_S1x256x128))
  putCnt arg7 k hk 0 (by omega) (counts w)
  putCnt arg7 k hk 1 (by omega) (counts w)

def cnts : (n : ℕ) → n ≤ 5 → Body F PUnit
  | 0, _ => pure ⟨⟩
  | n + 1, h => do
    cnts n (by omega)
    cnt arg7 arg9 n (by omega)

/-- The body: the projections, the eight documents, the five pairs' epilogues, and at the last point the counts. -/
def body : Body F PUnit := do
  let v ← Prog.lift (.load arg5 (Rect.unit (s := S160x768) ![0, 0] S160x768.size inb_S160x768_S160x768_0_0).toLoadRect (View.loadsAt_vmem h_S160x768))
  docs i arg1 arg2 arg3 arg4 arg8 arg9 (shapeCast S160x768 v shapeCasts_S160x768_S160x768) 8 (by omega)
  epis arg6 harg6 arg8 5 (by omega)
  if _ : k0_cond9 i = 1#1 then
    cnts arg7 arg9 5 (by omega)
  else pure ⟨⟩
  pure ⟨⟩

end Prog

end Cert.KernelIdeal.Hand

end
-- ==== Proof.ModelEq.lean ====
/- The printed body is the fragments in sequence. The printer cuts the body into windows of sixty statements; the cut falls
   inside a document, so after each document's guard the window goes on (`J`) and the windows that follow take it up (`R`).
   Each document's stretch of the windows is the document's fragment by unfolding, the joint after the guard by
   the monad's associativity. -/
module

public import proofs.«01_k».proof.Proof.Model
public import Idealize.ShloMosaic.Lib.Pipeline.Regions

@[expose] public section

noncomputable section

namespace Cert.KernelIdeal.Hand

open Cert.KernelIdeal Cert.KernelIdeal.Gen
open Idealize.ShloMosaic Idealize.SL.Sem

variable {F : FTy → Type} [FloatOps F]

section

variable (i : grid0.Coords) (arg1 : Memref sig .tc .smem S200 .i32) (harg1 : arg1.IsWhole)
    (arg2 : Memref sig .tc .vmem S8x512x768 .fp8e4m3) (harg2 : arg2.IsWhole) (arg3 : Memref sig .tc .vmem S8x512 .f32) (harg3 : arg3.IsWhole)
    (arg4 : Memref sig .tc .vmem S10x8x512 .i32) (harg4 : arg4.IsWhole) (arg5 : Memref sig .tc .vmem S160x768 .fp8e4m3) (harg5 : arg5.IsWhole)
    (arg6 : Memref sig .tc .vmem S8x10240 .bf16) (harg6 : arg6.IsWhole) (arg7 : Memref sig .tc .vmem S10x64x200 .i32) (harg7 : arg7.IsWhole)
    (arg8 : Memref sig .tc .vmem S8x5x16x128 .f32) (harg8 : arg8.IsWhole) (arg9 : Memref sig .tc .vmem S5x256x128 .f32) (harg9 : arg9.IsWhole)

/-- A document with what its window goes on with in both branches of the guard. -/
def docThen {β : Type} (vp : FVec F S160x768 .fp8e4m3) (b : ℕ) (hb : b < 8) (J : Body F β) : Body F β := do
  let n ← loadLen i arg1 b hb
  tile arg2 arg3 arg4 b 0 hb (by omega) n vp (fun k hk s c => put i arg8 arg9 b k hb hk s c)
  if (Scalar.cmpi .ne (Scalar.extui (Scalar.cmpi .sgt n 256#32)) 0#32 : BitVec 1) = 1#1 then do
    tile arg2 arg3 arg4 b 1 hb (by omega) n vp (fun k hk s c => add i arg8 arg9 b k hb hk s c)
    J
  else J

theorem bassoc {α β γ : Type} (p : Body F α) (f : α → Body F β) (g : β → Body F γ) :
    (p.bind f).bind g = p.bind fun a => (f a).bind g := Prog.bind_assoc p f g
theorem bret {α β : Type} (a : α) (f : α → Body F β) : (Prog.ret a : Body F α).bind f = f a := rfl

theorem docThen_eq {β γ : Type} (vp : FVec F S160x768 .fp8e4m3) (b : ℕ) (hb : b < 8) (J : Body F β) (R : β → Body F γ) :
    (docThen i arg1 arg2 arg3 arg4 arg8 arg9 vp b hb J).bind R = (doc i arg1 arg2 arg3 arg4 arg8 arg9 vp b hb).bind fun _ => J.bind R := by
  have h : docThen i arg1 arg2 arg3 arg4 arg8 arg9 vp b hb J = (doc i arg1 arg2 arg3 arg4 arg8 arg9 vp b hb).bind fun _ => J := by
    unfold docThen doc
    simp only [Bind.bind, bassoc]
    refine congrArg (Prog.bind _) (funext fun n => congrArg (Prog.bind _) (funext fun _ => ?_))
    by_cases hc : (Scalar.cmpi .ne (Scalar.extui (Scalar.cmpi .sgt n 256#32)) 0#32 : BitVec 1) = 1#1
    · rw [if_pos hc, if_pos hc]
    · rw [if_neg hc, if_neg hc]; rfl
  rw [h, bassoc]

/-- After document 0: document 1's length, scales and codes, read. -/
def J0 : Body F (Σ' (_ : Elt F .i32) (_ : FVec F S1x256 .f32) (_ : IVec S10x256 32) (_ : IVec S10x256 1), IVec S10x256 32) := do
  let n ← loadLen i arg1 1 (by omega)
  let vs ← loadScale arg3 1 0 (by omega) (by omega)
  let vc ← loadCode arg4 1 0 (by omega) (by omega)
  pure ⟨n, scaleRow 0 n vs, shapeCast S10x256 vc shapeCasts_S10x1x256_S10x256,
    broadcastTo S10x256 (shapeCast S1x256 (valid 0 n) shapeCasts_S1x256_S1x256) broadcasts_S1x256_S10x256, broadcast S10x256 4294967295#32⟩
def J1 : Body F PUnit := pure ⟨⟩
def J2 (v1 : FVec F S160x768 .fp8e4m3) : Body F (Σ' (_ : Elt F .i32) (_ : IVec S10x256 32), FVec F S160x256 .f32) := do
  let n ← loadLen i arg1 3 (by omega)
  let vs ← loadScale arg3 3 0 (by omega) (by omega)
  let vc ← loadCode arg4 3 0 (by omega) (by omega)
  let vx ← loadX arg2 3 0 (by omega) (by omega)
  pure ⟨n, codeRow 0 n vc, proj 0 n v1 vs vx⟩
def J3 : Body F (Σ' (_ : Elt F .i32) (_ : IVec S1x256 1), Vec F S1x256 .f32) := do
  let n ← loadLen i arg1 4 (by omega)
  let vs ← loadScale arg3 4 0 (by omega) (by omega)
  pure ⟨n, valid 0 n, vs⟩
/-- What the first two pieces leave. -/
def rest (p : FVec F S160x256 .f32) : FVec F S160x256 .f32 := subf (subf p (upper p)) (upper (subf p (upper p)))
def J4 (v1 : FVec F S160x768 .fp8e4m3) : Body F (Σ' (_ : Elt F .i32) (_ : IVec S10x256 32) (_ : FVec F S160x256 .f32)
    (_ : FVec F S160x256 .bf16), FVec F S160x256 .bf16) := do
  let n ← loadLen i arg1 5 (by omega)
  let vs ← loadScale arg3 5 0 (by omega) (by omega)
  let vc ← loadCode arg4 5 0 (by omega) (by omega)
  let vx ← loadX arg2 5 0 (by omega) (by omega)
  pure ⟨n, codeRow 0 n vc, rest (proj 0 n v1 vs vx), hi (proj 0 n v1 vs vx), mid (proj 0 n v1 vs vx)⟩
def J5 : Body F (Σ' (_ : Elt F .i32) (_ : IVec S1x256 1) (_ : FVec F S1x256 .f32), Vec F S10x1x256 .i32) := do
  let n ← loadLen i arg1 6 (by omega)
  let vs ← loadScale arg3 6 0 (by omega) (by omega)
  let vc ← loadCode arg4 6 0 (by omega) (by omega)
  pure ⟨n, valid 0 n, scaleRow 0 n vs, vc⟩
def J6 : Body F PUnit := pure ⟨⟩
/-- After the last document: the first pair's sums of five documents, read. -/
def J7 : Body F (Σ' (_ : IVec S16x128 32) (_ : FVec F S16x128 .f32) (_ : FVec F S16x128 .f32) (_ : FVec F S16x128 .f32)
    (_ : FVec F S16x128 .f32), FVec F S16x128 .f32) := do
  let a0 ← loadAcc arg8 0 0 (by omega) (by omega)
  let a1 ← loadAcc arg8 1 0 (by omega) (by omega)
  let a2 ← loadAcc arg8 2 0 (by omega) (by omega)
  let a3 ← loadAcc arg8 3 0 (by omega) (by omega)
  let a4 ← loadAcc arg8 4 0 (by omega) (by omega)
  pure ⟨low, shapeCast S16x128 a0 shapeCasts_S1x1x16x128_S16x128, shapeCast S16x128 a1 shapeCasts_S1x1x16x128_S16x128,
    shapeCast S16x128 a2 shapeCasts_S1x1x16x128_S16x128, shapeCast S16x128 a3 shapeCasts_S1x1x16x128_S16x128,
    shapeCast S16x128 a4 shapeCasts_S1x1x16x128_S16x128⟩

def R7 (arg0 : BitVec 32) (v1 : FVec F S160x768 .fp8e4m3) : (Σ' (_ : IVec S16x128 32) (_ : FVec F S16x128 .f32) (_ : FVec F S16x128 .f32) (_ : FVec F S16x128 .f32)
    (_ : FVec F S16x128 .f32), FVec F S16x128 .f32) → Body F (Σ' (_ : BitVec 32) (_ : IVec S16x128 32) (_ : FVec F S16x128 .f32) (_ : FVec F S16x128 .f32) (_ : FVec F S16x128 .f32) (_ : FVec F S16x128 .f32)
    (_ : FVec F S16x128 .f32) (_ : FVec F S16x128 .f32) (_ : FVec F S16x128 .f32) (_ : FVec F S16x128 .f32), FVec F S16x128 .f32) := fun ⟨v2396, v2398, v2400, v2402, v2404, v2406⟩ => do
  let ⟨v2408, v2410, v2412, v2433, v2442, v2444⟩ ← k0_part119 i arg1 harg1 arg2 harg2 arg3 harg3 arg4 harg4 arg5 harg5 arg6 harg6 arg7 harg7 arg8 harg8 arg9 harg9 v2396 v2398 v2400 v2402 v2404 v2406
  let ⟨v2461, v2482, v2486, v2487⟩ ← k0_part120 i arg1 harg1 arg2 harg2 arg3 harg3 arg4 harg4 arg5 harg5 arg6 harg6 arg7 harg7 arg8 harg8 arg9 harg9 v2396 v2398 v2400 v2402 v2404 v2406 v2408 v2410 v2412 v2442 v2444
  let ⟨v2489, v2517, v2529, v2530⟩ ← k0_part121 i arg1 harg1 arg2 harg2 arg3 harg3 arg4 harg4 arg5 harg5 arg6 harg6 arg7 harg7 arg8 harg8 arg9 harg9 v2396 v2398 v2400 v2402 v2404 v2406 v2408 v2410 v2412 v2482 v2486 v2487
  let ⟨v2545, v2573⟩ ← k0_part122 i arg1 harg1 arg2 harg2 arg3 harg3 arg4 harg4 arg5 harg5 arg6 harg6 arg7 harg7 arg8 harg8 arg9 harg9 v2396 v2398 v2400 v2402 v2404 v2406 v2408 v2410 v2412 v2529 v2530
  let ⟨v2601, v2616, c5_i32_715⟩ ← k0_part123 i arg1 harg1 arg2 harg2 arg3 harg3 arg4 harg4 arg5 harg5 arg6 harg6 arg7 harg7 arg8 harg8 arg9 harg9 v2396 v2398 v2400 v2402 v2404 v2406 v2408 v2410 v2412
  let ⟨v2631, v2651⟩ ← k0_part124 i arg1 harg1 arg2 harg2 arg3 harg3 arg4 harg4 arg5 harg5 arg6 harg6 arg7 harg7 arg8 harg8 arg9 harg9 v2396 v2410 v2412 v2433 v2461 v2489 v2517 v2545 v2573 v2601 v2616 c5_i32_715
  k0_part125 i arg1 harg1 arg2 harg2 arg3 harg3 arg4 harg4 arg5 harg5 arg6 harg6 arg7 harg7 arg8 harg8 arg9 harg9 v2631 v2651
  let ⟨v2681, v2683, v2685, v2687, v2689, v2691, v2693, v2695, v2707⟩ ← k0_part126 i arg1 harg1 arg2 harg2 arg3 harg3 arg4 harg4 arg5 harg5 arg6 harg6 arg7 harg7 arg8 harg8 arg9 harg9 v2396
  pure ⟨arg0, v2396, v2681, v2683, v2685, v2687, v2689, v2691, v2693, v2695, v2707⟩

def R6 (arg0 : BitVec 32) (v1 : FVec F S160x768 .fp8e4m3) : PUnit → Body F (Σ' (_ : BitVec 32) (_ : IVec S16x128 32) (_ : FVec F S16x128 .f32) (_ : FVec F S16x128 .f32) (_ : FVec F S16x128 .f32) (_ : FVec F S16x128 .f32)
    (_ : FVec F S16x128 .f32) (_ : FVec F S16x128 .f32) (_ : FVec F S16x128 .f32) (_ : FVec F S16x128 .f32), FVec F S16x128 .f32) := fun ⟨⟩ => do
  let ⟨v2098, v2114, v2130, v2131, v2132, v2134, v2138⟩ ← k0_part112 i arg1 harg1 arg2 harg2 arg3 harg3 arg4 harg4 arg5 harg5 arg6 harg6 arg7 harg7 arg8 harg8 arg9 harg9 arg0 v1
  let ⟨v2145, v2151, v2152, v2153, v2166, v2167, v2175, v2183, v2186, c0_i32_560, v2188⟩ ← k0_part113 i arg1 harg1 arg2 harg2 arg3 harg3 arg4 harg4 arg5 harg5 arg6 harg6 arg7 harg7 arg8 harg8 arg9 harg9 v2114 v2130 v2131 v2132 v2134 v2138
  let ⟨v2215, v2217, v2230, v2232, v2233, v2234, v2235, v2236, v2237, v2238, v2239, v2240, v2241, v2242, v2243, v2244⟩ ← k0_part114 i arg1 harg1 arg2 harg2 arg3 harg3 arg4 harg4 arg5 harg5 arg6 harg6 arg7 harg7 arg8 harg8 arg9 harg9 v2130 v2131 v2132 v2145 v2151 v2153 v2166 v2167 v2175 v2183 v2186 c0_i32_560 v2188
  let ⟨v2281, v2294, v2296, v2297, v2298⟩ ← k0_part115 i arg1 harg1 arg2 harg2 arg3 harg3 arg4 harg4 arg5 harg5 arg6 harg6 arg7 harg7 arg8 harg8 arg9 harg9 v2145 v2151 v2152 v2153 v2233 v2234 v2235 v2236 v2237 v2238 v2239 v2240 v2241 v2242 v2243 v2244
  let ⟨v2309, v2311, v2351, v2353⟩ ← k0_part116 i arg1 harg1 arg2 harg2 arg3 harg3 arg4 harg4 arg5 harg5 arg6 harg6 arg7 harg7 arg8 harg8 arg9 harg9 v2130 v2131 v2132 v2145 v2151 v2152 v2153 v2281 v2297 v2298
  let v2355 ← k0_part117 i arg1 harg1 arg2 harg2 arg3 harg3 arg4 harg4 arg5 harg5 arg6 harg6 arg7 harg7 arg8 harg8 arg9 harg9 arg0 v2215 v2217 v2230 v2232 v2294 v2296 v2309
  let t ← k0_part118 i arg1 harg1 arg2 harg2 arg3 harg3 arg4 harg4 arg5 harg5 arg6 harg6 arg7 harg7 arg8 harg8 arg9 harg9 arg0 v1 v2098 v2311 v2351 v2353 v2355
  R7 i arg1 harg1 arg2 harg2 arg3 harg3 arg4 harg4 arg5 harg5 arg6 harg6 arg7 harg7 arg8 harg8 arg9 harg9 arg0 v1 t

def R5 (arg0 : BitVec 32) (v1 : FVec F S160x768 .fp8e4m3) : (Σ' (_ : Elt F .i32) (_ : IVec S1x256 1) (_ : FVec F S1x256 .f32), Vec F S10x1x256 .i32) → Body F (Σ' (_ : BitVec 32) (_ : IVec S16x128 32) (_ : FVec F S16x128 .f32) (_ : FVec F S16x128 .f32) (_ : FVec F S16x128 .f32) (_ : FVec F S16x128 .f32)
    (_ : FVec F S16x128 .f32) (_ : FVec F S16x128 .f32) (_ : FVec F S16x128 .f32) (_ : FVec F S16x128 .f32), FVec F S16x128 .f32) := fun ⟨v1799, v1804, v1809, v1810⟩ => do
  let ⟨v1831, v1832, v1833, v1846, v1852, v1853, v1854, v1855, v1856, v1857⟩ ← k0_part106 i arg1 harg1 arg2 harg2 arg3 harg3 arg4 harg4 arg5 harg5 arg6 harg6 arg7 harg7 arg8 harg8 arg9 harg9 v1 v1804 v1809 v1810
  let ⟨v1903, v1908, v1909, v1912⟩ ← k0_part107 i arg1 harg1 arg2 harg2 arg3 harg3 arg4 harg4 arg5 harg5 arg6 harg6 arg7 harg7 arg8 harg8 arg9 harg9 v1831 v1832 v1833 v1846 v1852 v1853 v1855 v1856 v1857
  let ⟨v1916, v1918, v1931, v1933, v1946, v1947, v1955, v1963, v1966, v1967, c0_i32_489⟩ ← k0_part108 i arg1 harg1 arg2 harg2 arg3 harg3 arg4 harg4 arg5 harg5 arg6 harg6 arg7 harg7 arg8 harg8 arg9 harg9 v1831 v1832 v1833 v1846 v1852 v1853 v1854 v1903 v1908 v1909 v1912
  let ⟨v1995, v1997, v2010, v2012, v2019, v2020, v2023⟩ ← k0_part109 i arg1 harg1 arg2 harg2 arg3 harg3 arg4 harg4 arg5 harg5 arg6 harg6 arg7 harg7 arg8 harg8 arg9 harg9 v1831 v1832 v1833 v1846 v1852 v1853 v1854 v1946 v1947 v1955 v1963 v1966 v1967 c0_i32_489
  let ⟨v2052, v2054, v2056⟩ ← k0_part110 i arg1 harg1 arg2 harg2 arg3 harg3 arg4 harg4 arg5 harg5 arg6 harg6 arg7 harg7 arg8 harg8 arg9 harg9 arg0 v1846 v1852 v1854 v1916 v1918 v2019 v2020 v2023
  let t ← k0_part111 i arg1 harg1 arg2 harg2 arg3 harg3 arg4 harg4 arg5 harg5 arg6 harg6 arg7 harg7 arg8 harg8 arg9 harg9 arg0 v1 v1799 v1931 v1933 v1995 v1997 v2010 v2012 v2052 v2054 v2056
  R6 i arg1 harg1 arg2 harg2 arg3 harg3 arg4 harg4 arg5 harg5 arg6 harg6 arg7 harg7 arg8 harg8 arg9 harg9 arg0 v1 t

def R4 (arg0 : BitVec 32) (v1 : FVec F S160x768 .fp8e4m3) : (Σ' (_ : Elt F .i32) (_ : IVec S10x256 32) (_ : FVec F S160x256 .f32)
    (_ : FVec F S160x256 .bf16), FVec F S160x256 .bf16) → Body F (Σ' (_ : BitVec 32) (_ : IVec S16x128 32) (_ : FVec F S16x128 .f32) (_ : FVec F S16x128 .f32) (_ : FVec F S16x128 .f32) (_ : FVec F S16x128 .f32)
    (_ : FVec F S16x128 .f32) (_ : FVec F S16x128 .f32) (_ : FVec F S16x128 .f32) (_ : FVec F S16x128 .f32), FVec F S16x128 .f32) := fun ⟨v1500, v1516, v1531, v1532, v1533⟩ => do
  let ⟨v1534, v1547, v1553, v1554, v1555, v1568, v1569, v1577, v1580, v1581, c0_i32_404⟩ ← k0_part100 i arg1 harg1 arg2 harg2 arg3 harg3 arg4 harg4 arg5 harg5 arg6 harg6 arg7 harg7 arg8 harg8 arg9 harg9 v1516 v1531 v1532 v1533
  let ⟨v1617, v1619, v1632, v1634, v1635, v1636⟩ ← k0_part101 i arg1 harg1 arg2 harg2 arg3 harg3 arg4 harg4 arg5 harg5 arg6 harg6 arg7 harg7 arg8 harg8 arg9 harg9 v1532 v1533 v1547 v1553 v1555 v1568 v1569 v1577 v1580 v1581 c0_i32_404
  let ⟨v1683, v1688, v1689, v1690, v1691⟩ ← k0_part102 i arg1 harg1 arg2 harg2 arg3 harg3 arg4 harg4 arg5 harg5 arg6 harg6 arg7 harg7 arg8 harg8 arg9 harg9 v1532 v1533 v1534 v1547 v1553 v1554 v1635 v1636
  let ⟨v1696, v1698, v1711, v1713, v1740, v1745, v1746⟩ ← k0_part103 i arg1 harg1 arg2 harg2 arg3 harg3 arg4 harg4 arg5 harg5 arg6 harg6 arg7 harg7 arg8 harg8 arg9 harg9 v1532 v1533 v1534 v1547 v1553 v1554 v1555 v1683 v1688 v1689 v1690 v1691
  let ⟨v1753, v1755, v1757⟩ ← k0_part104 i arg1 harg1 arg2 harg2 arg3 harg3 arg4 harg4 arg5 harg5 arg6 harg6 arg7 harg7 arg8 harg8 arg9 harg9 arg0 v1555 v1617 v1619 v1632 v1634 v1696 v1698 v1740 v1745 v1746
  let t ← k0_part105 i arg1 harg1 arg2 harg2 arg3 harg3 arg4 harg4 arg5 harg5 arg6 harg6 arg7 harg7 arg8 harg8 arg9 harg9 arg0 v1 v1500 v1711 v1713 v1753 v1755 v1757
  R5 i arg1 harg1 arg2 harg2 arg3 harg3 arg4 harg4 arg5 harg5 arg6 harg6 arg7 harg7 arg8 harg8 arg9 harg9 arg0 v1 t

def R3 (arg0 : BitVec 32) (v1 : FVec F S160x768 .fp8e4m3) : (Σ' (_ : Elt F .i32) (_ : IVec S1x256 1), Vec F S1x256 .f32) → Body F (Σ' (_ : BitVec 32) (_ : IVec S16x128 32) (_ : FVec F S16x128 .f32) (_ : FVec F S16x128 .f32) (_ : FVec F S16x128 .f32) (_ : FVec F S16x128 .f32)
    (_ : FVec F S16x128 .f32) (_ : FVec F S16x128 .f32) (_ : FVec F S16x128 .f32) (_ : FVec F S16x128 .f32), FVec F S16x128 .f32) := fun ⟨v1201, v1206, v1207⟩ => do
  let ⟨v1233, v1234, v1235, v1248, v1250, v1251⟩ ← k0_part93 i arg1 harg1 arg2 harg2 arg3 harg3 arg4 harg4 arg5 harg5 arg6 harg6 arg7 harg7 arg8 harg8 arg9 harg9 v1 v1206 v1207
  let ⟨v1254, v1255, v1256, v1269, v1304, cst_330⟩ ← k0_part94 i arg1 harg1 arg2 harg2 arg3 harg3 arg4 harg4 arg5 harg5 arg6 harg6 arg7 harg7 arg8 harg8 arg9 harg9 v1233 v1234 v1235 v1248 v1250 v1251
  let ⟨v1318, v1320, v1333, v1335, v1348, v1349, v1357, v1360, v1361⟩ ← k0_part95 i arg1 harg1 arg2 harg2 arg3 harg3 arg4 harg4 arg5 harg5 arg6 harg6 arg7 harg7 arg8 harg8 arg9 harg9 v1233 v1234 v1235 v1248 v1254 v1255 v1256 v1269 v1304 cst_330
  let ⟨v1397, v1399, v1412, v1414, v1415⟩ ← k0_part96 i arg1 harg1 arg2 harg2 arg3 harg3 arg4 harg4 arg5 harg5 arg6 harg6 arg7 harg7 arg8 harg8 arg9 harg9 v1233 v1248 v1254 v1256 v1348 v1349 v1357 v1360 v1361
  let ⟨v1454, v1456, v1458⟩ ← k0_part97 i arg1 harg1 arg2 harg2 arg3 harg3 arg4 harg4 arg5 harg5 arg6 harg6 arg7 harg7 arg8 harg8 arg9 harg9 arg0 v1233 v1234 v1235 v1248 v1254 v1255 v1256 v1318 v1415
  k0_part98 i arg1 harg1 arg2 harg2 arg3 harg3 arg4 harg4 arg5 harg5 arg6 harg6 arg7 harg7 arg8 harg8 arg9 harg9 v1320 v1333 v1335 v1397 v1399 v1412 v1414 v1454 v1458
  let t ← k0_part99 i arg1 harg1 arg2 harg2 arg3 harg3 arg4 harg4 arg5 harg5 arg6 harg6 arg7 harg7 arg8 harg8 arg9 harg9 arg0 v1 v1201 v1456
  R4 i arg1 harg1 arg2 harg2 arg3 harg3 arg4 harg4 arg5 harg5 arg6 harg6 arg7 harg7 arg8 harg8 arg9 harg9 arg0 v1 t

def R2 (arg0 : BitVec 32) (v1 : FVec F S160x768 .fp8e4m3) : (Σ' (_ : Elt F .i32) (_ : IVec S10x256 32), FVec F S160x256 .f32) → Body F (Σ' (_ : BitVec 32) (_ : IVec S16x128 32) (_ : FVec F S16x128 .f32) (_ : FVec F S16x128 .f32) (_ : FVec F S16x128 .f32) (_ : FVec F S16x128 .f32)
    (_ : FVec F S16x128 .f32) (_ : FVec F S16x128 .f32) (_ : FVec F S16x128 .f32) (_ : FVec F S16x128 .f32), FVec F S16x128 .f32) := fun ⟨v902, v918, v923⟩ => do
  let ⟨v934, v935, v936, v949, v955, v956, v957, v970, v971, v974, v975⟩ ← k0_part87 i arg1 harg1 arg2 harg2 arg3 harg3 arg4 harg4 arg5 harg5 arg6 harg6 arg7 harg7 arg8 harg8 arg9 harg9 v918 v923
  let ⟨v1006, v1019, v1021, v1026, v1027, v1028, v1029⟩ ← k0_part88 i arg1 harg1 arg2 harg2 arg3 harg3 arg4 harg4 arg5 harg5 arg6 harg6 arg7 harg7 arg8 harg8 arg9 harg9 v949 v955 v957 v970 v971 v974 v975
  let ⟨v1034, v1036, v1049, v1084⟩ ← k0_part89 i arg1 harg1 arg2 harg2 arg3 harg3 arg4 harg4 arg5 harg5 arg6 harg6 arg7 harg7 arg8 harg8 arg9 harg9 v934 v935 v936 v949 v955 v956 v957 v1006 v1026 v1027 v1028 v1029
  let ⟨v1098, v1100, v1113, v1115, v1122, v1131, v1139⟩ ← k0_part90 i arg1 harg1 arg2 harg2 arg3 harg3 arg4 harg4 arg5 harg5 arg6 harg6 arg7 harg7 arg8 harg8 arg9 harg9 v934 v935 v936 v949 v955 v956 v957 v1049 v1084
  let ⟨v1155, v1157, v1159⟩ ← k0_part91 i arg1 harg1 arg2 harg2 arg3 harg3 arg4 harg4 arg5 harg5 arg6 harg6 arg7 harg7 arg8 harg8 arg9 harg9 arg0 v957 v1019 v1021 v1034 v1036 v1122 v1131 v1139
  let t ← k0_part92 i arg1 harg1 arg2 harg2 arg3 harg3 arg4 harg4 arg5 harg5 arg6 harg6 arg7 harg7 arg8 harg8 arg9 harg9 arg0 v1 v902 v1098 v1100 v1113 v1115 v1155 v1157 v1159
  R3 i arg1 harg1 arg2 harg2 arg3 harg3 arg4 harg4 arg5 harg5 arg6 harg6 arg7 harg7 arg8 harg8 arg9 harg9 arg0 v1 t

def R1 (arg0 : BitVec 32) (v1 : FVec F S160x768 .fp8e4m3) : PUnit → Body F (Σ' (_ : BitVec 32) (_ : IVec S16x128 32) (_ : FVec F S16x128 .f32) (_ : FVec F S16x128 .f32) (_ : FVec F S16x128 .f32) (_ : FVec F S16x128 .f32)
    (_ : FVec F S16x128 .f32) (_ : FVec F S16x128 .f32) (_ : FVec F S16x128 .f32) (_ : FVec F S16x128 .f32), FVec F S16x128 .f32) := fun ⟨⟩ => do
  let ⟨v603, v635, v636, v637, v644, v646, c2_i32_163⟩ ← k0_part80 i arg1 harg1 arg2 harg2 arg3 harg3 arg4 harg4 arg5 harg5 arg6 harg6 arg7 harg7 arg8 harg8 arg9 harg9 v1
  let ⟨v650, v656, v657, v658, v671, v672, v680, v688, v696, v698⟩ ← k0_part81 i arg1 harg1 arg2 harg2 arg3 harg3 arg4 harg4 arg5 harg5 arg6 harg6 arg7 harg7 arg8 harg8 arg9 harg9 v635 v636 v637 v644 v646 c2_i32_163
  let ⟨v720, v722, v735, v737, v750, v751, v754⟩ ← k0_part82 i arg1 harg1 arg2 harg2 arg3 harg3 arg4 harg4 arg5 harg5 arg6 harg6 arg7 harg7 arg8 harg8 arg9 harg9 v635 v636 v637 v650 v656 v657 v658 v671 v672 v680 v688 v696 v698
  let ⟨v786, v799, v801, v806, v807, v808⟩ ← k0_part83 i arg1 harg1 arg2 harg2 arg3 harg3 arg4 harg4 arg5 harg5 arg6 harg6 arg7 harg7 arg8 harg8 arg9 harg9 v650 v656 v658 v750 v751 v754
  let ⟨v814, v816, v856, v858, v860⟩ ← k0_part84 i arg1 harg1 arg2 harg2 arg3 harg3 arg4 harg4 arg5 harg5 arg6 harg6 arg7 harg7 arg8 harg8 arg9 harg9 arg0 v635 v636 v637 v650 v656 v657 v658 v786 v806 v807 v808
  k0_part85 i arg1 harg1 arg2 harg2 arg3 harg3 arg4 harg4 arg5 harg5 arg6 harg6 arg7 harg7 arg8 harg8 arg9 harg9 v720 v722 v735 v737 v799 v801 v814 v816 v860
  let t ← k0_part86 i arg1 harg1 arg2 harg2 arg3 harg3 arg4 harg4 arg5 harg5 arg6 harg6 arg7 harg7 arg8 harg8 arg9 harg9 arg0 v1 v603 v856 v858 v860
  R2 i arg1 harg1 arg2 harg2 arg3 harg3 arg4 harg4 arg5 harg5 arg6 harg6 arg7 harg7 arg8 harg8 arg9 harg9 arg0 v1 t

def R0 (arg0 : BitVec 32) (v1 : FVec F S160x768 .fp8e4m3) : (Σ' (_ : Elt F .i32) (_ : FVec F S1x256 .f32) (_ : IVec S10x256 32) (_ : IVec S10x256 1), IVec S10x256 32) → Body F (Σ' (_ : BitVec 32) (_ : IVec S16x128 32) (_ : FVec F S16x128 .f32) (_ : FVec F S16x128 .f32) (_ : FVec F S16x128 .f32) (_ : FVec F S16x128 .f32)
    (_ : FVec F S16x128 .f32) (_ : FVec F S16x128 .f32) (_ : FVec F S16x128 .f32) (_ : FVec F S16x128 .f32), FVec F S16x128 .f32) := fun ⟨v304, v314, v316, v318, v319⟩ => do
  let ⟨v336, v337, v338, v351, v357, v358, v359, v360, v361, v362, v363, v364, v365, v366, v367⟩ ← k0_part74 i arg1 harg1 arg2 harg2 arg3 harg3 arg4 harg4 arg5 harg5 arg6 harg6 arg7 harg7 arg8 harg8 arg9 harg9 v1 v314 v316 v318 v319
  let ⟨v408, v421⟩ ← k0_part75 i arg1 harg1 arg2 harg2 arg3 harg3 arg4 harg4 arg5 harg5 arg6 harg6 arg7 harg7 arg8 harg8 arg9 harg9 v336 v337 v338 v351 v357 v358 v359 v360 v361 v362 v363 v364 v365 v366 v367
  let ⟨v423, v436, v438, v451, v452, v460, v468, v476, v477⟩ ← k0_part76 i arg1 harg1 arg2 harg2 arg3 harg3 arg4 harg4 arg5 harg5 arg6 harg6 arg7 harg7 arg8 harg8 arg9 harg9 v336 v337 v338 v351 v357 v358 v359 v408
  let ⟨v500, v502, v515, v517, v524, v525, v528, v531, v532⟩ ← k0_part77 i arg1 harg1 arg2 harg2 arg3 harg3 arg4 harg4 arg5 harg5 arg6 harg6 arg7 harg7 arg8 harg8 arg9 harg9 v336 v337 v338 v351 v357 v358 v359 v451 v452 v460 v468 v476 v477
  let ⟨v557, v559, v561⟩ ← k0_part78 i arg1 harg1 arg2 harg2 arg3 harg3 arg4 harg4 arg5 harg5 arg6 harg6 arg7 harg7 arg8 harg8 arg9 harg9 arg0 v351 v357 v359 v421 v423 v436 v524 v525 v528 v531 v532
  let t ← k0_part79 i arg1 harg1 arg2 harg2 arg3 harg3 arg4 harg4 arg5 harg5 arg6 harg6 arg7 harg7 arg8 harg8 arg9 harg9 arg0 v1 v304 v438 v500 v502 v515 v517 v557 v559 v561
  R1 i arg1 harg1 arg2 harg2 arg3 harg3 arg4 harg4 arg5 harg5 arg6 harg6 arg7 harg7 arg8 harg8 arg9 harg9 arg0 v1 t

set_option maxRecDepth 65536

theorem step0 (v1 : FVec F S160x768 .fp8e4m3) : (J0 i arg1 arg3 arg4).bind (R0 i arg1 harg1 arg2 harg2 arg3 harg3 arg4 harg4 arg5 harg5 arg6 harg6 arg7 harg7 arg8 harg8 arg9 harg9 (BitVec.ofNat 32 (i 0).val) v1)
    = (docThen i arg1 arg2 arg3 arg4 arg8 arg9 v1 1 (by omega) (J1 )).bind (R1 i arg1 harg1 arg2 harg2 arg3 harg3 arg4 harg4 arg5 harg5 arg6 harg6 arg7 harg7 arg8 harg8 arg9 harg9 (BitVec.ofNat 32 (i 0).val) v1) := by
  chain_rfl

theorem step1 (v1 : FVec F S160x768 .fp8e4m3) : (J1 ).bind (R1 i arg1 harg1 arg2 harg2 arg3 harg3 arg4 harg4 arg5 harg5 arg6 harg6 arg7 harg7 arg8 harg8 arg9 harg9 (BitVec.ofNat 32 (i 0).val) v1)
    = (docThen i arg1 arg2 arg3 arg4 arg8 arg9 v1 2 (by omega) (J2 i arg1 arg2 arg3 arg4 v1)).bind (R2 i arg1 harg1 arg2 harg2 arg3 harg3 arg4 harg4 arg5 harg5 arg6 harg6 arg7 harg7 arg8 harg8 arg9 harg9 (BitVec.ofNat 32 (i 0).val) v1) := by
  chain_rfl

theorem step2 (v1 : FVec F S160x768 .fp8e4m3) : (J2 i arg1 arg2 arg3 arg4 v1).bind (R2 i arg1 harg1 arg2 harg2 arg3 harg3 arg4 harg4 arg5 harg5 arg6 harg6 arg7 harg7 arg8 harg8 arg9 harg9 (BitVec.ofNat 32 (i 0).val) v1)
    = (docThen i arg1 arg2 arg3 arg4 arg8 arg9 v1 3 (by omega) (J3 i arg1 arg3)).bind (R3 i arg1 harg1 arg2 harg2 arg3 harg3 arg4 harg4 arg5 harg5 arg6 harg6 arg7 harg7 arg8 harg8 arg9 harg9 (BitVec.ofNat 32 (i 0).val) v1) := by
  chain_rfl

theorem step3 (v1 : FVec F S160x768 .fp8e4m3) : (J3 i arg1 arg3).bind (R3 i arg1 harg1 arg2 harg2 arg3 harg3 arg4 harg4 arg5 harg5 arg6 harg6 arg7 harg7 arg8 harg8 arg9 harg9 (BitVec.ofNat 32 (i 0).val) v1)
    = (docThen i arg1 arg2 arg3 arg4 arg8 arg9 v1 4 (by omega) (J4 i arg1 arg2 arg3 arg4 v1)).bind (R4 i arg1 harg1 arg2 harg2 arg3 harg3 arg4 harg4 arg5 harg5 arg6 harg6 arg7 harg7 arg8 harg8 arg9 harg9 (BitVec.ofNat 32 (i 0).val) v1) := by
  chain_rfl

theorem step4 (v1 : FVec F S160x768 .fp8e4m3) : (J4 i arg1 arg2 arg3 arg4 v1).bind (R4 i arg1 harg1 arg2 harg2 arg3 harg3 arg4 harg4 arg5 harg5 arg6 harg6 arg7 harg7 arg8 harg8 arg9 harg9 (BitVec.ofNat 32 (i 0).val) v1)
    = (docThen i arg1 arg2 arg3 arg4 arg8 arg9 v1 5 (by omega) (J5 i arg1 arg3 arg4)).bind (R5 i arg1 harg1 arg2 harg2 arg3 harg3 arg4 harg4 arg5 harg5 arg6 harg6 arg7 harg7 arg8 harg8 arg9 harg9 (BitVec.ofNat 32 (i 0).val) v1) := by
  chain_rfl

theorem step5 (v1 : FVec F S160x768 .fp8e4m3) : (J5 i arg1 arg3 arg4).bind (R5 i arg1 harg1 arg2 harg2 arg3 harg3 arg4 harg4 arg5 harg5 arg6 harg6 arg7 harg7 arg8 harg8 arg9 harg9 (BitVec.ofNat 32 (i 0).val) v1)
    = (docThen i arg1 arg2 arg3 arg4 arg8 arg9 v1 6 (by omega) (J6 )).bind (R6 i arg1 harg1 arg2 harg2 arg3 harg3 arg4 harg4 arg5 harg5 arg6 harg6 arg7 harg7 arg8 harg8 arg9 harg9 (BitVec.ofNat 32 (i 0).val) v1) := by
  chain_rfl

theorem step6 (v1 : FVec F S160x768 .fp8e4m3) : (J6 ).bind (R6 i arg1 harg1 arg2 harg2 arg3 harg3 arg4 harg4 arg5 harg5 arg6 harg6 arg7 harg7 arg8 harg8 arg9 harg9 (BitVec.ofNat 32 (i 0).val) v1)
    = (docThen i arg1 arg2 arg3 arg4 arg8 arg9 v1 7 (by omega) (J7 arg8)).bind (R7 i arg1 harg1 arg2 harg2 arg3 harg3 arg4 harg4 arg5 harg5 arg6 harg6 arg7 harg7 arg8 harg8 arg9 harg9 (BitVec.ofNat 32 (i 0).val) v1) := by
  chain_rfl

theorem start : k0_part155 (F := F) i arg1 harg1 arg2 harg2 arg3 harg3 arg4 harg4 arg5 harg5 arg6 harg6 arg7 harg7 arg8 harg8 arg9 harg9 = (Prog.lift (.load arg5 (Rect.unit (s := S160x768) ![0, 0] S160x768.size inb_S160x768_S160x768_0_0).toLoadRect (View.loadsAt_vmem h_S160x768)) : Body F (Vec F S160x768 .fp8e4m3)).bind
    fun v => (docThen i arg1 arg2 arg3 arg4 arg8 arg9 (shapeCast S160x768 v shapeCasts_S160x768_S160x768) 0 (by omega) (J0 i arg1 arg3 arg4)).bind
      (R0 i arg1 harg1 arg2 harg2 arg3 harg3 arg4 harg4 arg5 harg5 arg6 harg6 arg7 harg7 arg8 harg8 arg9 harg9 (BitVec.ofNat 32 (i 0).val) (shapeCast S160x768 v shapeCasts_S160x768_S160x768)) := by
  chain_rfl

/-- The body after the windows of the documents. -/
def tail : (Σ' (_ : BitVec 32) (_ : IVec S16x128 32) (_ : FVec F S16x128 .f32) (_ : FVec F S16x128 .f32) (_ : FVec F S16x128 .f32) (_ : FVec F S16x128 .f32)
    (_ : FVec F S16x128 .f32) (_ : FVec F S16x128 .f32) (_ : FVec F S16x128 .f32) (_ : FVec F S16x128 .f32), FVec F S16x128 .f32) → Body F PUnit :=
  fun ⟨arg0, v2396, v2681, v2683, v2685, v2687, v2689, v2691, v2693, v2695, v2707⟩ => do
  let v3763 : FVec F S128x128 .f32 ← k0_part156 i arg1 harg1 arg2 harg2 arg3 harg3 arg4 harg4 arg5 harg5 arg6 harg6 arg7 harg7 arg8 harg8 arg9 harg9 v2396 v2681 v2683 v2685 v2687 v2689 v2691 v2693 v2695 v2707
  have v3806 : FVec F S8x128 .f32 := extractStridedSlice S8x128 ![112, 0] v3763 slices_S128x128_o112_0_S8x128
  have v3807 : FVec F S8x128 .bf16 := truncf .bf16 v3806 bitsLt_bf16_f32
  let c0_1263 : Index := 0#32
  let c9984 : Index := 9984#32
  let v3808 : Vec F S8x128 .bf16 ← Prog.lift (.load arg6 (Rect.unit (s := S8x10240) ![0, 9984] S8x128.size inb_S8x10240_S8x128_0_9984).toLoadRect (View.loadsAt_vmem h_S8x128))
  Prog.lift (.store arg6 (Rect.unit (s := S8x10240) ![0, 9984] S8x128.size inb_S8x10240_S8x128_0_9984) v3807 Finset.univ (View.stores_vmem h_S8x128 (harg6.storeExact_slice rfl _ packedbf16_S8x10240_S8x128_0_9984) (fun _ => rfl)) (.inl rfl))
  have v3809 : FVec F S8x128 .f32 := extractStridedSlice S8x128 ![120, 0] v3763 slices_S128x128_o120_0_S8x128
  have v3810 : FVec F S8x128 .bf16 := truncf .bf16 v3809 bitsLt_bf16_f32
  let c0_1264 : Index := 0#32
  let c10112 : Index := 10112#32
  let v3811 : Vec F S8x128 .bf16 ← Prog.lift (.load arg6 (Rect.unit (s := S8x10240) ![0, 10112] S8x128.size inb_S8x10240_S8x128_0_10112).toLoadRect (View.loadsAt_vmem h_S8x128))
  Prog.lift (.store arg6 (Rect.unit (s := S8x10240) ![0, 10112] S8x128.size inb_S8x10240_S8x128_0_10112) v3810 Finset.univ (View.stores_vmem h_S8x128 (harg6.storeExact_slice rfl _ packedbf16_S8x10240_S8x128_0_10112) (fun _ => rfl)) (.inl rfl))
  let c24_i32 : BitVec 32 := 24#32
  let v3812 : BitVec 1 := Scalar.cmpi .eq arg0 c24_i32
  let v3813 : BitVec 32 := Scalar.extui v3812
  let c0_i32_1265 : BitVec 32 := 0#32
  let v3814 : BitVec 1 := Scalar.cmpi .ne v3813 c0_i32_1265
  if k0_h9 : k0_cond9 i = 1#1 then do
    let ⟨v3817, v3820, v3822, v3852, v3853⟩ ← k0_part57 i arg1 harg1 arg2 harg2 arg3 harg3 arg4 harg4 arg5 harg5 arg6 harg6 arg7 harg7 arg8 harg8 arg9 harg9
    let v3894 : IVec S128x256 32 ← k0_part58 i arg1 harg1 arg2 harg2 arg3 harg3 arg4 harg4 arg5 harg5 arg6 harg6 arg7 harg7 arg8 harg8 arg9 harg9 v3817 v3820 v3822 v3852 v3853
    let ⟨v3904, v3924, v3926, v3930⟩ ← k0_part59 i arg1 harg1 arg2 harg2 arg3 harg3 arg4 harg4 arg5 harg5 arg6 harg6 arg7 harg7 arg8 harg8 arg9 harg9 v3817 v3820 v3894
    let ⟨v3964, v3966, v3970⟩ ← k0_part60 i arg1 harg1 arg2 harg2 arg3 harg3 arg4 harg4 arg5 harg5 arg6 harg6 arg7 harg7 arg8 harg8 arg9 harg9 v3817 v3820 v3904 v3924 v3926 v3930
    let ⟨v3986, v4006, c3_i32_1369⟩ ← k0_part61 i arg1 harg1 arg2 harg2 arg3 harg3 arg4 harg4 arg5 harg5 arg6 harg6 arg7 harg7 arg8 harg8 arg9 harg9 v3817 v3820 v3904 v3964 v3966 v3970
    let ⟨v4046, c7_i32_1389⟩ ← k0_part62 i arg1 harg1 arg2 harg2 arg3 harg3 arg4 harg4 arg5 harg5 arg6 harg6 arg7 harg7 arg8 harg8 arg9 harg9 v3817 v3820 v3986 v4006 c3_i32_1369
    let ⟨v4068, v4078, v4080, v4082, v4083⟩ ← k0_part63 i arg1 harg1 arg2 harg2 arg3 harg3 arg4 harg4 arg5 harg5 arg6 harg6 arg7 harg7 arg8 harg8 arg9 harg9 v3817 v3820 v3986 v4046 c7_i32_1389
    let ⟨v4118, v4120, v4122, v4123⟩ ← k0_part64 i arg1 harg1 arg2 harg2 arg3 harg3 arg4 harg4 arg5 harg5 arg6 harg6 arg7 harg7 arg8 harg8 arg9 harg9 v3817 v3820 v4068 v4078 v4080 v4082 v4083
    let ⟨v4150, v4160⟩ ← k0_part65 i arg1 harg1 arg2 harg2 arg3 harg3 arg4 harg4 arg5 harg5 arg6 harg6 arg7 harg7 arg8 harg8 arg9 harg9 v3817 v3820 v4068 v4118 v4120 v4122 v4123
    let v4200 : FVec F S256x128 .f32 ← k0_part66 i arg1 harg1 arg2 harg2 arg3 harg3 arg4 harg4 arg5 harg5 arg6 harg6 arg7 harg7 arg8 harg8 arg9 harg9 v3817 v3820 v4150 v4160
    let c6_i32_1472 : BitVec 32 := 6#32
    have v4201 : IVec S256x128 32 := broadcast S256x128 c6_i32_1472
    have v4202 : IVec S256x128 1 := cmpi .eq v3817 v4201
    let c6_i32_1473 : BitVec 32 := 6#32
    have v4203 : IVec S256x128 32 := broadcast S256x128 c6_i32_1473
    have v4204 : IVec S256x128 32 := addi v3820 v4203
    let c8_i32_1474 : BitVec 32 := 8#32
    have v4205 : IVec S256x128 32 := broadcast S256x128 c8_i32_1474
    have v4206 : IVec S256x128 1 := cmpi .slt v4204 v4205
    let c122_i32_1475 : BitVec 32 := 122#32
    have v4207 : FVec F S256x128 .f32 := dynamicRotate 1 c122_i32_1475 none v4150 rotates_S256x128_d1
    let c2_i32_1476 : BitVec 32 := 2#32
    have v4208 : FVec F S256x128 .f32 := dynamicRotate 1 c2_i32_1476 none v4150 rotates_S256x128_d1
    have v4209 : FVec F S256x128 .f32 := select v4206 v4207 v4208
    have v4210 : FVec F S256x128 .f32 := select v4202 v4209 v4200
    let c7_i32_1477 : BitVec 32 := 7#32
    have v4211 : IVec S256x128 32 := broadcast S256x128 c7_i32_1477
    have v4212 : IVec S256x128 1 := cmpi .eq v3817 v4211
    let c7_i32_1478 : BitVec 32 := 7#32
    have v4213 : IVec S256x128 32 := broadcast S256x128 c7_i32_1478
    have v4214 : IVec S256x128 32 := addi v3820 v4213
    let c8_i32_1479 : BitVec 32 := 8#32
    have v4215 : IVec S256x128 32 := broadcast S256x128 c8_i32_1479
    have v4216 : IVec S256x128 1 := cmpi .slt v4214 v4215
    let c121_i32_1480 : BitVec 32 := 121#32
    have v4217 : FVec F S256x128 .f32 := dynamicRotate 1 c121_i32_1480 none v4150 rotates_S256x128_d1
    let c1_i32_1481 : BitVec 32 := 1#32
    have v4218 : FVec F S256x128 .f32 := dynamicRotate 1 c1_i32_1481 none v4150 rotates_S256x128_d1
    have v4219 : FVec F S256x128 .f32 := select v4216 v4217 v4218
    have v4220 : FVec F S256x128 .f32 := select v4212 v4219 v4210
    have v4221 : FVec F S128x256 .f32 := transpose S128x256 [1, 0] v4220 transposes_S256x128_p1_0_S128x256
    have v4222 : IVec S128x256 32 := fptosi 32 v4221
    have v4223 : IVec S64x200 32 := extractStridedSlice S64x200 ![0, 0] v4222 slices_S128x256_o0_0_S64x200
    let c8 : Index := 8#32
    let c0_1482 : Index := 0#32
    let c0_1483 : Index := 0#32
    let v4224 : Vec F S1x64x200 .i32 ← Prog.lift (.load arg7 (Rect.unit (s := S10x64x200) ![8, 0, 0] S1x64x200.size inb_S10x64x200_S1x64x200_8_0_0).toLoadRect (View.loadsAt_vmem h_S1x64x200))
    have v4225 : IVec S64x200 32 := shapeCast S64x200 v4224 shapeCasts_S1x64x200_S64x200
    have v4226 : IVec S1x64x200 32 := shapeCast S1x64x200 v4223 shapeCasts_S64x200_S1x64x200
    Prog.lift (.store arg7 (Rect.unit (s := S10x64x200) ![8, 0, 0] S1x64x200.size inb_S10x64x200_S1x64x200_8_0_0) v4226 Finset.univ (View.stores_vmem_bits_univ h_S1x64x200 rfl) (.inl rfl))
    have v4227 : IVec S64x200 32 := extractStridedSlice S64x200 ![64, 0] v4222 slices_S128x256_o64_0_S64x200
    let c9 : Index := 9#32
    let c0_1484 : Index := 0#32
    let c0_1485 : Index := 0#32
    let v4228 : Vec F S1x64x200 .i32 ← Prog.lift (.load arg7 (Rect.unit (s := S10x64x200) ![9, 0, 0] S1x64x200.size inb_S10x64x200_S1x64x200_9_0_0).toLoadRect (View.loadsAt_vmem h_S1x64x200))
    have v4229 : IVec S64x200 32 := shapeCast S64x200 v4228 shapeCasts_S1x64x200_S64x200
    have v4230 : IVec S1x64x200 32 := shapeCast S1x64x200 v4227 shapeCasts_S64x200_S1x64x200
    Prog.lift (.store arg7 (Rect.unit (s := S10x64x200) ![9, 0, 0] S1x64x200.size inb_S10x64x200_S1x64x200_9_0_0) v4230 Finset.univ (View.stores_vmem_bits_univ h_S1x64x200 rfl) (.inl rfl))
    pure ⟨⟩
  else do
    pure ⟨⟩
  pure ⟨⟩

theorem windows : cc0_muvera_fde (F := F) i arg1 harg1 arg2 harg2 arg3 harg3 arg4 harg4 arg5 harg5 arg6 harg6 arg7 harg7 arg8 harg8 arg9 harg9 = (k0_part155 (F := F) i arg1 harg1 arg2 harg2 arg3 harg3 arg4 harg4 arg5 harg5 arg6 harg6 arg7 harg7 arg8 harg8 arg9 harg9).bind (tail i arg1 harg1 arg2 harg2 arg3 harg3 arg4 harg4 arg5 harg5 arg6 harg6 arg7 harg7 arg8 harg8 arg9 harg9) := by
  chain_rfl

theorem tail_eq (v1 : FVec F S160x768 .fp8e4m3) : ((J7 arg8).bind (R7 i arg1 harg1 arg2 harg2 arg3 harg3 arg4 harg4 arg5 harg5 arg6 harg6 arg7 harg7 arg8 harg8 arg9 harg9 (BitVec.ofNat 32 (i 0).val) v1)).bind (tail i arg1 harg1 arg2 harg2 arg3 harg3 arg4 harg4 arg5 harg5 arg6 harg6 arg7 harg7 arg8 harg8 arg9 harg9) = (do
    epis arg6 harg6 arg8 5 (by omega)
    if _ : k0_cond9 i = 1#1 then
      cnts arg7 arg9 5 (by omega)
    else pure ⟨⟩
    pure ⟨⟩) := by
  chain_rfl

theorem documents (v1 : FVec F S160x768 .fp8e4m3) :
    (docThen i arg1 arg2 arg3 arg4 arg8 arg9 v1 0 (by omega) (J0 i arg1 arg3 arg4)).bind (R0 i arg1 harg1 arg2 harg2 arg3 harg3 arg4 harg4 arg5 harg5 arg6 harg6 arg7 harg7 arg8 harg8 arg9 harg9 (BitVec.ofNat 32 (i 0).val) v1)
      = (doc i arg1 arg2 arg3 arg4 arg8 arg9 v1 0 (by omega)).bind fun _ => (doc i arg1 arg2 arg3 arg4 arg8 arg9 v1 1 (by omega)).bind fun _ => (doc i arg1 arg2 arg3 arg4 arg8 arg9 v1 2 (by omega)).bind fun _ => (doc i arg1 arg2 arg3 arg4 arg8 arg9 v1 3 (by omega)).bind fun _ => (doc i arg1 arg2 arg3 arg4 arg8 arg9 v1 4 (by omega)).bind fun _ => (doc i arg1 arg2 arg3 arg4 arg8 arg9 v1 5 (by omega)).bind fun _ => (doc i arg1 arg2 arg3 arg4 arg8 arg9 v1 6 (by omega)).bind fun _ => (doc i arg1 arg2 arg3 arg4 arg8 arg9 v1 7 (by omega)).bind fun _ =>
        (J7 arg8).bind (R7 i arg1 harg1 arg2 harg2 arg3 harg3 arg4 harg4 arg5 harg5 arg6 harg6 arg7 harg7 arg8 harg8 arg9 harg9 (BitVec.ofNat 32 (i 0).val) v1) := by
  rw [docThen_eq, step0, docThen_eq, step1, docThen_eq, step2, docThen_eq, step3, docThen_eq, step4, docThen_eq, step5, docThen_eq, step6, docThen_eq]

theorem body_eq : cc0_muvera_fde (F := F) i arg1 harg1 arg2 harg2 arg3 harg3 arg4 harg4 arg5 harg5 arg6 harg6 arg7 harg7 arg8 harg8 arg9 harg9 = body i arg1 arg2 arg3 arg4 arg5 arg6 harg6 arg7 arg8 arg9 := by
  rw [windows, start]
  rw [bassoc]
  refine congrArg (Prog.bind _) (funext fun v => ?_)
  refine (congrArg (fun p => p.bind (tail i arg1 harg1 arg2 harg2 arg3 harg3 arg4 harg4 arg5 harg5 arg6 harg6 arg7 harg7 arg8 harg8 arg9 harg9)) (documents i arg1 harg1 arg2 harg2 arg3 harg3 arg4 harg4 arg5 harg5 arg6 harg6 arg7 harg7 arg8 harg8 arg9 harg9 (shapeCast S160x768 v shapeCasts_S160x768_S160x768))).trans ?_
  have h := tail_eq (F := F) i arg1 harg1 arg2 harg2 arg3 harg3 arg4 harg4 arg5 harg5 arg6 harg6 arg7 harg7 arg8 harg8 arg9 harg9 (shapeCast S160x768 v shapeCasts_S160x768_S160x768)
  simp only [bassoc] at h ⊢
  simp only [h]
  simp only [docs, Bind.bind, Pure.pure, bassoc, bret]

end

end Cert.KernelIdeal.Hand

end
-- ==== Proof.Steps.lean ====
/- One load and one store of a memref whose contents are named: the load returns the contents at the rectangle's places, the store
   hands the memref back at the contents with the rectangle's places replaced. -/
module

public import proofs.«01_k».proof.Proof.BodyIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) {s : Shape} {e : EltTy}

theorem load_owns (m : Memref sig .tc .vmem s e) (r : Rect s) (hl : m.view.LoadsAt r.toLoadRect) (v : s.Idx → Elt F e)
    (K : (r.shape.Idx → Elt F e) → sProp 𝕄) :
    iprop(owns (c : Thread nD τ) m fullShare v ∗ (owns (c : Thread nD τ) m fullShare v -∗ K (fun j => v (r.emb j))))
      ⊢ wp frame (wpE (defs₀ (F := F)) Variants.none c none) E (Prog.lift (.load m r.toLoadRect hl)) K := by
  unfold owns Prog.lift
  iintro ⟨⟨%f, %hf, H⟩, Hk⟩
  iapply (wp_load Variants.none (c : Thread nD τ) none E (m := m) (r := r.toLoadRect) (S := m.view.set) (f := f) (by
    exact m.view.setOn_subset_set _)) $$ H
  iintro H
  iapply le_wp_ret
  have hv : m.view.readAt (Elt F) r.toLoadRect f = fun j => v (r.emb j) := by
    rw [← hf]; rfl
  rw [hv]
  iapply Hk
  iexists f
  isplitr; · ipureintro; exact hf
  iexact H

theorem load_owns_eq (m : Memref sig .tc .vmem s e) (r : Rect s) (hl : m.view.LoadsAt r.toLoadRect) (v : s.Idx → Elt F e)
    (u : r.shape.Idx → Elt F e) (hu : (fun j => v (r.emb j)) = u) (K : (r.shape.Idx → Elt F e) → sProp 𝕄) :
    iprop(owns (c : Thread nD τ) m fullShare v ∗ (owns (c : Thread nD τ) m fullShare v -∗ K u))
      ⊢ wp frame (wpE (defs₀ (F := F)) Variants.none c none) E (Prog.lift (.load m r.toLoadRect hl)) K := by
  subst hu
  exact load_owns c E m r hl v K

theorem store_owns (m : Memref sig .tc .vmem s e) (r : Rect s) (w : r.shape.Idx → Elt F e) (hx : (m.access r).Stores Finset.univ)
    (hm : Finset.univ = Finset.univ ∨ ∀ a, r.stride a = 1) (v v' : s.Idx → Elt F e) (hin : ∀ j, v' (r.emb j) = w j)
    (hout : ∀ y, y ∉ r.set → v' y = v y) (K : PUnit → sProp 𝕄) :
    iprop(owns (c : Thread nD τ) m fullShare v ∗ (owns (c : Thread nD τ) m fullShare v' -∗ K ⟨⟩))
      ⊢ wp frame (wpE (defs₀ (F := F)) Variants.none c none) E (Prog.lift (.store m r w Finset.univ hx hm)) K := by
  unfold owns Prog.lift
  iintro ⟨⟨%f, %hf, H⟩, Hk⟩
  iapply (wp_store Variants.none (c : Thread nD τ) none E (m := m) (r := r) (w := w) (Mk := Finset.univ) (hx := hx) (hm := hm) (S := m.view.set) (f := f) (by
    exact View.set_slice_subset _ _)) $$ H
  iintro H
  iapply le_wp_ret
  iapply Hk
  iexists _
  isplitr; swap; · iexact H
  ipureintro
  funext y
  by_cases hy : y ∈ r.set
  · obtain ⟨j, rfl⟩ := r.exists_idx_of_mem hy
    exact (View.read_slice_write_emb r f w (Finset.mem_univ j)).trans (hin j).symm
  · rw [hout y hy, ← hf]
    exact View.read_slice_write_of_not_mem r f w _ (by rw [Rect.map_emb_univ]; exact hy)

end Cert.KernelIdeal.Hand

end
-- ==== Proof.State.lean ====
/- What the two scratch buffers and the two results hold as the body goes: a document's block of sums filled pair by pair, its row
   of counts likewise, the point's rows of the first result block by block, the second result repetition by repetition. -/
module

public import proofs.«01_k».proof.Proof.Model
public import Idealize.ShloMosaic.Lib.Pointwise

@[expose] public section

set_option maxRecDepth 16384

noncomputable section

namespace Cert.KernelIdeal.Hand

open Cert.KernelIdeal Cert.KernelIdeal.Gen
open Idealize.ShloMosaic Idealize.SL.Sem

variable {F : FTy → Type} [FloatOps F]

/-- Document `b`'s sums of the first `k` pairs replaced by `S`. -/
def fillA (b k : ℕ) (S : Fin 5 → FVec F S16x128 .f32) (a : Vec F S8x5x16x128 .f32) : Vec F S8x5x16x128 .f32 :=
  fun y => if (y 0).val = b ∧ (y 1).val < k then S (y 1) (ix2 (y 2) (y 3)) else a y
/-- Row `r`'s counts of the first `k` pairs replaced by `N`. -/
def fillD (r k : ℕ) (N : Fin 5 → FVec F S1x128 .f32) (d : Vec F S5x256x128 .f32) : Vec F S5x256x128 .f32 :=
  fun y => if (y 1).val = r ∧ (y 0).val < k then N (y 0) (ix2 0 (y 2)) else d y
def readA (b : Fin 8) (k : Fin 5) (a : Vec F S8x5x16x128 .f32) : FVec F S16x128 .f32 := fun j => a (ix4 b k (j 0) (j 1))
def readD (r : Fin 256) (k : Fin 5) (d : Vec F S5x256x128 .f32) : FVec F S1x128 .f32 := fun j => d (ix3 k r (j 1))
/-- The first `n` blocks of 128 columns replaced by those of `M`. -/
def fillF (n : ℕ) (M v : Vec F S8x10240 .bf16) : Vec F S8x10240 .bf16 := fun y => if (y 1).val < 128 * n then M y else v y
/-- The first `n` repetitions replaced by those of `U`. -/
def fillC (n : ℕ) (U v : Vec F S10x64x200 .i32) : Vec F S10x64x200 .i32 := fun y => if (y 0).val < n then U y else v y

section
variable (b k : ℕ) (hb : b < 8) (hk : k < 5) (S : Fin 5 → FVec F S16x128 .f32) (a : Vec F S8x5x16x128 .f32)

theorem emb_acc (j : S1x1x16x128.Idx) : (Rect.unit (s := S8x5x16x128) ![b, k, 0, 0] S1x1x16x128.size (inb_acc b k hb hk)).emb j
    = ix4 ⟨b, hb⟩ ⟨k, hk⟩ (j 2) (j 3) := by
  have h0 : (j 0).val < 1 := (j 0).isLt
  have h1 : (j 1).val < 1 := (j 1).isLt
  funext x; apply Fin.ext
  match x with
  | ⟨0, _⟩ => show b + 1 * (j 0).val = b; omega
  | ⟨1, _⟩ => show k + 1 * (j 1).val = k; omega
  | ⟨2, _⟩ => show 0 + 1 * (j 2).val = (j 2).val; omega
  | ⟨3, _⟩ => show 0 + 1 * (j 3).val = (j 3).val; omega
theorem fillA_zero : fillA b 0 S a = a := by funext y; simp [fillA]
theorem fillA_in (j : S1x1x16x128.Idx) : fillA b (k + 1) S a ((Rect.unit (s := S8x5x16x128) ![b, k, 0, 0] S1x1x16x128.size (inb_acc b k hb hk)).emb j)
    = shapeCast S1x1x16x128 (S ⟨k, hk⟩) shapeCasts_S16x128_S1x1x16x128 j := by
  rw [emb_acc b k hb hk]
  show (if b = b ∧ k < k + 1 then S ⟨k, hk⟩ (ix2 (j 2) (j 3)) else _) = _
  rw [if_pos ⟨rfl, Nat.lt_succ_self k⟩]
  pointwise
theorem fillA_out (y : S8x5x16x128.Idx) (hy : y ∉ (Rect.unit (s := S8x5x16x128) ![b, k, 0, 0] S1x1x16x128.size (inb_acc b k hb hk)).set) :
    fillA b (k + 1) S a y = fillA b k S a y := by
  have hy' : ¬ ((y 0).val = b ∧ (y 1).val = k) := by
    rintro ⟨h0, h1⟩
    refine hy (Rect.mem_set_unit.mpr fun x => ?_)
    have h2 : (y 2).val < 16 := (y 2).isLt
    have h3 : (y 3).val < 128 := (y 3).isLt
    match x with
    | ⟨0, _⟩ => exact ⟨h0.ge, by show (y 0).val < b + 1; omega⟩
    | ⟨1, _⟩ => exact ⟨h1.ge, by show (y 1).val < k + 1; omega⟩
    | ⟨2, _⟩ => exact ⟨Nat.zero_le _, by show (y 2).val < 0 + 16; omega⟩
    | ⟨3, _⟩ => exact ⟨Nat.zero_le _, by show (y 3).val < 0 + 128; omega⟩
  have hiff : ((y 0).val = b ∧ (y 1).val < k + 1) ↔ ((y 0).val = b ∧ (y 1).val < k) := by omega
  unfold fillA
  simp only [hiff]
theorem load_acc : (fun j : S1x1x16x128.Idx => a ((Rect.unit (s := S8x5x16x128) ![b, k, 0, 0] S1x1x16x128.size (inb_acc b k hb hk)).emb j))
    = fun j => a (ix4 ⟨b, hb⟩ ⟨k, hk⟩ (j 2) (j 3)) := funext fun j => congrArg a (emb_acc b k hb hk j)
theorem cast_acc : shapeCast S16x128 (fun j : S1x1x16x128.Idx => a (ix4 ⟨b, hb⟩ ⟨k, hk⟩ (j 2) (j 3))) shapeCasts_S1x1x16x128_S16x128
    = readA ⟨b, hb⟩ ⟨k, hk⟩ a := by
  funext j
  pointwise [readA]
theorem read_acc : shapeCast S16x128 (fun j : S1x1x16x128.Idx => a ((Rect.unit (s := S8x5x16x128) ![b, k, 0, 0] S1x1x16x128.size (inb_acc b k hb hk)).emb j))
    shapeCasts_S1x1x16x128_S16x128 = readA ⟨b, hb⟩ ⟨k, hk⟩ a :=
  (congrArg (fun v => shapeCast S16x128 v shapeCasts_S1x1x16x128_S16x128) (load_acc b k hb hk a)).trans (cast_acc b k hb hk a)
theorem readA_fill : readA ⟨b, hb⟩ ⟨k, hk⟩ (fillA b k S a) = readA ⟨b, hb⟩ ⟨k, hk⟩ a :=
  funext fun _ => if_neg fun h => absurd h.2 (lt_irrefl k)
end

section
variable (i : grid0.Coords) (b k : ℕ) (hb : b < 8) (hk : k < 5) (N : Fin 5 → FVec F S1x128 .f32) (d : Vec F S5x256x128 .f32)

include hb in
theorem row_lt : 8 * (i 0).val + b < 256 := by
  have h : (i 0).val < 25 := (i 0).isLt
  omega
theorem emb_cnt (j : S1x1x128.Idx) : (Rect.unit (s := S5x256x128) (cntOff i b k) S1x1x128.size (inb_cnt i b k hb hk)).emb j
    = ix3 ⟨k, hk⟩ ⟨8 * (i 0).val + b, row_lt i b hb⟩ (j 2) := by
  have h0 : (j 0).val < 1 := (j 0).isLt
  have h1 : (j 1).val < 1 := (j 1).isLt
  have hr := rowW_toNat i b hb
  funext x; apply Fin.ext
  match x with
  | ⟨0, _⟩ => show k + 1 * (j 0).val = k; omega
  | ⟨1, _⟩ => show (rowW i b).toNat + 1 * (j 1).val = 8 * (i 0).val + b; omega
  | ⟨2, _⟩ => show 0 + 1 * (j 2).val = (j 2).val; omega
theorem fillD_zero (r : ℕ) : fillD r 0 N d = d := by funext y; simp [fillD]
theorem fillD_in (j : S1x1x128.Idx) : fillD (8 * (i 0).val + b) (k + 1) N d
      ((Rect.unit (s := S5x256x128) (cntOff i b k) S1x1x128.size (inb_cnt i b k hb hk)).emb j)
    = shapeCast S1x1x128 (N ⟨k, hk⟩) shapeCasts_S1x128_S1x1x128 j := by
  rw [emb_cnt i b k hb hk]
  show (if 8 * (i 0).val + b = 8 * (i 0).val + b ∧ k < k + 1 then N ⟨k, hk⟩ (ix2 0 (j 2)) else _) = _
  rw [if_pos ⟨rfl, Nat.lt_succ_self k⟩]
  pointwise
theorem fillD_out (y : S5x256x128.Idx) (hy : y ∉ (Rect.unit (s := S5x256x128) (cntOff i b k) S1x1x128.size (inb_cnt i b k hb hk)).set) :
    fillD (8 * (i 0).val + b) (k + 1) N d y = fillD (8 * (i 0).val + b) k N d y := by
  have hr := rowW_toNat i b hb
  have hy' : ¬ ((y 1).val = 8 * (i 0).val + b ∧ (y 0).val = k) := by
    rintro ⟨h1, h0⟩
    refine hy (Rect.mem_set_unit.mpr fun x => ?_)
    have h2 : (y 2).val < 128 := (y 2).isLt
    match x with
    | ⟨0, _⟩ => exact ⟨h0.ge, by show (y 0).val < k + 1; omega⟩
    | ⟨1, _⟩ => exact ⟨by show (rowW i b).toNat ≤ (y 1).val; omega, by show (y 1).val < (rowW i b).toNat + 1; omega⟩
    | ⟨2, _⟩ => exact ⟨Nat.zero_le _, by show (y 2).val < 0 + 128; omega⟩
  have hiff : ((y 1).val = 8 * (i 0).val + b ∧ (y 0).val < k + 1) ↔ ((y 1).val = 8 * (i 0).val + b ∧ (y 0).val < k) := by omega
  unfold fillD
  simp only [hiff]
theorem load_cnt : (fun j : S1x1x128.Idx => d ((Rect.unit (s := S5x256x128) (cntOff i b k) S1x1x128.size (inb_cnt i b k hb hk)).emb j))
    = fun j => d (ix3 ⟨k, hk⟩ ⟨8 * (i 0).val + b, row_lt i b hb⟩ (j 2)) := funext fun j => congrArg d (emb_cnt i b k hb hk j)
theorem cast_cnt (r : Fin 256) : shapeCast S1x128 (fun j : S1x1x128.Idx => d (ix3 ⟨k, hk⟩ r (j 2))) shapeCasts_S1x1x128_S1x128
    = readD r ⟨k, hk⟩ d := by
  funext j
  pointwise [readD]
theorem read_cnt : shapeCast S1x128 (fun j : S1x1x128.Idx => d ((Rect.unit (s := S5x256x128) (cntOff i b k) S1x1x128.size (inb_cnt i b k hb hk)).emb j))
    shapeCasts_S1x1x128_S1x128 = readD ⟨8 * (i 0).val + b, row_lt i b hb⟩ ⟨k, hk⟩ d :=
  (congrArg (fun v => shapeCast S1x128 v shapeCasts_S1x1x128_S1x128) (load_cnt i b k hb hk d)).trans (cast_cnt k hk d _)
theorem readD_fill (r : ℕ) (hr : r < 256) : readD ⟨r, hr⟩ ⟨k, hk⟩ (fillD r k N d) = readD ⟨r, hr⟩ ⟨k, hk⟩ d :=
  funext fun _ => if_neg fun h => absurd h.2 (lt_irrefl k)
end

/-! ## The two results -/

theorem fillF_in (n : ℕ) (hn : n < 80) (M v : Vec F S8x10240 .bf16) (w : Vec F S8x128 .bf16)
    (hw : ∀ j : S8x128.Idx, M (ix2 (j 0) ⟨128 * n + (j 1).val, by have h : (j 1).val < 128 := (j 1).isLt; omega⟩) = w j) (j : S8x128.Idx) :
    fillF (n + 1) M v ((Rect.unit (s := S8x10240) ![0, n * 128] S8x128.size (inb_fde n hn)).emb j) = w j := by
  have h1 : (j 1).val < 128 := (j 1).isLt
  have he : (Rect.unit (s := S8x10240) ![0, n * 128] S8x128.size (inb_fde n hn)).emb j = ix2 (j 0) ⟨128 * n + (j 1).val, by omega⟩ := by
    funext x; apply Fin.ext
    match x with
    | ⟨0, _⟩ => show 0 + 1 * (j 0).val = (j 0).val; omega
    | ⟨1, _⟩ => show n * 128 + 1 * (j 1).val = 128 * n + (j 1).val; omega
  rw [he, ← hw]
  exact if_pos (by show 128 * n + (j 1).val < 128 * (n + 1); omega)
theorem fillF_out (n : ℕ) (hn : n < 80) (M v : Vec F S8x10240 .bf16) (y : S8x10240.Idx)
    (hy : y ∉ (Rect.unit (s := S8x10240) ![0, n * 128] S8x128.size (inb_fde n hn)).set) : fillF (n + 1) M v y = fillF n M v y := by
  have hy' : ¬ (128 * n ≤ (y 1).val ∧ (y 1).val < 128 * n + 128) := by
    rintro ⟨h0, h1⟩
    refine hy (Rect.mem_set_unit.mpr fun x => ?_)
    have h2 : (y 0).val < 8 := (y 0).isLt
    match x with
    | ⟨0, _⟩ => exact ⟨Nat.zero_le _, by show (y 0).val < 0 + 8; omega⟩
    | ⟨1, _⟩ => exact ⟨by show n * 128 ≤ (y 1).val; omega, by show (y 1).val < n * 128 + 128; omega⟩
  have hiff : ((y 1).val < 128 * (n + 1)) ↔ ((y 1).val < 128 * n) := by omega
  unfold fillF
  simp only [hiff]
theorem fillF_zero (M v : Vec F S8x10240 .bf16) : fillF 0 M v = v := by funext y; simp [fillF]
theorem fillF_all (M v : Vec F S8x10240 .bf16) : fillF 80 M v = M := by
  funext y
  exact if_pos (y 1).isLt

theorem fillC_in (n : ℕ) (hn : n < 10) (U v : Vec F S10x64x200 .i32) (w : Vec F S1x64x200 .i32)
    (hw : ∀ j : S1x64x200.Idx, U (ix3 ⟨n, hn⟩ (j 1) (j 2)) = w j) (j : S1x64x200.Idx) :
    fillC (n + 1) U v ((Rect.unit (s := S10x64x200) ![n, 0, 0] S1x64x200.size (inb_cout n hn)).emb j) = w j := by
  have h0 : (j 0).val < 1 := (j 0).isLt
  have he : (Rect.unit (s := S10x64x200) ![n, 0, 0] S1x64x200.size (inb_cout n hn)).emb j = ix3 ⟨n, hn⟩ (j 1) (j 2) := by
    funext x; apply Fin.ext
    match x with
    | ⟨0, _⟩ => show n + 1 * (j 0).val = n; omega
    | ⟨1, _⟩ => show 0 + 1 * (j 1).val = (j 1).val; omega
    | ⟨2, _⟩ => show 0 + 1 * (j 2).val = (j 2).val; omega
  rw [he, ← hw]
  exact if_pos (Nat.lt_succ_self n)
theorem fillC_out (n : ℕ) (hn : n < 10) (U v : Vec F S10x64x200 .i32) (y : S10x64x200.Idx)
    (hy : y ∉ (Rect.unit (s := S10x64x200) ![n, 0, 0] S1x64x200.size (inb_cout n hn)).set) : fillC (n + 1) U v y = fillC n U v y := by
  have hy' : ¬ ((y 0).val = n) := by
    intro h0
    refine hy (Rect.mem_set_unit.mpr fun x => ?_)
    have h1 : (y 1).val < 64 := (y 1).isLt
    have h2 : (y 2).val < 200 := (y 2).isLt
    match x with
    | ⟨0, _⟩ => exact ⟨h0.ge, by show (y 0).val < n + 1; omega⟩
    | ⟨1, _⟩ => exact ⟨Nat.zero_le _, by show (y 1).val < 0 + 64; omega⟩
    | ⟨2, _⟩ => exact ⟨Nat.zero_le _, by show (y 2).val < 0 + 200; omega⟩
  have hiff : ((y 0).val < n + 1) ↔ ((y 0).val < n) := by omega
  unfold fillC
  simp only [hiff]
theorem fillC_zero (U v : Vec F S10x64x200 .i32) : fillC 0 U v = v := by funext y; simp [fillC]
theorem fillC_all (U v : Vec F S10x64x200 .i32) : fillC 10 U v = U := by
  funext y
  exact if_pos (y 0).isLt

/-! ## What a tile, a document, a point leave -/

/-- Tile `t` of document `b` in the point's blocks of tokens, scales and codes. -/
def xT (b : Fin 8) (t : Fin 2) (x : Vec F S8x512x768 .fp8e4m3) : Vec F S1x256x768 .fp8e4m3 :=
  fun j => x (ix3 b ⟨256 * t.val + (j 1).val, by have h : (j 1).val < 256 := (j 1).isLt; omega⟩ (j 2))
def sT (b : Fin 8) (t : Fin 2) (x : Vec F S8x512 .f32) : Vec F S1x256 .f32 :=
  fun j => x (ix2 b ⟨256 * t.val + (j 1).val, by have h : (j 1).val < 256 := (j 1).isLt; omega⟩)
def cT (b : Fin 8) (t : Fin 2) (x : Vec F S10x8x512 .i32) : Vec F S10x1x256 .i32 :=
  fun j => x (ix3 (j 0) b ⟨256 * t.val + (j 2).val, by have h : (j 2).val < 256 := (j 2).isLt; omega⟩)

def sumsOf (p : FVec F S160x256 .f32) (idx val : IVec S10x256 32) : Fin 5 → FVec F S16x128 .f32 :=
  ![sum4 (out4 p idx val 0 (by omega)) 0 (by omega), sum4 (out4 p idx val 0 (by omega)) 1 (by omega),
    sum4 (out4 p idx val 4 (by omega)) 0 (by omega), sum4 (out4 p idx val 4 (by omega)) 1 (by omega), sum2 (out2 p idx val 8 (by omega))]
def cntsOf (p : FVec F S160x256 .f32) (idx val : IVec S10x256 32) : Fin 5 → FVec F S1x128 .f32 :=
  ![cnt4 (out4 p idx val 0 (by omega)) 0 (by omega), cnt4 (out4 p idx val 0 (by omega)) 1 (by omega),
    cnt4 (out4 p idx val 4 (by omega)) 0 (by omega), cnt4 (out4 p idx val 4 (by omega)) 1 (by omega), cnt2 (out2 p idx val 8 (by omega))]

section
variable (x0 : Vec F S8x512x768 .fp8e4m3) (x1 : Vec F S8x512 .f32) (x2 : Vec F S10x8x512 .i32) (vp : FVec F S160x768 .fp8e4m3)

def tileP (b : Fin 8) (t : Fin 2) (n : BitVec 32) : FVec F S160x256 .f32 := proj t.val n vp (sT b t x1) (xT b t x0)
def tileC (b : Fin 8) (t : Fin 2) (n : BitVec 32) : IVec S10x256 32 := codeRow (F := F) t.val n (cT b t x2)
/-- The five pairs' sums and counts over tile `t` of document `b`, of length `n`. -/
def tileS (b : Fin 8) (t : Fin 2) (n : BitVec 32) : Fin 5 → FVec F S16x128 .f32 :=
  sumsOf (tileP x0 x1 vp b t n) (idxOf b.val (tileC x2 b t n)) (wordOf b.val (tileC x2 b t n))
def tileN (b : Fin 8) (t : Fin 2) (n : BitVec 32) : Fin 5 → FVec F S1x128 .f32 :=
  cntsOf (tileP x0 x1 vp b t n) (idxOf b.val (tileC x2 b t n)) (wordOf b.val (tileC x2 b t n))

/-- Whether a document of length `n` reaches into its second tile. -/
def long (n : BitVec 32) : Prop := (Scalar.cmpi .ne (Scalar.extui (Scalar.cmpi .sgt n 256#32)) 0#32 : BitVec 1) = 1#1
instance (n : BitVec 32) : Decidable (long n) := by unfold long; infer_instance

/-- The five pairs' sums and counts of document `b`. -/
def docS (n : Fin 8 → BitVec 32) (b : Fin 8) (k : Fin 5) : FVec F S16x128 .f32 :=
  if long (n b) then addf (tileS x0 x1 x2 vp b 0 (n b) k) (tileS x0 x1 x2 vp b 1 (n b) k) else tileS x0 x1 x2 vp b 0 (n b) k
def docN (n : Fin 8 → BitVec 32) (b : Fin 8) (k : Fin 5) : FVec F S1x128 .f32 :=
  if long (n b) then addf (tileN x0 x1 x2 vp b 0 (n b) k) (tileN x0 x1 x2 vp b 1 (n b) k) else tileN x0 x1 x2 vp b 0 (n b) k
end

/-- The sums of the first `n` documents of the point in place. -/
def docsA (n : ℕ) (S : Fin 8 → Fin 5 → FVec F S16x128 .f32) (a : Vec F S8x5x16x128 .f32) : Vec F S8x5x16x128 .f32 :=
  fun y => if (y 0).val < n then S (y 0) (y 1) (ix2 (y 2) (y 3)) else a y
/-- The counts of the first `n` documents of point `g` in place. -/
def docsD (g n : ℕ) (N : Fin 8 → Fin 5 → FVec F S1x128 .f32) (d : Vec F S5x256x128 .f32) : Vec F S5x256x128 .f32 :=
  fun y => if 8 * g ≤ (y 1).val ∧ (y 1).val < 8 * g + n then N ⟨(y 1).val % 8, Nat.mod_lt _ (by decide)⟩ (y 0) (ix2 0 (y 2)) else d y

theorem docsA_succ (n : ℕ) (hn : n < 8) (S : Fin 8 → Fin 5 → FVec F S16x128 .f32) (a : Vec F S8x5x16x128 .f32) :
    fillA n 5 (S ⟨n, hn⟩) (docsA n S a) = docsA (n + 1) S a := by
  funext y
  have h1 : (y 1).val < 5 := (y 1).isLt
  unfold fillA docsA
  by_cases h : (y 0).val = n
  · rw [if_pos ⟨h, h1⟩, if_pos (by omega)]
    have e : (⟨n, hn⟩ : Fin 8) = y 0 := Fin.ext h.symm
    rw [e]
  · rw [if_neg (fun hh => h hh.1)]
    by_cases h' : (y 0).val < n
    · rw [if_pos h', if_pos (by omega)]
    · rw [if_neg h', if_neg (by omega)]
theorem docsD_succ (g n : ℕ) (hn : n < 8) (N : Fin 8 → Fin 5 → FVec F S1x128 .f32) (d : Vec F S5x256x128 .f32) :
    fillD (8 * g + n) 5 (N ⟨n, hn⟩) (docsD g n N d) = docsD g (n + 1) N d := by
  funext y
  have h1 : (y 0).val < 5 := (y 0).isLt
  unfold fillD docsD
  by_cases h : (y 1).val = 8 * g + n
  · rw [if_pos ⟨h, h1⟩, if_pos (by omega)]
    have e : (⟨n, hn⟩ : Fin 8) = ⟨(y 1).val % 8, Nat.mod_lt _ (by decide)⟩ := Fin.ext (by show n = (y 1).val % 8; omega)
    rw [e]
  · rw [if_neg (fun hh => h hh.1)]
    by_cases h' : 8 * g ≤ (y 1).val ∧ (y 1).val < 8 * g + n
    · rw [if_pos h', if_pos (by omega)]
    · rw [if_neg h', if_neg (by omega)]
theorem docsA_zero (S : Fin 8 → Fin 5 → FVec F S16x128 .f32) (a : Vec F S8x5x16x128 .f32) : docsA 0 S a = a := by funext y; simp [docsA]
theorem docsD_zero (g : ℕ) (N : Fin 8 → Fin 5 → FVec F S1x128 .f32) (d : Vec F S5x256x128 .f32) : docsD g 0 N d = d := by
  funext y
  exact if_neg (by omega)
theorem readA_docs (S : Fin 8 → Fin 5 → FVec F S16x128 .f32) (a : Vec F S8x5x16x128 .f32) (b : Fin 8) (k : Fin 5) :
    readA b k (docsA 8 S a) = S b k := by
  funext j
  refine (if_pos b.isLt).trans ?_
  exact congrArg (S b k) (eq_ix2 j).symm

theorem fillA_fill (b : ℕ) (S S' : Fin 5 → FVec F S16x128 .f32) (a : Vec F S8x5x16x128 .f32) : fillA b 5 S' (fillA b 5 S a) = fillA b 5 S' a := by
  funext y
  unfold fillA
  by_cases h : (y 0).val = b ∧ (y 1).val < 5
  · rw [if_pos h, if_pos h]
  · rw [if_neg h, if_neg h, if_neg h]
theorem fillD_fill (r : ℕ) (N N' : Fin 5 → FVec F S1x128 .f32) (d : Vec F S5x256x128 .f32) : fillD r 5 N' (fillD r 5 N d) = fillD r 5 N' d := by
  funext y
  unfold fillD
  by_cases h : (y 1).val = r ∧ (y 0).val < 5
  · rw [if_pos h, if_pos h]
  · rw [if_neg h, if_neg h, if_neg h]
theorem readA_fill5 (b : Fin 8) (k : Fin 5) (S : Fin 5 → FVec F S16x128 .f32) (a : Vec F S8x5x16x128 .f32) : readA b k (fillA b.val 5 S a) = S k := by
  funext j
  refine (if_pos ⟨rfl, k.isLt⟩).trans ?_
  exact congrArg (S k) (eq_ix2 j).symm
theorem readD_fill5 (r : Fin 256) (k : Fin 5) (N : Fin 5 → FVec F S1x128 .f32) (d : Vec F S5x256x128 .f32) : readD r k (fillD r.val 5 N d) = N k := by
  funext j
  refine (if_pos ⟨rfl, k.isLt⟩).trans ?_
  have h0 : (0 : Fin 1) = j 0 := Subsingleton.elim _ _
  show N k (ix2 0 (j 1)) = N k j
  rw [h0]
  exact congrArg (N k) (eq_ix2 j).symm

/-- The point's rows of the first result, from its documents' sums. -/
def fdeOf (S : Fin 8 → Fin 5 → FVec F S16x128 .f32) : Vec F S8x10240 .bf16 := fun y =>
  FloatOps.truncf .bf16 bitsLt_bf16_f32 (turned (fun b => S b ⟨(y 1).val / 2048, by have h : (y 1).val < 10240 := (y 1).isLt; omega⟩)
    (ix2 ⟨8 * ((y 1).val / 128 % 16) + (y 0).val, by have h : (y 0).val < 8 := (y 0).isLt; omega⟩ ⟨(y 1).val % 128, Nat.mod_lt _ (by decide)⟩))
/-- The second result, from the counts collected. -/
def cntOf (d : Vec F S5x256x128 .f32) : Vec F S10x64x200 .i32 := fun y =>
  counts (fun j => d (ix3 ⟨(y 0).val / 2, by have h : (y 0).val < 10 := (y 0).isLt; omega⟩ (j 1) (j 2)))
    (ix2 ⟨64 * ((y 0).val % 2) + (y 1).val, by have h : (y 1).val < 64 := (y 1).isLt; omega⟩
      ⟨(y 2).val, by have h : (y 2).val < 200 := (y 2).isLt; omega⟩)

end Cert.KernelIdeal.Hand

end
-- ==== Proof.Triples.lean ====
/- The body's fragments run with their contents named: what each leaves in the scratch buffers and the results. -/
module

public import proofs.«01_k».proof.Proof.Steps
public import proofs.«01_k».proof.Proof.State

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords)
  (arg2 : Memref sig .tc .vmem S8x512x768 .fp8e4m3)
  (arg3 : Memref sig .tc .vmem S8x512 .f32) (arg4 : Memref sig .tc .vmem S10x8x512 .i32) (arg5 : Memref sig .tc .vmem S160x768 .fp8e4m3)
  (arg6 : Memref sig .tc .vmem S8x10240 .bf16) (harg6 : arg6.IsWhole) (arg7 : Memref sig .tc .vmem S10x64x200 .i32)
  (arg8 : Memref sig .tc .vmem S8x5x16x128 .f32) (arg9 : Memref sig .tc .vmem S5x256x128 .f32)

abbrev WP {α : Type} (c : Dev nD) (E : Set ℕ) (p : Body F α) (K : α → sProp 𝕄) : sProp 𝕄 :=
  wp frame (wpE (defs₀ (F := F)) Variants.none c none) E p K
abbrev Ow {s : Shape} {e : EltTy} (c : Dev nD) (m : Memref sig .tc .vmem s e) (v : s.Idx → Elt F e) : sProp 𝕄 :=
  owns (c : Thread nD τ) m fullShare v

/-! ## The scratch buffers -/

section
variable (b k : ℕ) (hb : b < 8) (hk : k < 5) (S : Fin 5 → FVec F S16x128 .f32) (N : Fin 5 → FVec F S1x128 .f32)
  (a : Vec F S8x5x16x128 .f32) (d : Vec F S5x256x128 .f32)

theorem wp_loadAcc (K : Vec F S1x1x16x128 .f32 → sProp 𝕄) :
    iprop(Ow c arg8 a ∗ (Ow c arg8 a -∗ K (fun j => a (ix4 ⟨b, hb⟩ ⟨k, hk⟩ (j 2) (j 3))))) ⊢ WP c E (loadAcc arg8 b k hb hk) K :=
  load_owns_eq c E arg8 (Rect.unit (s := S8x5x16x128) ![b, k, 0, 0] S1x1x16x128.size (inb_acc b k hb hk)) (View.loadsAt_vmem h_S1x1x16x128) a _ (load_acc b k hb hk a) K
theorem wp_storeAcc (K : PUnit → sProp 𝕄) : iprop(Ow c arg8 (fillA b k S a) ∗ (Ow c arg8 (fillA b (k + 1) S a) -∗ K ⟨⟩))
    ⊢ WP c E (storeAcc arg8 b k hb hk (S ⟨k, hk⟩)) K :=
  store_owns c E arg8 _ _ _ _ _ _ (fillA_in b k hb hk S a) (fillA_out b k hb hk S a) K
theorem wp_loadCnt (K : Vec F S1x1x128 .f32 → sProp 𝕄) :
    iprop(Ow c arg9 d ∗ (Ow c arg9 d -∗ K (fun j => d (ix3 ⟨k, hk⟩ ⟨8 * (i 0).val + b, row_lt i b hb⟩ (j 2))))) ⊢ WP c E (loadCnt i arg9 b k hb hk) K :=
  load_owns_eq c E arg9 (Rect.unit (s := S5x256x128) (cntOff i b k) S1x1x128.size (inb_cnt i b k hb hk)) (View.loadsAt_vmem h_S1x1x128) d _ (load_cnt i b k hb hk d) K
theorem wp_storeCnt (K : PUnit → sProp 𝕄) : iprop(Ow c arg9 (fillD (8 * (i 0).val + b) k N d) ∗ (Ow c arg9 (fillD (8 * (i 0).val + b) (k + 1) N d) -∗ K ⟨⟩))
    ⊢ WP c E (storeCnt i arg9 b k hb hk (N ⟨k, hk⟩)) K :=
  store_owns c E arg9 _ _ _ _ _ _ (fillD_in i b k hb hk N d) (fillD_out i b k hb hk N d) K

/-- Both scratch buffers with the first `k` pairs of document `b` in place. -/
abbrev AD (k : ℕ) : sProp 𝕄 := iprop(Ow c arg8 (fillA b k S a) ∗ Ow c arg9 (fillD (8 * (i 0).val + b) k N d))

theorem wp_put (K : PUnit → sProp 𝕄) : iprop(AD c i arg8 arg9 b S N a d k ∗ (AD c i arg8 arg9 b S N a d (k + 1) -∗ K ⟨⟩))
    ⊢ WP c E (put i arg8 arg9 b k hb hk (S ⟨k, hk⟩) (N ⟨k, hk⟩)) K := by
  unfold put
  simp only [wp_bind, WP]
  iintro ⟨⟨HA, HD⟩, Hk⟩
  iapply (wp_loadAcc c E arg8 b k hb hk _ _)
  isplitl [HA]; · iexact HA
  iintro HA
  iapply (wp_storeAcc c E arg8 b k hb hk S a _)
  isplitl [HA]; · iexact HA
  iintro HA
  iapply (wp_loadCnt c E i arg9 b k hb hk _ _)
  isplitl [HD]; · iexact HD
  iintro HD
  iapply (wp_storeCnt c E i arg9 b k hb hk N d _)
  isplitl [HD]; · iexact HD
  iintro HD
  iapply Hk
  isplitl [HA]; · iexact HA
  iexact HD

theorem wp_add (s : FVec F S16x128 .f32) (n : FVec F S1x128 .f32) (hS : S ⟨k, hk⟩ = addf (readA ⟨b, hb⟩ ⟨k, hk⟩ a) s)
    (hN : N ⟨k, hk⟩ = addf (readD ⟨8 * (i 0).val + b, row_lt i b hb⟩ ⟨k, hk⟩ d) n) (K : PUnit → sProp 𝕄) :
    iprop(AD c i arg8 arg9 b S N a d k ∗ (AD c i arg8 arg9 b S N a d (k + 1) -∗ K ⟨⟩))
    ⊢ WP c E (add i arg8 arg9 b k hb hk s n) K := by
  unfold add
  simp only [wp_bind, WP]
  iintro ⟨⟨HA, HD⟩, Hk⟩
  iapply (wp_loadAcc c E arg8 b k hb hk _ _)
  isplitl [HA]; · iexact HA
  iintro HA
  iapply (wp_loadAcc c E arg8 b k hb hk _ _)
  isplitl [HA]; · iexact HA
  iintro HA
  rw [cast_acc, readA_fill, ← hS]
  iapply (wp_storeAcc c E arg8 b k hb hk S a _)
  isplitl [HA]; · iexact HA
  iintro HA
  iapply (wp_loadCnt c E i arg9 b k hb hk _ _)
  isplitl [HD]; · iexact HD
  iintro HD
  iapply (wp_loadCnt c E i arg9 b k hb hk _ _)
  isplitl [HD]; · iexact HD
  iintro HD
  rw [cast_cnt, readD_fill, ← hN]
  iapply (wp_storeCnt c E i arg9 b k hb hk N d _)
  isplitl [HD]; · iexact HD
  iintro HD
  iapply Hk
  isplitl [HA]; · iexact HA
  iexact HD
end

/-! ## A tile, a document, the eight documents -/

section
variable (x0 : Vec F S8x512x768 .fp8e4m3) (x1 : Vec F S8x512 .f32) (x2 : Vec F S10x8x512 .i32) (xt : TbBuf (F := F) c tbM) (vp : FVec F S160x768 .fp8e4m3)

/-- The point's tokens, scales and codes. -/
abbrev Ins : sProp 𝕄 := iprop(Ow c arg2 x0 ∗ Ow c arg3 x1 ∗ Ow c arg4 x2)

theorem load_x (b t : ℕ) (hb : b < 8) (ht : t < 2) :
    (fun j : S1x256x768.Idx => x0 ((Rect.unit (s := S8x512x768) ![b, 256 * t, 0] S1x256x768.size (inb_x b t hb ht)).emb j)) = xT ⟨b, hb⟩ ⟨t, ht⟩ x0 := by
  funext j
  have h0 : (j 0).val < 1 := (j 0).isLt
  refine congrArg x0 ?_
  funext x; apply Fin.ext
  match x with
  | ⟨0, _⟩ => show b + 1 * (j 0).val = b; omega
  | ⟨1, _⟩ => show 256 * t + 1 * (j 1).val = 256 * t + (j 1).val; omega
  | ⟨2, _⟩ => show 0 + 1 * (j 2).val = (j 2).val; omega
theorem load_s (b t : ℕ) (hb : b < 8) (ht : t < 2) :
    (fun j : S1x256.Idx => x1 ((Rect.unit (s := S8x512) ![b, 256 * t] S1x256.size (inb_scale b t hb ht)).emb j)) = sT ⟨b, hb⟩ ⟨t, ht⟩ x1 := by
  funext j
  have h0 : (j 0).val < 1 := (j 0).isLt
  refine congrArg x1 ?_
  funext x; apply Fin.ext
  match x with
  | ⟨0, _⟩ => show b + 1 * (j 0).val = b; omega
  | ⟨1, _⟩ => show 256 * t + 1 * (j 1).val = 256 * t + (j 1).val; omega
theorem load_c (b t : ℕ) (hb : b < 8) (ht : t < 2) :
    (fun j : S10x1x256.Idx => x2 ((Rect.unit (s := S10x8x512) ![0, b, 256 * t] S10x1x256.size (inb_code b t hb ht)).emb j)) = cT ⟨b, hb⟩ ⟨t, ht⟩ x2 := by
  funext j
  have h1 : (j 1).val < 1 := (j 1).isLt
  refine congrArg x2 ?_
  funext x; apply Fin.ext
  match x with
  | ⟨0, _⟩ => show 0 + 1 * (j 0).val = (j 0).val; omega
  | ⟨1, _⟩ => show b + 1 * (j 1).val = b; omega
  | ⟨2, _⟩ => show 256 * t + 1 * (j 2).val = 256 * t + (j 2).val; omega

theorem wp_loadX (b t : ℕ) (hb : b < 8) (ht : t < 2) (K : Vec F S1x256x768 .fp8e4m3 → sProp 𝕄) :
    iprop(Ow c arg2 x0 ∗ (Ow c arg2 x0 -∗ K (xT ⟨b, hb⟩ ⟨t, ht⟩ x0))) ⊢ WP c E (loadX arg2 b t hb ht) K :=
  load_owns_eq c E arg2 (Rect.unit (s := S8x512x768) ![b, 256 * t, 0] S1x256x768.size (inb_x b t hb ht)) (View.loadsAt_vmem h_S1x256x768) x0 _ (load_x x0 b t hb ht) K
theorem wp_loadScale (b t : ℕ) (hb : b < 8) (ht : t < 2) (K : Vec F S1x256 .f32 → sProp 𝕄) :
    iprop(Ow c arg3 x1 ∗ (Ow c arg3 x1 -∗ K (sT ⟨b, hb⟩ ⟨t, ht⟩ x1))) ⊢ WP c E (loadScale arg3 b t hb ht) K :=
  load_owns_eq c E arg3 (Rect.unit (s := S8x512) ![b, 256 * t] S1x256.size (inb_scale b t hb ht)) (View.loadsAt_vmem h_S1x256) x1 _ (load_s x1 b t hb ht) K
theorem wp_loadCode (b t : ℕ) (hb : b < 8) (ht : t < 2) (K : Vec F S10x1x256 .i32 → sProp 𝕄) :
    iprop(Ow c arg4 x2 ∗ (Ow c arg4 x2 -∗ K (cT ⟨b, hb⟩ ⟨t, ht⟩ x2))) ⊢ WP c E (loadCode arg4 b t hb ht) K :=
  load_owns_eq c E arg4 (Rect.unit (s := S10x8x512) ![0, b, 256 * t] S10x1x256.size (inb_code b t hb ht)) (View.loadsAt_vmem h_S10x1x256) x2 _ (load_c x2 b t hb ht) K

/-- What is done with the five pairs' sums and counts, in order. -/
def five (f : (k : ℕ) → k < 5 → FVec F S16x128 .f32 → FVec F S1x128 .f32 → Body F PUnit) (S : Fin 5 → FVec F S16x128 .f32)
    (N : Fin 5 → FVec F S1x128 .f32) : Body F PUnit := do
  f 0 (by omega) (S 0) (N 0)
  f 1 (by omega) (S 1) (N 1)
  f 2 (by omega) (S 2) (N 2)
  f 3 (by omega) (S 3) (N 3)
  f 4 (by omega) (S 4) (N 4)

theorem wp_five (f : (k : ℕ) → k < 5 → FVec F S16x128 .f32 → FVec F S1x128 .f32 → Body F PUnit) (S : Fin 5 → FVec F S16x128 .f32)
    (N : Fin 5 → FVec F S1x128 .f32) (R : ℕ → sProp 𝕄)
    (hf : ∀ (k : ℕ) (hk : k < 5) (K : PUnit → sProp 𝕄), iprop(R k ∗ (R (k + 1) -∗ K ⟨⟩)) ⊢ WP c E (f k hk (S ⟨k, hk⟩) (N ⟨k, hk⟩)) K)
    (K : PUnit → sProp 𝕄) : iprop(R 0 ∗ (R 5 -∗ K ⟨⟩)) ⊢ WP c E (five f S N) K := by
  have h0 := fun K => hf 0 (by omega) K
  have h1 := fun K => hf 1 (by omega) K
  have h2 := fun K => hf 2 (by omega) K
  have h3 := fun K => hf 3 (by omega) K
  have h4 := fun K => hf 4 (by omega) K
  unfold five
  simp only [wp_bind, WP]
  iintro ⟨HR, Hk⟩
  iapply (h0 _)
  isplitl [HR]; · iexact HR
  iintro HR
  iapply (h1 _)
  isplitl [HR]; · iexact HR
  iintro HR
  iapply (h2 _)
  isplitl [HR]; · iexact HR
  iintro HR
  iapply (h3 _)
  isplitl [HR]; · iexact HR
  iintro HR
  iapply (h4 _)
  isplitl [HR]; · iexact HR
  iexact Hk

theorem tile_eq (b t : ℕ) (hb : b < 8) (ht : t < 2) (n : BitVec 32) (vp : FVec F S160x768 .fp8e4m3)
    (f : (k : ℕ) → k < 5 → FVec F S16x128 .f32 → FVec F S1x128 .f32 → Body F PUnit) :
    tile arg2 arg3 arg4 b t hb ht n vp f = (do
      let vs ← loadScale arg3 b t hb ht
      let vc ← loadCode arg4 b t hb ht
      let vx ← loadX arg2 b t hb ht
      five f (sumsOf (proj t n vp vs vx) (idxOf b (codeRow (F := F) t n vc)) (wordOf b (codeRow (F := F) t n vc)))
        (cntsOf (proj t n vp vs vx) (idxOf b (codeRow (F := F) t n vc)) (wordOf b (codeRow (F := F) t n vc))) : Body F PUnit) := rfl

theorem wp_tile (b t : ℕ) (hb : b < 8) (ht : t < 2) (n : BitVec 32) (f : (k : ℕ) → k < 5 → FVec F S16x128 .f32 → FVec F S1x128 .f32 → Body F PUnit)
    (R : ℕ → sProp 𝕄)
    (hf : ∀ (k : ℕ) (hk : k < 5) (K : PUnit → sProp 𝕄), iprop(R k ∗ (R (k + 1) -∗ K ⟨⟩))
      ⊢ WP c E (f k hk (tileS x0 x1 x2 vp ⟨b, hb⟩ ⟨t, ht⟩ n ⟨k, hk⟩) (tileN x0 x1 x2 vp ⟨b, hb⟩ ⟨t, ht⟩ n ⟨k, hk⟩)) K) (K : PUnit → sProp 𝕄) :
    iprop(Ins c arg2 arg3 arg4 x0 x1 x2 ∗ R 0 ∗ (Ins c arg2 arg3 arg4 x0 x1 x2 -∗ R 5 -∗ K ⟨⟩))
    ⊢ WP c E (tile arg2 arg3 arg4 b t hb ht n vp f) K := by
  rw [tile_eq]
  simp only [wp_bind, WP]
  iintro ⟨⟨H2, H3, H4⟩, HR, Hk⟩
  iapply (wp_loadScale c E arg3 x1 b t hb ht _)
  isplitl [H3]; · iexact H3
  iintro H3
  iapply (wp_loadCode c E arg4 x2 b t hb ht _)
  isplitl [H4]; · iexact H4
  iintro H4
  iapply (wp_loadX c E arg2 x0 b t hb ht _)
  isplitl [H2]; · iexact H2
  iintro H2
  iapply (wp_five c E f (tileS x0 x1 x2 vp ⟨b, hb⟩ ⟨t, ht⟩ n) (tileN x0 x1 x2 vp ⟨b, hb⟩ ⟨t, ht⟩ n) R hf _)
  isplitl [HR]; · iexact HR
  iintro HR
  iapply Hk $$ [H2 H3 H4] [HR]
  · isplitl [H2]; · iexact H2
    isplitl [H3]; · iexact H3
    iexact H4
  iexact HR

/-- The lengths of the point's documents, off the table. -/
def lens (i : grid0.Coords) (xt : Vec F S200 .i32) (b : Fin 8) : BitVec 32 :=
  xt (ix1 ⟨8 * (i 0).val + b.val, by have h : (i 0).val < 25 := (i 0).isLt; omega⟩)

theorem wp_loadLen (b : ℕ) (hb : b < 8) (K : Elt F .i32 → sProp 𝕄) :
    iprop(tbPt c tbM xt ∗ (tbPt c tbM xt -∗ K (lens i xt ⟨b, hb⟩))) ⊢ WP c E (loadLen i tbM b hb) K := by
  unfold loadLen smemLoad tbPt
  iintro ⟨HT, Hk⟩
  iapply (wp_smemLoadElt Variants.none (c : Thread nD τ) none E (m := tbM) (r := Rect.unit (s := S200) (lenOff i b) S1.size (inb_len i b hb))
    (S := Finset.univ) (f := xt) (q := fullShare.right) (Finset.subset_univ _)) $$ HT
  iintro HT
  iapply le_wp_ret
  have e : (tbM.access (Rect.unit (s := S200) (lenOff i b) S1.size (inb_len i b hb))).read (Elt F) xt
      (Shape.Idx.first (numel1_S1.symm ▸ Nat.one_pos)) = lens i xt ⟨b, hb⟩ := by
    show xt _ = xt _
    refine congrArg xt ?_
    have hr := rowW_toNat i b hb
    funext x; apply Fin.ext
    match x with
    | ⟨0, _⟩ =>
      have h0 : (Shape.Idx.first (numel1_S1.symm ▸ Nat.one_pos : 0 < S1.numel) 0).val < 1 := (Shape.Idx.first (s := S1) _ 0).isLt
      show (rowW i b).toNat + 1 * (Shape.Idx.first (numel1_S1.symm ▸ Nat.one_pos : 0 < S1.numel) 0).val = 8 * (i 0).val + b
      omega
  rw [e]
  iapply Hk
  iexact HT

/-- The scratch buffers as a document finds and leaves them. -/
abbrev Docs (S : Fin 8 → Fin 5 → FVec F S16x128 .f32) (N : Fin 8 → Fin 5 → FVec F S1x128 .f32) (a : Vec F S8x5x16x128 .f32) (d : Vec F S5x256x128 .f32)
    (n : ℕ) : sProp 𝕄 := iprop(Ow c arg8 (docsA n S a) ∗ Ow c arg9 (docsD (i 0).val n N d))

theorem wp_doc (b : ℕ) (hb : b < 8) (a : Vec F S8x5x16x128 .f32) (d : Vec F S5x256x128 .f32) (K : PUnit → sProp 𝕄) :
    iprop(Ins c arg2 arg3 arg4 x0 x1 x2 ∗ tbPt c tbM xt
        ∗ Docs c i arg8 arg9 (docS x0 x1 x2 vp (lens i xt)) (docN x0 x1 x2 vp (lens i xt)) a d b
        ∗ (Ins c arg2 arg3 arg4 x0 x1 x2 -∗ tbPt c tbM xt
          -∗ Docs c i arg8 arg9 (docS x0 x1 x2 vp (lens i xt)) (docN x0 x1 x2 vp (lens i xt)) a d (b + 1) -∗ K ⟨⟩))
    ⊢ WP c E (doc i tbM arg2 arg3 arg4 arg8 arg9 vp b hb) K := by
  have hS := docsA_succ b hb (docS x0 x1 x2 vp (lens i xt)) a
  have hN := docsD_succ (i 0).val b hb (docN x0 x1 x2 vp (lens i xt)) d
  have g : ∀ n, (Scalar.cmpi .ne (Scalar.extui (Scalar.cmpi .sgt n 256#32)) 0#32 : BitVec 1) = 1#1 ↔ long n := fun n => Iff.rfl
  unfold Docs
  rw [← hS, ← hN]
  generalize docsA b (docS x0 x1 x2 vp (lens i xt)) a = a'
  generalize docsD (i 0).val b (docN x0 x1 x2 vp (lens i xt)) d = d'
  unfold doc
  simp only [wp_bind, WP]
  iintro ⟨HI, HT, ⟨HA, HD⟩, Hk⟩
  iapply (wp_loadLen c E i xt b hb _)
  isplitl [HT]; · iexact HT
  iintro HT
  iapply (wp_tile c E arg2 arg3 arg4 x0 x1 x2 vp b 0 hb _ (lens i xt ⟨b, hb⟩) _
    (AD c i arg8 arg9 b (tileS x0 x1 x2 vp ⟨b, hb⟩ 0 (lens i xt ⟨b, hb⟩)) (tileN x0 x1 x2 vp ⟨b, hb⟩ 0 (lens i xt ⟨b, hb⟩)) a' d')
    (fun k hk K => wp_put c E i arg8 arg9 b k hb hk _ _ a' d' K) _)
  isplitl [HI]; · iexact HI
  isplitl [HA HD]
  · unfold AD; rw [fillA_zero, fillD_zero]; isplitl [HA]; · iexact HA
    iexact HD
  iintro HI ⟨HA, HD⟩
  by_cases hl : long (lens i xt ⟨b, hb⟩)
  · rw [if_pos ((g _).mpr hl)]
    have eS : docS x0 x1 x2 vp (lens i xt) ⟨b, hb⟩ = fun k => addf (tileS x0 x1 x2 vp ⟨b, hb⟩ 0 (lens i xt ⟨b, hb⟩) k) (tileS x0 x1 x2 vp ⟨b, hb⟩ 1 (lens i xt ⟨b, hb⟩) k) :=
      funext fun k => if_pos hl
    have eN : docN x0 x1 x2 vp (lens i xt) ⟨b, hb⟩ = fun k => addf (tileN x0 x1 x2 vp ⟨b, hb⟩ 0 (lens i xt ⟨b, hb⟩) k) (tileN x0 x1 x2 vp ⟨b, hb⟩ 1 (lens i xt ⟨b, hb⟩) k) :=
      funext fun k => if_pos hl
    rw [eS, eN]
    iapply (wp_tile c E arg2 arg3 arg4 x0 x1 x2 vp b 1 hb _ (lens i xt ⟨b, hb⟩) _
      (AD c i arg8 arg9 b (fun k => addf (tileS x0 x1 x2 vp ⟨b, hb⟩ 0 (lens i xt ⟨b, hb⟩) k) (tileS x0 x1 x2 vp ⟨b, hb⟩ 1 (lens i xt ⟨b, hb⟩) k))
        (fun k => addf (tileN x0 x1 x2 vp ⟨b, hb⟩ 0 (lens i xt ⟨b, hb⟩) k) (tileN x0 x1 x2 vp ⟨b, hb⟩ 1 (lens i xt ⟨b, hb⟩) k))
        (fillA b 5 (tileS x0 x1 x2 vp ⟨b, hb⟩ 0 (lens i xt ⟨b, hb⟩)) a') (fillD (8 * (i 0).val + b) 5 (tileN x0 x1 x2 vp ⟨b, hb⟩ 0 (lens i xt ⟨b, hb⟩)) d'))
      (fun k hk K => wp_add c E i arg8 arg9 b k hb hk _ _ _ _ _ _
        (by rw [readA_fill5 ⟨b, hb⟩ ⟨k, hk⟩ _ a']; rfl) (by rw [readD_fill5 ⟨8 * (i 0).val + b, row_lt i b hb⟩ ⟨k, hk⟩ _ d']; rfl) K) _)
    isplitl [HI]; · iexact HI
    isplitl [HA HD]
    · unfold AD; rw [fillA_zero, fillD_zero]; isplitl [HA]; · iexact HA
      iexact HD
    iintro HI ⟨HA, HD⟩
    rw [fillA_fill, fillD_fill]
    iapply Hk $$ HI HT
    isplitl [HA]; · iexact HA
    iexact HD
  · rw [if_neg (fun h => hl ((g _).mp h))]
    have eS : docS x0 x1 x2 vp (lens i xt) ⟨b, hb⟩ = tileS x0 x1 x2 vp ⟨b, hb⟩ 0 (lens i xt ⟨b, hb⟩) := funext fun k => if_neg hl
    have eN : docN x0 x1 x2 vp (lens i xt) ⟨b, hb⟩ = tileN x0 x1 x2 vp ⟨b, hb⟩ 0 (lens i xt ⟨b, hb⟩) := funext fun k => if_neg hl
    rw [eS, eN]
    iapply le_wp_ret
    iapply Hk $$ HI HT
    isplitl [HA]; · iexact HA
    iexact HD

theorem wp_docs (a : Vec F S8x5x16x128 .f32) (d : Vec F S5x256x128 .f32) (n : ℕ) (hn : n ≤ 8) (K : PUnit → sProp 𝕄) :
    iprop(Ins c arg2 arg3 arg4 x0 x1 x2 ∗ tbPt c tbM xt ∗ Ow c arg8 a ∗ Ow c arg9 d
        ∗ (Ins c arg2 arg3 arg4 x0 x1 x2 -∗ tbPt c tbM xt
          -∗ Docs c i arg8 arg9 (docS x0 x1 x2 vp (lens i xt)) (docN x0 x1 x2 vp (lens i xt)) a d n -∗ K ⟨⟩))
    ⊢ WP c E (docs i tbM arg2 arg3 arg4 arg8 arg9 vp n hn) K := by
  induction n generalizing K with
  | zero =>
    unfold docs Docs
    rw [docsA_zero, docsD_zero]
    iintro ⟨HI, HT, HA, HD, Hk⟩
    iapply le_wp_ret
    iapply Hk $$ HI HT
    isplitl [HA]; · iexact HA
    iexact HD
  | succ n ih =>
    unfold docs
    simp only [wp_bind, WP]
    iintro ⟨HI, HT, HA, HD, Hk⟩
    iapply (ih _ _)
    isplitl [HI]; · iexact HI
    isplitl [HT]; · iexact HT
    isplitl [HA]; · iexact HA
    isplitl [HD]; · iexact HD
    iintro HI HT HS
    iapply (wp_doc c E i arg2 arg3 arg4 arg8 arg9 x0 x1 x2 xt vp n _ a d _)
    isplitl [HI]; · iexact HI
    isplitl [HT]; · iexact HT
    isplitl [HS]; · iexact HS
    iexact Hk

/-! ## The first result -/

theorem wp_putFde (k : ℕ) (hk : k < 5) (mm : FVec F S128x128 .f32) (x : ℕ) (hx : x < 16) (M v : Vec F S8x10240 .bf16)
    (hM : ∀ j : S8x128.Idx, M (ix2 (j 0) ⟨128 * (16 * k + x) + (j 1).val, by have h : (j 1).val < 128 := (j 1).isLt; omega⟩)
      = truncf .bf16 (extractStridedSlice S8x128 ![8 * x, 0] mm (slices_m x hx)) bitsLt_bf16_f32 j) (K : PUnit → sProp 𝕄) :
    iprop(Ow c arg6 (fillF (16 * k + x) M v) ∗ (Ow c arg6 (fillF (16 * k + x + 1) M v) -∗ K ⟨⟩)) ⊢ WP c E (putFde arg6 harg6 k hk mm x hx) K := by
  unfold putFde
  simp only [wp_bind, WP]
  iintro ⟨H, Hk⟩
  iapply (load_owns c E arg6 (Rect.unit (s := S8x10240) ![0, (16 * k + x) * 128] S8x128.size (inb_fde (16 * k + x) (by omega))) (View.loadsAt_vmem h_S8x128) _ _)
  isplitl [H]; · iexact H
  iintro H
  iapply (store_owns c E arg6 _ _ _ _ _ _ (fillF_in (16 * k + x) (by omega) M v _ hM) (fillF_out (16 * k + x) (by omega) M v) K)
  isplitl [H]; · iexact H
  iexact Hk

theorem wp_putFdes (k : ℕ) (hk : k < 5) (mm : FVec F S128x128 .f32) (M v : Vec F S8x10240 .bf16)
    (hM : ∀ (x : ℕ) (hx : x < 16) (j : S8x128.Idx), M (ix2 (j 0) ⟨128 * (16 * k + x) + (j 1).val, by have h : (j 1).val < 128 := (j 1).isLt; omega⟩)
      = truncf .bf16 (extractStridedSlice S8x128 ![8 * x, 0] mm (slices_m x hx)) bitsLt_bf16_f32 j) (n : ℕ) (hn : n ≤ 16) (K : PUnit → sProp 𝕄) :
    iprop(Ow c arg6 (fillF (16 * k) M v) ∗ (Ow c arg6 (fillF (16 * k + n) M v) -∗ K ⟨⟩)) ⊢ WP c E (putFdes arg6 harg6 k hk mm n hn) K := by
  induction n generalizing K with
  | zero =>
    unfold putFdes
    iintro ⟨H, Hk⟩
    iapply le_wp_ret
    iapply Hk
    iexact H
  | succ n ih =>
    unfold putFdes
    simp only [wp_bind, WP]
    iintro ⟨H, Hk⟩
    iapply (ih _ _)
    isplitl [H]; · iexact H
    iintro H
    iapply (wp_putFde c E arg6 harg6 k hk mm n _ M v (hM n (show n < 16 by omega)) K)
    isplitl [H]; · iexact H
    iexact Hk

theorem fdeOf_block (S : Fin 8 → Fin 5 → FVec F S16x128 .f32) (k : ℕ) (hk : k < 5) (x : ℕ) (hx : x < 16) (j : S8x128.Idx) :
    fdeOf S (ix2 (j 0) ⟨128 * (16 * k + x) + (j 1).val, by have h : (j 1).val < 128 := (j 1).isLt; omega⟩)
      = truncf .bf16 (extractStridedSlice S8x128 ![8 * x, 0] (turned fun b => S b ⟨k, hk⟩) (slices_m x hx)) bitsLt_bf16_f32 j := by
  have h0 : (j 0).val < 8 := (j 0).isLt
  have h1 : (j 1).val < 128 := (j 1).isLt
  unfold fdeOf truncf
  refine congrArg (FloatOps.truncf .bf16 bitsLt_bf16_f32) ?_
  have e : (⟨(128 * (16 * k + x) + (j 1).val) / 2048, by omega⟩ : Fin 5) = ⟨k, hk⟩ := Fin.ext (by show (128 * (16 * k + x) + (j 1).val) / 2048 = k; omega)
  show turned (fun b => S b ⟨(128 * (16 * k + x) + (j 1).val) / 2048, _⟩) _ = turned (fun b => S b ⟨k, hk⟩) _
  rw [e]
  refine congrArg (turned fun b => S b ⟨k, hk⟩) ?_
  funext y; apply Fin.ext
  match y with
  | ⟨0, _⟩ => show 8 * ((128 * (16 * k + x) + (j 1).val) / 128 % 16) + (j 0).val = 8 * x + (j 0).val; omega
  | ⟨1, _⟩ => show (128 * (16 * k + x) + (j 1).val) % 128 = 0 + (j 1).val; omega

set_option maxHeartbeats 1600000 in
theorem wp_epi (S : Fin 8 → Fin 5 → FVec F S16x128 .f32) (a : Vec F S8x5x16x128 .f32) (v : Vec F S8x10240 .bf16) (k : ℕ) (hk : k < 5)
    (K : PUnit → sProp 𝕄) :
    iprop(Ow c arg8 (docsA 8 S a) ∗ Ow c arg6 (fillF (16 * k) (fdeOf S) v)
      ∗ (Ow c arg8 (docsA 8 S a) -∗ Ow c arg6 (fillF (16 * (k + 1)) (fdeOf S) v) -∗ K ⟨⟩)) ⊢ WP c E (epi arg6 harg6 arg8 k hk) K := by
  have e : ∀ (b : ℕ) (hb : b < 8), shapeCast S16x128 (fun j : S1x1x16x128.Idx => docsA 8 S a (ix4 ⟨b, hb⟩ ⟨k, hk⟩ (j 2) (j 3))) shapeCasts_S1x1x16x128_S16x128
      = S ⟨b, hb⟩ ⟨k, hk⟩ := fun b hb => (cast_acc b k hb hk (docsA 8 S a)).trans (readA_docs S a ⟨b, hb⟩ ⟨k, hk⟩)
  unfold epi
  simp only [wp_bind, WP]
  iintro ⟨HA, H, Hk⟩
  iapply (wp_loadAcc c E arg8 0 k _ hk _ _)
  isplitl [HA]; · iexact HA
  iintro HA
  iapply (wp_loadAcc c E arg8 1 k _ hk _ _)
  isplitl [HA]; · iexact HA
  iintro HA
  iapply (wp_loadAcc c E arg8 2 k _ hk _ _)
  isplitl [HA]; · iexact HA
  iintro HA
  iapply (wp_loadAcc c E arg8 3 k _ hk _ _)
  isplitl [HA]; · iexact HA
  iintro HA
  iapply (wp_loadAcc c E arg8 4 k _ hk _ _)
  isplitl [HA]; · iexact HA
  iintro HA
  iapply (wp_loadAcc c E arg8 5 k _ hk _ _)
  isplitl [HA]; · iexact HA
  iintro HA
  iapply (wp_loadAcc c E arg8 6 k _ hk _ _)
  isplitl [HA]; · iexact HA
  iintro HA
  iapply (wp_loadAcc c E arg8 7 k _ hk _ _)
  isplitl [HA]; · iexact HA
  iintro HA
  have et : (fun b : Fin 8 => shapeCast S16x128 ((![
      (fun j : S1x1x16x128.Idx => docsA 8 S a (ix4 ⟨0, by omega⟩ ⟨k, hk⟩ (j 2) (j 3))), (fun j : S1x1x16x128.Idx => docsA 8 S a (ix4 ⟨1, by omega⟩ ⟨k, hk⟩ (j 2) (j 3))),
      (fun j : S1x1x16x128.Idx => docsA 8 S a (ix4 ⟨2, by omega⟩ ⟨k, hk⟩ (j 2) (j 3))), (fun j : S1x1x16x128.Idx => docsA 8 S a (ix4 ⟨3, by omega⟩ ⟨k, hk⟩ (j 2) (j 3))),
      (fun j : S1x1x16x128.Idx => docsA 8 S a (ix4 ⟨4, by omega⟩ ⟨k, hk⟩ (j 2) (j 3))), (fun j : S1x1x16x128.Idx => docsA 8 S a (ix4 ⟨5, by omega⟩ ⟨k, hk⟩ (j 2) (j 3))),
      (fun j : S1x1x16x128.Idx => docsA 8 S a (ix4 ⟨6, by omega⟩ ⟨k, hk⟩ (j 2) (j 3))), (fun j : S1x1x16x128.Idx => docsA 8 S a (ix4 ⟨7, by omega⟩ ⟨k, hk⟩ (j 2) (j 3)))] : Fin 8 → Vec F S1x1x16x128 .f32) b) shapeCasts_S1x1x16x128_S16x128)
      = fun b => S b ⟨k, hk⟩ := by
    funext b
    fin_cases b
    · exact e 0 (by omega)
    · exact e 1 (by omega)
    · exact e 2 (by omega)
    · exact e 3 (by omega)
    · exact e 4 (by omega)
    · exact e 5 (by omega)
    · exact e 6 (by omega)
    · exact e 7 (by omega)
  rw [et]
  iapply (wp_putFdes c E arg6 harg6 k hk _ (fdeOf S) v (fun x hx j => fdeOf_block S k hk x hx j) 16 _ K)
  isplitl [H]; · iexact H
  iintro H
  iapply Hk $$ HA
  iexact H

theorem wp_epis (S : Fin 8 → Fin 5 → FVec F S16x128 .f32) (a : Vec F S8x5x16x128 .f32) (v : Vec F S8x10240 .bf16) (n : ℕ) (hn : n ≤ 5)
    (K : PUnit → sProp 𝕄) :
    iprop(Ow c arg8 (docsA 8 S a) ∗ Ow c arg6 v ∗ (Ow c arg8 (docsA 8 S a) -∗ Ow c arg6 (fillF (16 * n) (fdeOf S) v) -∗ K ⟨⟩))
      ⊢ WP c E (epis arg6 harg6 arg8 n hn) K := by
  induction n generalizing K with
  | zero =>
    unfold epis
    rw [show 16 * 0 = 0 from rfl, fillF_zero]
    iintro ⟨HA, H, Hk⟩
    iapply le_wp_ret
    iapply Hk $$ HA
    iexact H
  | succ n ih =>
    unfold epis
    simp only [wp_bind, WP]
    iintro ⟨HA, H, Hk⟩
    iapply (ih _ _)
    isplitl [HA]; · iexact HA
    isplitl [H]; · iexact H
    iintro HA H
    iapply (wp_epi c E arg6 harg6 arg8 S a v n _ K)
    isplitl [HA]; · iexact HA
    isplitl [H]; · iexact H
    iexact Hk

/-! ## The second result -/

theorem wp_putCnt (k : ℕ) (hk : k < 5) (q : ℕ) (hq : q < 2) (u : IVec S128x256 32) (U v : Vec F S10x64x200 .i32)
    (hU : ∀ j : S1x64x200.Idx, U (ix3 ⟨2 * k + q, by omega⟩ (j 1) (j 2))
      = shapeCast S1x64x200 (extractStridedSlice S64x200 ![64 * q, 0] u (slices_cnt q hq)) shapeCasts_S64x200_S1x64x200 j) (K : PUnit → sProp 𝕄) :
    iprop(Ow c arg7 (fillC (2 * k + q) U v) ∗ (Ow c arg7 (fillC (2 * k + q + 1) U v) -∗ K ⟨⟩)) ⊢ WP c E (putCnt arg7 k hk q hq u) K := by
  unfold putCnt
  simp only [wp_bind, WP]
  iintro ⟨H, Hk⟩
  iapply (load_owns c E arg7 (Rect.unit (s := S10x64x200) ![2 * k + q, 0, 0] S1x64x200.size (inb_cout (2 * k + q) (by omega))) (View.loadsAt_vmem h_S1x64x200) _ _)
  isplitl [H]; · iexact H
  iintro H
  iapply (store_owns c E arg7 _ _ _ _ _ _ (fillC_in (F := F) (2 * k + q) (by omega) U v _ hU) (fillC_out (F := F) (2 * k + q) (by omega) U v) K)
  isplitl [H]; · iexact H
  iexact Hk

theorem cntOf_block (d : Vec F S5x256x128 .f32) (k : ℕ) (hk : k < 5) (q : ℕ) (hq : q < 2) (j : S1x64x200.Idx) :
    cntOf d (ix3 ⟨2 * k + q, by omega⟩ (j 1) (j 2))
      = shapeCast S1x64x200 (extractStridedSlice S64x200 ![64 * q, 0] (counts (fun j : S1x256x128.Idx => d (ix3 ⟨k, hk⟩ (j 1) (j 2)))) (slices_cnt q hq)) shapeCasts_S64x200_S1x64x200 j := by
  have h1 : (j 1).val < 64 := (j 1).isLt
  have h2 : (j 2).val < 200 := (j 2).isLt
  have e : (⟨(2 * k + q) / 2, by omega⟩ : Fin 5) = ⟨k, hk⟩ := Fin.ext (by show (2 * k + q) / 2 = k; omega)
  show counts (fun j : S1x256x128.Idx => d (ix3 ⟨(2 * k + q) / 2, _⟩ (j 1) (j 2))) _ = _
  rw [e]
  generalize counts (fun j : S1x256x128.Idx => d (ix3 ⟨k, hk⟩ (j 1) (j 2))) = u
  have hs : shapeCast S1x64x200 (extractStridedSlice S64x200 ![64 * q, 0] u (slices_cnt q hq)) shapeCasts_S64x200_S1x64x200 j
      = extractStridedSlice S64x200 ![64 * q, 0] u (slices_cnt q hq) (ix2 (j 1) (j 2)) := by
    generalize extractStridedSlice S64x200 ![64 * q, 0] u (slices_cnt q hq) = w
    pointwise
  rw [hs]
  refine congrArg u ?_
  funext y; apply Fin.ext
  match y with
  | ⟨0, _⟩ => show 64 * ((2 * k + q) % 2) + (j 1).val = 64 * q + (j 1).val; omega
  | ⟨1, _⟩ => show (j 2).val = 0 + (j 2).val; omega

theorem load_blk (d : Vec F S5x256x128 .f32) (k : ℕ) (hk : k < 5) :
    (fun j : S1x256x128.Idx => d ((Rect.unit (s := S5x256x128) ![k, 0, 0] S1x256x128.size (inb_cblk k hk)).emb j))
      = fun j => d (ix3 ⟨k, hk⟩ (j 1) (j 2)) := by
  funext j
  refine congrArg d ?_
  have h0 : (j 0).val < 1 := (j 0).isLt
  funext x; apply Fin.ext
  match x with
  | ⟨0, _⟩ => show k + 1 * (j 0).val = k; omega
  | ⟨1, _⟩ => show 0 + 1 * (j 1).val = (j 1).val; omega
  | ⟨2, _⟩ => show 0 + 1 * (j 2).val = (j 2).val; omega

theorem wp_cnt (d : Vec F S5x256x128 .f32) (v : Vec F S10x64x200 .i32) (k : ℕ) (hk : k < 5) (K : PUnit → sProp 𝕄) :
    iprop(Ow c arg9 d ∗ Ow c arg7 (fillC (2 * k) (cntOf d) v)
      ∗ (Ow c arg9 d -∗ Ow c arg7 (fillC (2 * (k + 1)) (cntOf d) v) -∗ K ⟨⟩)) ⊢ WP c E (cnt arg7 arg9 k hk) K := by
  unfold cnt
  simp only [wp_bind, WP]
  iintro ⟨HD, H, Hk⟩
  iapply (load_owns_eq c E arg9 (Rect.unit (s := S5x256x128) ![k, 0, 0] S1x256x128.size (inb_cblk k hk)) (View.loadsAt_vmem h_S1x256x128) d _ (load_blk d k hk) _)
  isplitl [HD]; · iexact HD
  iintro HD
  iapply (wp_putCnt c E arg7 k hk 0 _ _ (cntOf d) v (cntOf_block d k hk 0 Nat.zero_lt_two) _)
  isplitl [H]; · iexact H
  iintro H
  iapply (wp_putCnt c E arg7 k hk 1 _ _ (cntOf d) v (cntOf_block d k hk 1 Nat.one_lt_two) _)
  isplitl [H]; · iexact H
  iintro H
  iapply Hk $$ HD
  iexact H

theorem wp_cnts (d : Vec F S5x256x128 .f32) (v : Vec F S10x64x200 .i32) (n : ℕ) (hn : n ≤ 5) (K : PUnit → sProp 𝕄) :
    iprop(Ow c arg9 d ∗ Ow c arg7 v
      ∗ (Ow c arg9 d -∗ Ow c arg7 (fillC (2 * n) (cntOf d) v) -∗ K ⟨⟩)) ⊢ WP c E (cnts arg7 arg9 n hn) K := by
  induction n generalizing K with
  | zero =>
    unfold cnts
    rw [show 2 * 0 = 0 from rfl, fillC_zero]
    iintro ⟨HD, H, Hk⟩
    iapply le_wp_ret
    iapply Hk $$ HD
    iexact H
  | succ n ih =>
    unfold cnts
    simp only [wp_bind, WP]
    iintro ⟨HD, H, Hk⟩
    iapply (ih _ _)
    isplitl [HD]; · iexact HD
    isplitl [H]; · iexact H
    iintro HD H
    iapply (wp_cnt c E arg7 arg9 d v n _ K)
    isplitl [HD]; · iexact HD
    isplitl [H]; · iexact H
    iexact Hk

/-! ## The body -/

theorem load_proj (x3 : Vec F S160x768 .fp8e4m3) :
    (fun j : S160x768.Idx => x3 ((Rect.unit (s := S160x768) ![0, 0] S160x768.size inb_S160x768_S160x768_0_0).emb j)) = x3 := by
  funext j
  refine congrArg x3 ?_
  funext x; apply Fin.ext
  match x with
  | ⟨0, _⟩ => show 0 + 1 * (j 0).val = (j 0).val; omega
  | ⟨1, _⟩ => show 0 + 1 * (j 1).val = (j 1).val; omega

/-- The body at point `i`: the point's rows of the first result; the counts' scratch with the point's rows filled; the second result
    from that scratch at the last point, untouched before. -/
theorem wp_body (x3 : Vec F S160x768 .fp8e4m3) (v : Vec F S10x64x200 .i32) (d : Vec F S5x256x128 .f32) (K : PUnit → sProp 𝕄) :
    iprop(Ins c arg2 arg3 arg4 x0 x1 x2 ∗ Ow c arg5 x3 ∗ (∃ e, Ow c arg6 e) ∗ Ow c arg7 v ∗ tbPt c tbM xt ∗ (∃ a, Ow c arg8 a) ∗ Ow c arg9 d
        ∗ (Ins c arg2 arg3 arg4 x0 x1 x2 -∗ Ow c arg5 x3 -∗ Ow c arg6 (fdeOf (docS x0 x1 x2 x3 (lens i xt)))
          -∗ Ow c arg7 (if k0_cond9 i = 1#1 then cntOf (docsD (i 0).val 8 (docN x0 x1 x2 x3 (lens i xt)) d) else v)
          -∗ tbPt c tbM xt -∗ (∃ a, Ow c arg8 a) -∗ Ow c arg9 (docsD (i 0).val 8 (docN x0 x1 x2 x3 (lens i xt)) d) -∗ K ⟨⟩))
    ⊢ WP c E (body i tbM arg2 arg3 arg4 arg5 arg6 harg6 arg7 arg8 arg9) K := by
  have e3 : shapeCast S160x768 x3 shapeCasts_S160x768_S160x768 = x3 := by funext j; pointwise
  unfold body
  simp only [wp_bind, WP]
  iintro ⟨HI, H3, ⟨%e, H6⟩, H7, HT, ⟨%a, HA⟩, HD, Hk⟩
  iapply (load_owns_eq c E arg5 (Rect.unit (s := S160x768) ![0, 0] S160x768.size inb_S160x768_S160x768_0_0) (View.loadsAt_vmem h_S160x768) x3 _ (load_proj x3) _)
  isplitl [H3]; · iexact H3
  iintro H3
  rw [e3]
  iapply (wp_docs c E i arg2 arg3 arg4 arg8 arg9 x0 x1 x2 xt x3 a d 8 _ _)
  isplitl [HI]; · iexact HI
  isplitl [HT]; · iexact HT
  isplitl [HA]; · iexact HA
  isplitl [HD]; · iexact HD
  iintro HI HT ⟨HA, HD⟩
  iapply (wp_epis c E arg6 harg6 arg8 _ a e 5 _ _)
  isplitl [HA]; · iexact HA
  isplitl [H6]; · iexact H6
  iintro HA H6
  rw [show 16 * 5 = 80 from rfl, fillF_all]
  by_cases hc : k0_cond9 i = 1#1
  · rw [dif_pos hc, if_pos hc]
    iapply (wp_cnts c E arg7 arg9 _ v 5 (le_refl 5) _)
    isplitl [HD]; · iexact HD
    isplitl [H7]; · iexact H7
    iintro HD H7
    rw [show 2 * 5 = 10 from rfl, fillC_all]
    iapply Hk $$ HI H3 H6 H7 HT [HA] HD
    iexists _; iexact HA
  · rw [dif_neg hc, if_neg hc]
    iapply le_wp_ret
    iapply Hk $$ HI H3 H6 H7 HT [HA] HD
    iexists _; iexact HA
end

end Cert.KernelIdeal.Hand

end
-- ==== Proof.Epilogue.lean ====
/- The point's epilogue read at an index: the sums of a document come back from the lanes its number turned them to, and so do the
   counts at the last point. -/
module

public import proofs.«01_k».proof.Proof.State

@[expose] public section

set_option maxRecDepth 16384

noncomputable section

namespace Cert.KernelIdeal.Hand

open Cert.KernelIdeal Cert.KernelIdeal.Gen
open Idealize.ShloMosaic Idealize.SL.Sem

variable {F : FTy → Type} [FloatOps F]

/-- Lane `l`'s place after its low three bits are moved up by `t` (around, within the group of eight). -/
def up (l : Fin 128) (t : ℕ) : Fin 128 := ⟨8 * (l.val / 8) + (l.val + t) % 8, by have h := l.isLt; omega⟩

theorem and7 : ∀ n : Fin 256, IntOp.andi (BitVec.ofNat 32 n.val) 7#32 = BitVec.ofNat 32 (n.val % 8) := by decide +kernel
theorem eq_word : ∀ a b : Fin 8, (IntOp.cmpi .eq (BitVec.ofNat 32 a.val) (BitVec.ofNat 32 b.val) = 1#1) ↔ a.val = b.val := by decide +kernel
theorem lt_word : ∀ a b : Fin 8, (IntOp.cmpi .slt (IntOp.addi (BitVec.ofNat 32 a.val) (BitVec.ofNat 32 b.val)) 8#32 = 1#1) ↔ a.val + b.val < 8 := by decide +kernel

theorem lowLane_read (r : Fin 256) (l : Fin 128) : lowLane (ix2 r l) = BitVec.ofNat 32 (l.val % 8) := by
  pointwise [lowLane]
  exact and7 ⟨l.val, by have h := l.isLt; omega⟩
theorem lowRow_read (r : Fin 256) (l : Fin 128) : lowRow (ix2 r l) = BitVec.ofNat 32 (r.val % 8) := by
  pointwise [lowRow]
  exact and7 r
theorem low_read (r : Fin 16) (l : Fin 128) : low (ix2 r l) = BitVec.ofNat 32 (l.val % 8) := by
  pointwise [low]
  exact and7 ⟨l.val, by have h := l.isLt; omega⟩

theorem select_iff {α : Type} (c : BitVec 1) (P : Prop) [Decidable P] (h : c = 1#1 ↔ P) (x y : α) : Scalar.select c x y = if P then x else y := by
  unfold Scalar.select
  by_cases hp : P
  · rw [if_pos hp]; exact if_pos (h.mpr hp)
  · rw [if_neg hp]; exact if_neg (fun hc => hp (h.mp hc))

theorem unshiftStep_read (s : ℕ) (h0 : 0 < s) (hs : s < 8) (v u : FVec F S256x128 .f32) (r : Fin 256) (l : Fin 128) :
    unshiftStep s v u (ix2 r l) = if r.val % 8 = s then v (ix2 r (up l s)) else u (ix2 r l) := by
  have hl := l.isLt
  have e1 := eq_word ⟨r.val % 8, Nat.mod_lt _ (by decide)⟩ ⟨s, hs⟩
  have e2 := lt_word ⟨l.val % 8, Nat.mod_lt _ (by decide)⟩ ⟨s, hs⟩
  unfold unshiftStep
  pointwise [lowLane_read, lowRow_read]
  rw [select_iff _ _ e1, select_iff _ _ e2]
  by_cases h : r.val % 8 = s
  · rw [if_pos h, if_pos h]
    have t1 : (BitVec.ofNat 32 (128 - s)).toNat = 128 - s := by rw [BitVec.toNat_ofNat]; omega
    have t2 : (BitVec.ofNat 32 (8 - s)).toNat = 8 - s := by rw [BitVec.toNat_ofNat]; omega
    split_ifs with h3
    · congr 2; apply Fin.ext; simp [up]; dsimp only at h3; omega
    · congr 2; apply Fin.ext; simp [up]; dsimp only at h3; omega
  · rw [if_neg h, if_neg h]

theorem unshift_read (t : ℕ) (h0 : 0 < t) (ht : t < 8) (v : FVec F S16x128 .f32) (r : Fin 16) (l : Fin 128) :
    unshift t v (ix2 r l) = v (ix2 r (up l t)) := by
  have hl := l.isLt
  have e2 := lt_word ⟨l.val % 8, Nat.mod_lt _ (by decide)⟩ ⟨t, ht⟩
  unfold unshift
  pointwise [low_read]
  rw [select_iff _ _ e2]
  have t1 : (BitVec.ofNat 32 (128 - t)).toNat = 128 - t := by rw [BitVec.toNat_ofNat]; omega
  have t2 : (BitVec.ofNat 32 (8 - t)).toNat = 8 - t := by rw [BitVec.toNat_ofNat]; omega
  split_ifs with h3
  · congr 2; apply Fin.ext; simp [up]; dsimp only at h3; omega
  · congr 2; apply Fin.ext; simp [up]; dsimp only at h3; omega

theorem pickStep_read (n : ℕ) (a v : FVec F S16x128 .f32) (r : Fin 16) (l : Fin 128) :
    pickStep n a v (ix2 r l) = if l.val % 8 = n % 8 then a (ix2 r l) else v (ix2 r l) := by
  have e := eq_word ⟨l.val % 8, Nat.mod_lt _ (by decide)⟩ ⟨n % 8, Nat.mod_lt _ (by decide)⟩
  unfold pickStep
  pointwise [low_read]
  exact select_iff _ _ e _ _

theorem pick_read (a : Fin 8 → FVec F S16x128 .f32) (t : ℕ) (ht : t < 8) (b : Fin 8) (r : Fin 16) (l : Fin 128) (h : l.val % 8 = (b.val + t) % 8) :
    pick a t (ix2 r l) = a b (ix2 r l) := by
  unfold pick
  simp only [pickStep_read]
  have hb := b.isLt
  have hc : b.val = 0 ∨ b.val = 1 ∨ b.val = 2 ∨ b.val = 3 ∨ b.val = 4 ∨ b.val = 5 ∨ b.val = 6 ∨ b.val = 7 := by omega
  rcases hc with e | e | e | e | e | e | e | e
  · obtain rfl : b = 0 := Fin.ext e
    simp only [e] at h
    repeat rw [if_neg (by omega)]
  · obtain rfl : b = 1 := Fin.ext e
    simp only [e] at h
    iterate 6 rw [if_neg (by omega)]
    rw [if_pos (by omega)]
  · obtain rfl : b = 2 := Fin.ext e
    simp only [e] at h
    iterate 5 rw [if_neg (by omega)]
    rw [if_pos (by omega)]
  · obtain rfl : b = 3 := Fin.ext e
    simp only [e] at h
    iterate 4 rw [if_neg (by omega)]
    rw [if_pos (by omega)]
  · obtain rfl : b = 4 := Fin.ext e
    simp only [e] at h
    iterate 3 rw [if_neg (by omega)]
    rw [if_pos (by omega)]
  · obtain rfl : b = 5 := Fin.ext e
    simp only [e] at h
    iterate 2 rw [if_neg (by omega)]
    rw [if_pos (by omega)]
  · obtain rfl : b = 6 := Fin.ext e
    simp only [e] at h
    rw [if_neg (by omega), if_pos (by omega)]
  · obtain rfl : b = 7 := Fin.ext e
    simp only [e] at h
    rw [if_pos (by omega)]

attribute [local irreducible] pick unshift in
set_option maxHeartbeats 1600000 in
/-- Row `8 x + b` of the turned block, column `16 t + r`: document `b`'s sum at row `r`, lane `8 x + t` before the turn. -/
theorem turned_read (a : Fin 8 → FVec F S16x128 .f32) (l : Fin 128) (c : Fin 128) :
    turned a (ix2 l c) = a ⟨l.val % 8, Nat.mod_lt _ (by decide)⟩ (ix2 ⟨c.val % 16, Nat.mod_lt _ (by decide)⟩ (up l (c.val / 16))) := by
  have hl := l.isLt
  have hc := c.isLt
  unfold turned
  pointwise
  have key : ∀ (t : ℕ) (ht : t < 8) (h0 : 0 < t) (r : Fin 16), c.val / 16 = t → r.val = c.val % 16 →
      unshift t (pick a t) (ix2 r l) = a ⟨l.val % 8, Nat.mod_lt _ (by decide)⟩ (ix2 ⟨c.val % 16, Nat.mod_lt _ (by decide)⟩ (up l (c.val / 16))) := by
    intro t ht h0 r e er
    rw [unshift_read t h0 ht, pick_read a t ht ⟨l.val % 8, Nat.mod_lt _ (by decide)⟩ _ _ (by show (8 * (l.val / 8) + (l.val + t) % 8) % 8 = (l.val % 8 + t) % 8; omega), e]
    exact congrArg (a _) (congrArg (ix2 · (up l t)) (Fin.ext er))
  split_ifs
  · rw [pick_read a 0 (by omega) ⟨l.val % 8, Nat.mod_lt _ (by decide)⟩ _ _ (by show l.val % 8 = (l.val % 8 + 0) % 8; omega)]
    refine congrArg (a _) (congr (congrArg ix2 (Fin.ext ?_)) (Fin.ext ?_))
    · show c.val = c.val % 16; omega
    · show l.val = 8 * (l.val / 8) + (l.val + c.val / 16) % 8; omega
  all_goals first
    | omega
    | exact key 1 (by omega) (by omega) _ (by omega) (show c.val - 16 = c.val % 16 by omega)
    | exact key 2 (by omega) (by omega) _ (by omega) (show c.val - 16 - 16 = c.val % 16 by omega)
    | exact key 3 (by omega) (by omega) _ (by omega) (show c.val - 16 - 16 - 16 = c.val % 16 by omega)
    | exact key 4 (by omega) (by omega) _ (by omega) (show c.val - 16 - 16 - 16 - 16 = c.val % 16 by omega)
    | exact key 5 (by omega) (by omega) _ (by omega) (show c.val - 16 - 16 - 16 - 16 - 16 = c.val % 16 by omega)
    | exact key 6 (by omega) (by omega) _ (by omega) (show c.val - 16 - 16 - 16 - 16 - 16 - 16 = c.val % 16 by omega)
    | exact key 7 (by omega) (by omega) _ (by omega) (show c.val - 16 - 16 - 16 - 16 - 16 - 16 - 16 = c.val % 16 by omega)

/-- The point's rows of the first result at an index: document `r`, repetition `e / 1024`, bucket `e / 16 % 64`, projection `e % 16`. -/
theorem fdeOf_read (S : Fin 8 → Fin 5 → FVec F S16x128 .f32) (r : Fin 8) (e : Fin 10240) :
    fdeOf S (ix2 r e) = FloatOps.truncf .bf16 bitsLt_bf16_f32 (S r ⟨e.val / 2048, by have h := e.isLt; omega⟩
      (ix2 ⟨e.val % 16, Nat.mod_lt _ (by decide)⟩ (up ⟨8 * (e.val / 128 % 16) + r.val, by have h := r.isLt; omega⟩ (e.val / 16 % 8)))) := by
  have hr := r.isLt
  have he := e.isLt
  unfold fdeOf
  rw [turned_read]
  congr 1
  have e1 : (⟨(⟨8 * (e.val / 128 % 16) + r.val, by omega⟩ : Fin 128).val % 8, Nat.mod_lt _ (by decide)⟩ : Fin 8) = r := Fin.ext (by dsimp only; omega)
  have e2 : (⟨(⟨e.val % 128, Nat.mod_lt _ (by decide)⟩ : Fin 128).val % 16, Nat.mod_lt _ (by decide)⟩ : Fin 16) = ⟨e.val % 16, Nat.mod_lt _ (by decide)⟩ := Fin.ext (by dsimp only; omega)
  have e3 : (⟨e.val % 128, Nat.mod_lt _ (by decide)⟩ : Fin 128).val / 16 = e.val / 16 % 8 := by dsimp only; omega
  exact congr (congr (congrArg S e1) rfl) (congr (congrArg ix2 e2) (congrArg (up _) e3))

theorem counts_read (w : Vec F S1x256x128 .f32) (l : Fin 128) (r : Fin 256) :
    counts w (ix2 l r) = FloatOps.fptosi 32 (w (ix3 0 r (up l (r.val % 8)))) := by
  unfold counts
  pointwise [unshiftStep_read _ (by decide : 0 < 7) (by decide), unshiftStep_read _ (by decide : 0 < 6) (by decide), unshiftStep_read _ (by decide : 0 < 5) (by decide),
    unshiftStep_read _ (by decide : 0 < 4) (by decide), unshiftStep_read _ (by decide : 0 < 3) (by decide), unshiftStep_read _ (by decide : 0 < 2) (by decide),
    unshiftStep_read _ (by decide : 0 < 1) (by decide)]
  congr 1
  split_ifs with h1 h2 h3 h4 h5 h6 h7
  · rw [h1]
  · rw [h2]
  · rw [h3]
  · rw [h4]
  · rw [h5]
  · rw [h6]
  · rw [h7]
  · congr 2
    exact Fin.ext (by simp [up]; omega)

/-- The second result at an index: repetition `q`, bucket `u`, document `r`. -/
theorem cntOf_read (d : Vec F S5x256x128 .f32) (q : Fin 10) (u : Fin 64) (r : Fin 200) :
    cntOf d (ix3 q u r) = FloatOps.fptosi 32 (d (ix3 ⟨q.val / 2, by have h := q.isLt; omega⟩ ⟨r.val, by have h := r.isLt; omega⟩
      (up ⟨64 * (q.val % 2) + u.val, by have h := u.isLt; omega⟩ (r.val % 8)))) := by
  unfold cntOf
  rw [counts_read]
  rfl

end Cert.KernelIdeal.Hand

end
-- ==== Proof.ValueIdeal.lean ====
/- The idealized program run with its results named: at each point the first result's rows from the point's documents, the counts
   collected in the scratch buffer point by point, and at the last point the second result from all of them. -/
module

public import proofs.«01_k».proof.Proof.FrameIdeal
public import proofs.«01_k».proof.Proof.ModelEq
public import proofs.«01_k».proof.Proof.Triples
public import proofs.«01_k».proof.Proof.Epilogue

@[expose] public section

set_option maxRecDepth 16384

noncomputable section

namespace Cert.KernelIdeal.Hand.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points compute -/

/-- The lengths of point `t`'s documents. -/
abbrev lensAt (t : Fin (cfgM m).N) : Fin 8 → BitVec 32 := lens (F := F) (grid0.coords t) (tbl m 0)
/-- The sums and the counts of point `t`'s documents. -/
abbrev sumsAt (c : Dev nD) (t : Fin (cfgM m).N) : Fin 8 → Fin 5 → FVec F S16x128 .f32 :=
  docS (iblk m c 0 t) (iblk m c 1 t) (iblk m c 2 t) (iblk m c 3 t) (lensAt m t)
abbrev cntsAt (c : Dev nD) (t : Fin (cfgM m).N) : Fin 8 → Fin 5 → FVec F S1x128 .f32 :=
  docN (iblk m c 0 t) (iblk m c 1 t) (iblk m c 2 t) (iblk m c 3 t) (lensAt m t)

theorem coord_val : ∀ t : Fin grid0.N, ((grid0.coords t) 0).val = t.val := by decide +kernel
theorem cond9_iff : ∀ t : Fin grid0.N, k0_cond9 (grid0.coords t) = 1#1 ↔ t.val = 24 := by decide +kernel
theorem N_eq : (cfgM m).N = 25 := (by decide +kernel : grid0.N = 25)

/-- Every document's counts in its row, zero past the last. -/
def full (c : Dev nD) : Vec F S5x256x128 .f32 := fun y =>
  if h : (y 1).val / 8 < (cfgM m).N then cntsAt m c ⟨(y 1).val / 8, h⟩ ⟨(y 1).val % 8, Nat.mod_lt _ (by decide)⟩ (y 0) (ix2 0 (y 2))
  else Scalar.ofBits .f32 0x00000000#32
/-- The rows of the points before `n` are in place. -/
def Filled (c : Dev nD) (n : ℕ) (d : Vec F S5x256x128 .f32) : Prop := ∀ y : S5x256x128.Idx, (y 1).val < 8 * n → d y = full m c y

theorem filled_zero (c : Dev nD) (d : Vec F S5x256x128 .f32) : Filled m c 0 d := fun y h => absurd h (by omega)
theorem filled_succ (c : Dev nD) (t : Fin (cfgM m).N) (d : Vec F S5x256x128 .f32) (h : Filled m c t.val d) :
    Filled m c (t.val + 1) (docsD ((grid0.coords t) 0).val 8 (cntsAt m c t) d) := by
  intro y hy
  have ht : ((grid0.coords t) 0).val = t.val := coord_val t
  unfold docsD
  rw [ht]
  by_cases hr : 8 * t.val ≤ (y 1).val
  · rw [if_pos ⟨hr, by omega⟩]
    have e : (y 1).val / 8 = t.val := by omega
    have hlt : (y 1).val / 8 < (cfgM m).N := by rw [e]; exact t.isLt
    unfold full
    rw [dif_pos hlt]
    have e' : (⟨(y 1).val / 8, hlt⟩ : Fin (cfgM m).N) = t := Fin.ext e
    rw [e']
  · rw [if_neg (fun hh => hr hh.1)]
    exact h y (by omega)
theorem cntOf_filled (c : Dev nD) (d : Vec F S5x256x128 .f32) (h : Filled m c 25 d) : cntOf d = cntOf (full m c) := by
  funext y
  obtain ⟨q, u, r, rfl⟩ : ∃ (q : Fin 10) (u : Fin 64) (r : Fin 200), y = ix3 q u r := ⟨y 0, y 1, y 2, eq_ix3 y⟩
  rw [cntOf_read, cntOf_read, h _ (by show r.val < 200; exact r.isLt)]

/-! ## The proof data -/

/-- The body's invariant before point `n`. -/
def Phi (c : Dev nD) (n : ℕ) : sProp 𝕄 :=
  iprop(iprop((∃ a, owns (c : Thread nD τ) scM0 fullShare a) ∗ (∃ d, iprop(⌜Filled m c n d⌝ ∗ owns (c : Thread nD τ) scM1 fullShare d)))
    ∗ (∃ r, prngReg c r) ∗ tbPt c tbM (tbl m 0))

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fdeOf (sumsAt m c t)
    | ⟨5, _⟩ => cntOf (full m c)
  Φ t := Phi m c t.val
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = fdeOf (sumsAt m c t) := by dsimp only [dats]; try rfl
theorem after0_5 (c : Dev nD) (t : Fin (cfgM m).N) : (dats m 0 c).after 5 t = cntOf (full m c) := by dsimp only [dats]; try rfl
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d
theorem before0_3 (c : Dev nD) (t : Fin (cfgM m).N) (d) : (dats m 0 c).before 3 t d = iblk m c 3 t :=
  before0_3_of m (dats m 0 c) (A_eq m c 3) (after0_3 m c) t d

theorem idle5 (t : Fin (cfgM m).N) : (cfgM m).idle 5 ((cfgM m).grid.coords t) = !(k0_cond9 (grid0.coords t) == 1#1) := rfl
theorem flush5 (t : Fin (cfgM m).N) (h : t.val ≠ 24) : ((cfgM m).win 5).flush t = false := by
  have hN := N_eq m
  unfold Pipeline.Window.flush
  rw [Bool.and_eq_false_iff]
  right
  rw [Bool.or_eq_false_iff]
  refine ⟨decide_eq_false (fun e => absurd (e.trans hN) (by omega)), decide_eq_false ?_⟩
  rintro ⟨h', hne⟩
  exact hne rfl

/-! ## The body obligation -/

/-- What the body leaves in the second result's staging buffer. -/
def left5 (c : Dev nD) (t : Fin (cfgM m).N) : sProp 𝕄 := (dats m 0 c).leavesExact 5 t

theorem left5_last (c : Dev nD) (t : Fin (cfgM m).N) (h : k0_cond9 (grid0.coords t) = 1#1) :
    left5 m c t = owns (c : Thread nD τ) (ms0_5 m t) fullShare (cntOf (full m c)) := by
  unfold left5 Dat.leavesExact
  rw [idle5, h, after0_5]
  rfl
theorem left5_idle (c : Dev nD) (t : Fin (cfgM m).N) (h : ¬ k0_cond9 (grid0.coords t) = 1#1) :
    left5 m c t = iprop(∃ d, owns (c : Thread nD τ) (ms0_5 m t) fullShare ((dats m 0 c).before 5 t d)) := by
  have hi : (cfgM m).idle 5 ((cfgM m).grid.coords t) = true := by
    rw [idle5]
    simp [h]
  exact (dats m 0 c).leavesExact_idle 5 t hi (flush5 m t fun e => h ((cond9_iff t).mpr e))

theorem left5_of (c : Dev nD) (t : Fin (cfgM m).N) (v w : Vec F S10x64x200 .i32) (d) (hv : k0_cond9 (grid0.coords t) = 1#1 → v = cntOf (full m c))
    (hw : w = (dats m 0 c).before 5 t d) :
    Ow c (ms0_5 m t) (if k0_cond9 (grid0.coords t) = 1#1 then v else w) ⊢ left5 m c t := by
  by_cases hc : k0_cond9 (grid0.coords t) = 1#1
  · rw [if_pos hc, left5_last m c t hc, hv hc]
  · rw [if_neg hc, left5_idle m c t hc, hw]
    iintro H
    iexists d
    iexact H

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d)))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t)
    ∗ left5 m c t)

theorem sound_body (c : Dev nD) (t : Fin (cfgM m).N) :
    Val.bodyPre m c t ⊢ WP c Set.univ (bodyAt m t) (fun _ => Val.bodyPost m c t) := by
  unfold bodyPre bodyPost bodyAt
  simp only [before0_0, before0_1, before0_2, before0_3]
  rw [body_eq, show (dats m 0 c).owesAt () t.succ = (dats m 0 c).owesAt () t.castSucc from rfl,
    after0_0, after0_1, after0_2, after0_3, after0_4]
  rw [show (dats m 0 c).Φ t.castSucc = Phi m c t.val from rfl, show (dats m 0 c).Φ t.succ = Phi m c (t.val + 1) from rfl]
  unfold Phi
  iintro ⟨⟨⟨HS0, ⟨%d, %hd, HS1⟩⟩, Hg, HT⟩, Ho, ⟨%d0, H0⟩, ⟨%d1, H1⟩, ⟨%d2, H2⟩, ⟨%d3, H3⟩, ⟨%d4, H4⟩, ⟨%d5, H5⟩⟩
  have hd' := filled_succ m c t d hd
  have hv : k0_cond9 (grid0.coords t) = 1#1 → cntOf (docsD ((grid0.coords t) 0).val 8 (cntsAt m c t) d) = cntOf (full m c) := fun hc => by
    have ht : t.val = 24 := (cond9_iff t).mp hc
    rw [ht] at hd'
    exact cntOf_filled m c _ hd'
  iapply (wp_body c Set.univ (grid0.coords t) (ms0_0 m t) (ms0_1 m t) (ms0_2 m t) (ms0_3 m t) (ms0_4 m t) (hs0_4 m t) (ms0_5 m t) scM0 scM1
    (iblk m c 0 t) (iblk m c 1 t) (iblk m c 2 t) (tbl m 0) (iblk m c 3 t) ((dats m 0 c).before 5 t d5) d _)
  isplitl [H0 H1 H2]
  · isplitl [H0]; · iexact H0
    isplitl [H1]; · iexact H1
    iexact H2
  isplitl [H3]; · iexact H3
  isplitl [H4]; · iexists _; iexact H4
  isplitl [H5]; · iexact H5
  isplitl [HT]; · iexact HT
  isplitl [HS0]; · iexact HS0
  isplitl [HS1]; · iexact HS1
  iintro ⟨H0, H1, H2⟩ H3 H4 H5 HT HS0 HS1
  isplitl [HS0 HS1 Hg HT]
  · isplitl [HS0 HS1]
    · isplitl [HS0]
      · iexact HS0
      iexists _
      isplitr
      · ipureintro; exact hd'
      iexact HS1
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  iapply (left5_of m c t (cntOf (docsD ((grid0.coords t) 0).val 8 (cntsAt m c t) d)) _ d5 hv rfl)
  iexact H5

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-! ## The run -/

theorem phi_in (c : Dev nD) : iprop(Pipeline.ΦA spec0 c ∗ Pipeline.ΦT pre0 (tbl m) c) ⊢ (dats m 0 c).Φ 0 := by
  rw [show (dats m 0 c).Φ 0 = Phi m c 0 from rfl, PhiT0_eq, PhiA0_eq]
  unfold Phi
  iintro ⟨⟨⟨HS0, ⟨%d, HS1⟩⟩, Hg⟩, HT⟩
  isplitl [HS0 HS1]
  · isplitl [HS0]; · iexact HS0
    iexists d
    isplitr
    · ipureintro; exact filled_zero m c d
    iexact HS1
  isplitl [Hg]; · iexact Hg
  iexact HT
theorem phi_out (c : Dev nD) : (dats m 0 c).Φ (Fin.last (cfgM m).N) ⊢ Pipeline.ΦA spec0 c := by
  rw [show (dats m 0 c).Φ (Fin.last (cfgM m).N) = Phi m c (cfgM m).N from rfl, PhiA0_eq]
  unfold Phi
  iintro ⟨⟨HS0, ⟨%d, -, HS1⟩⟩, Hg, -⟩
  isplitl [HS0 HS1]
  · isplitl [HS0]; · iexact HS0
    iexists d
    iexact HS1
  iexact Hg

/-- Core `c`'s buffers after the host's transpose of the counts. -/
abbrev tail (c : Dev nD) (b : Ref sig .tc) : Buf (Elt F) ((c : Thread nD τ).loc b) :=
  Pipeline.afterTail pcfgs (fun _ => adm m) (dats m) 0 (V0 m) [hostOps1] c b

set_option backward.isDefEq.respectTransparency.types false in
theorem run_main : θ_run defs (onTc (τ := τ) (main (F := F))) (s₀ m ρ)
    (Pipeline.FramePost (Pipeline.pin pcfgs fun _ => adm m) (dats m) 0 (Pipeline.afterTail pcfgs (fun _ => adm m) (dats m) 0 (V0 m) [hostOps1])) :=
  Pipeline.θ_run_frameP_around_track pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hin := phi_in m) (hout := phi_out m)

end Cert.KernelIdeal.Hand.Val

end
-- ==== Proof.Hot.lean ====
/- The one-hot rows of a tile read at an index: which byte of which word is the one of a code, and what the byte denotes. -/
module

public import proofs.«01_k».proof.Proof.State
public import Idealize.ShloMosaic.Lib.BitcastPair
public import Mathlib.Tactic.IntervalCases

@[expose] public section

set_option maxRecDepth 16384

noncomputable section

namespace Cert.KernelIdeal.Hand

open Cert.KernelIdeal Cert.KernelIdeal.Gen
open Idealize.ShloMosaic Idealize.SL.Sem

/-! ## The words of a code -/

/-- The row of a code in document `b`'s one-hot, the code's word and the word's place. -/
def rowW1 (b : ℕ) (c : BitVec 32) : BitVec 32 :=
  IntOp.addi (IntOp.andi c 4294967288#32) (IntOp.andi (IntOp.addi c (BitVec.ofNat 32 b)) 7#32)
def idxW (b : ℕ) (c : BitVec 32) : BitVec 32 :=
  Scalar.select (IntOp.cmpi .slt c 0#32) 4294967295#32 (IntOp.shrsi .vector (rowW1 b c) 2#32)
def valW (b : ℕ) (c : BitVec 32) : BitVec 32 :=
  IntOp.shli .vector 56#32 (IntOp.shli .vector (IntOp.andi (rowW1 b c) 3#32) 3#32)
/-- Byte `n` of the one-hot column of a code. -/
def hotB (b : ℕ) (c : BitVec 32) (n : ℕ) : BitVec 8 :=
  (Scalar.select (IntOp.cmpi .eq (BitVec.ofNat 32 (n / 4)) (idxW b c)) (valW b c) 0#32).extractLsb' (8 * (n % 4)) 8

theorem toNat_rowW1 (b : ℕ) (hb : b < 8) (c : BitVec 32) (hc : c.toNat < 2 ^ 31) :
    (rowW1 b c).toNat = 8 * (c.toNat / 8) + (c.toNat + b) % 8 := by
  have e1 : (c &&& 4294967288#32).toNat = 8 * (c.toNat / 8) := by
    have e : c &&& 4294967288#32 = (c >>> 3) <<< 3 := by
      apply BitVec.eq_of_getLsbD_eq
      intro i hi
      have hm : (4294967288#32 : BitVec 32).getLsbD i = decide (3 ≤ i) := by
        have : i < 32 := hi
        interval_cases i <;> rfl
      simp only [BitVec.getLsbD_and, BitVec.getLsbD_shiftLeft, BitVec.getLsbD_ushiftRight, hm]
      by_cases h3 : 3 ≤ i
      · simp [h3, hi, show ¬ i < 3 by omega, show 3 + (i - 3) = i by omega]
      · simp [h3, show i < 3 by omega]
    rw [e, BitVec.toNat_shiftLeft, BitVec.toNat_ushiftRight, Nat.shiftLeft_eq, Nat.shiftRight_eq_div_pow]
    have := c.isLt
    omega
  have e2 : ((c + BitVec.ofNat 32 b) &&& 7#32).toNat = (c.toNat + b) % 8 := by
    rw [BitVec.toNat_and, BitVec.toNat_add, BitVec.toNat_ofNat]
    rw [show (7#32 : BitVec 32).toNat = 2 ^ 3 - 1 from rfl, Nat.and_two_pow_sub_one_eq_mod]
    omega
  unfold rowW1
  simp only [IntOp.addi, IntOp.andi]
  rw [BitVec.toNat_add, e1, e2]
  omega

theorem slt_zero (c : BitVec 32) : IntOp.cmpi .slt c 0#32 = 1#1 ↔ ¬ c.toNat < 2 ^ 31 := by
  have h := c.isLt
  have e : IntOp.cmpi .slt c 0#32 = BitVec.ofBool (c.slt 0#32) := rfl
  rw [e, BitVec.slt_eq_decide, BitVec.toInt_eq_toNat_cond, show (0#32 : BitVec 32).toInt = 0 from rfl]
  by_cases hc : c.toNat < 2 ^ 31
  · rw [if_pos (by omega)]
    have : ¬ ((c.toNat : ℤ) < 0) := by omega
    simp only [this, decide_false, hc, not_true, iff_false]
    decide
  · rw [if_neg (by omega)]
    have : ((c.toNat : ℤ) - (2 ^ 32 : ℕ) < 0) := by omega
    simp only [this, decide_true, hc, not_false_iff, iff_true]
    rfl
theorem cmpi_eq_iff (x y : BitVec 32) : IntOp.cmpi .eq x y = 1#1 ↔ x = y := by
  have e : IntOp.cmpi .eq x y = BitVec.ofBool (x == y) := rfl
  rw [e]
  by_cases h : x = y
  · subst h; simp
  · have : (x == y) = false := by simpa using h
    rw [this]; simp [h]

theorem hot_word : ∀ (j r : Fin 4), (IntOp.shli .vector 56#32 (IntOp.shli .vector (BitVec.ofNat 32 r.val) 3#32)).extractLsb' (8 * j.val) 8
    = if j = r then 56#8 else 0#8 := by decide +kernel

/-- Row `8 (u / 8) + (u + b) % 8` of document `b`'s one-hot column is set when the code is `u`, and only then. -/
theorem hotB_eq (b : ℕ) (hb : b < 8) (c : BitVec 32) (u : ℕ) (hu : u < 64) :
    hotB b c (8 * (u / 8) + (u + b) % 8) = if c = BitVec.ofNat 32 u then 56#8 else 0#8 := by
  have hlt := c.isLt
  have hcu : c = BitVec.ofNat 32 u ↔ c.toNat = u := by
    rw [← BitVec.toNat_inj, BitVec.toNat_ofNat]
    omega
  have hz : ∀ n : ℕ, (0#32 : BitVec 32).extractLsb' n 8 = 0#8 := fun n => by
    apply BitVec.eq_of_getLsbD_eq; intro i hi; simp
  unfold hotB idxW
  by_cases hc : c.toNat < 2 ^ 31
  · have h0 : ¬ IntOp.cmpi .slt c 0#32 = 1#1 := fun h => (slt_zero c).mp h hc
    have hr := toNat_rowW1 b hb c hc
    have es : Scalar.select (IntOp.cmpi .slt c 0#32) 4294967295#32 (IntOp.shrsi .vector (rowW1 b c) 2#32) = IntOp.shrsi .vector (rowW1 b c) 2#32 := if_neg h0
    rw [es]
    have hs : (IntOp.shrsi .vector (rowW1 b c) 2#32).toNat = (rowW1 b c).toNat / 4 := by
      have hm : (rowW1 b c).msb = false := by rw [BitVec.msb_eq_decide]; simp; omega
      have : IntOp.shrsi .vector (rowW1 b c) 2#32 = (rowW1 b c).sshiftRight 2 := by simp [IntOp.shrsi]
      rw [this, BitVec.sshiftRight_eq_of_msb_false hm, BitVec.toNat_ushiftRight, Nat.shiftRight_eq_div_pow]
    by_cases he : (8 * (u / 8) + (u + b) % 8) / 4 = (rowW1 b c).toNat / 4
    · have hq : IntOp.cmpi .eq (BitVec.ofNat 32 ((8 * (u / 8) + (u + b) % 8) / 4)) (IntOp.shrsi .vector (rowW1 b c) 2#32) = 1#1 := by
        have : BitVec.ofNat 32 ((8 * (u / 8) + (u + b) % 8) / 4) = IntOp.shrsi .vector (rowW1 b c) 2#32 := by
          rw [← BitVec.toNat_inj, hs, BitVec.toNat_ofNat]; omega
        exact (cmpi_eq_iff _ _).mpr this
      have ev : Scalar.select (IntOp.cmpi .eq (BitVec.ofNat 32 ((8 * (u / 8) + (u + b) % 8) / 4)) (IntOp.shrsi .vector (rowW1 b c) 2#32)) (valW b c) 0#32 = valW b c := if_pos hq
      rw [ev]
      have ea : IntOp.andi (rowW1 b c) 3#32 = BitVec.ofNat 32 ((rowW1 b c).toNat % 4) := by
        rw [← BitVec.toNat_inj]
        simp only [IntOp.andi]
        rw [BitVec.toNat_and, show (3#32 : BitVec 32).toNat = 2 ^ 2 - 1 from rfl, Nat.and_two_pow_sub_one_eq_mod, BitVec.toNat_ofNat]
        omega
      unfold valW
      rw [ea]
      have := hot_word ⟨(8 * (u / 8) + (u + b) % 8) % 4, Nat.mod_lt _ (by decide)⟩ ⟨(rowW1 b c).toNat % 4, Nat.mod_lt _ (by decide)⟩
      rw [this]
      by_cases hj : (8 * (u / 8) + (u + b) % 8) % 4 = (rowW1 b c).toNat % 4
      · rw [if_pos (Fin.ext hj), if_pos (hcu.mpr (by omega))]
      · rw [if_neg (fun h => hj (congrArg Fin.val h)), if_neg (fun h => hj (by have := hcu.mp h; omega))]
    · have hq : ¬ IntOp.cmpi .eq (BitVec.ofNat 32 ((8 * (u / 8) + (u + b) % 8) / 4)) (IntOp.shrsi .vector (rowW1 b c) 2#32) = 1#1 := by
        have : ¬ BitVec.ofNat 32 ((8 * (u / 8) + (u + b) % 8) / 4) = IntOp.shrsi .vector (rowW1 b c) 2#32 := by
          rw [← BitVec.toNat_inj, hs, BitVec.toNat_ofNat]; omega
        exact fun h => this ((cmpi_eq_iff _ _).mp h)
      have ev : Scalar.select (IntOp.cmpi .eq (BitVec.ofNat 32 ((8 * (u / 8) + (u + b) % 8) / 4)) (IntOp.shrsi .vector (rowW1 b c) 2#32)) (valW b c) 0#32 = 0#32 := if_neg hq
      rw [ev, hz, if_neg (fun h => he (by have := hcu.mp h; omega))]
  · have h0 : IntOp.cmpi .slt c 0#32 = 1#1 := (slt_zero c).mpr hc
    have es : Scalar.select (IntOp.cmpi .slt c 0#32) 4294967295#32 (IntOp.shrsi .vector (rowW1 b c) 2#32) = 4294967295#32 := if_pos h0
    rw [es]
    have hq : ¬ IntOp.cmpi .eq (BitVec.ofNat 32 ((8 * (u / 8) + (u + b) % 8) / 4)) 4294967295#32 = 1#1 := by
      have : ¬ BitVec.ofNat 32 ((8 * (u / 8) + (u + b) % 8) / 4) = 4294967295#32 := by
        rw [← BitVec.toNat_inj, BitVec.toNat_ofNat]
        show ¬ _ = 4294967295
        omega
      exact fun h => this ((cmpi_eq_iff _ _).mp h)
    have ev : Scalar.select (IntOp.cmpi .eq (BitVec.ofNat 32 ((8 * (u / 8) + (u + b) % 8) / 4)) 4294967295#32) (valW b c) 0#32 = 0#32 := if_neg hq
    rw [ev, hz, if_neg (fun h => hc (by have := hcu.mp h; omega))]

theorem ofBits_one : (Ideal.ofBits .fp8e4m3 56#8 : EReal) = 1 := by
  simp [Ideal.ofBits, Ideal.e4m3fn, -EReal.coe_mul]; norm_num
theorem ofBits_zero : (Ideal.ofBits .fp8e4m3 0#8 : EReal) = 0 := by
  simp [Ideal.ofBits, Ideal.e4m3fn, -EReal.coe_mul]

/-- A byte that is not the format's NaN denotes a real number. -/
theorem ofBits_real (x : BitVec 8) (h1 : x ≠ 127#8) (h2 : x ≠ 255#8) : ∃ r : ℝ, (Ideal.ofBits .fp8e4m3 x : EReal) = (r : EReal) := by
  have hn : ∀ y : BitVec 8, y ≠ 127#8 → y ≠ 255#8 → ¬ ((y.extractLsb' 3 4).toNat = 15 ∧ (y.extractLsb' 0 3).toNat = 7) := by decide +kernel
  show ∃ r : ℝ, Ideal.e4m3fn x = (r : EReal)
  unfold Ideal.e4m3fn
  dsimp only
  rw [if_neg (hn x h1 h2)]
  split
  · exact ⟨_, rfl⟩
  · exact ⟨_, rfl⟩

/-! ## The bytes of words -/

theorem bitcast_32_8 {R r n : ℕ} (x : (⟨2, ![R, n]⟩ : Shape).Idx → BitVec 32) (h : (⟨2, ![R, n]⟩ : Shape).Bitcasts 32 ⟨2, ![r, n]⟩ 8)
    (a : Fin r) (l : Fin n) (p : Fin R) (hp : p.val = a.val / 4) :
    bitcast ⟨2, ![r, n]⟩ 8 x h (ix2 a l) = (x (ix2 p l)).extractLsb' (8 * (a.val % 4)) 8 := by
  apply BitVec.eq_of_getLsbD_eq
  intro q hq
  rw [bitcast_getLsbD x h (ix2 a l) q hq (by decide)]
  have hrow : (⟨2, ![r, n]⟩ : Shape).row (ix2 a l) = a.val := rfl
  rw [BitVec.getLsbD_extractLsb']
  have e2 : ((⟨2, ![r, n]⟩ : Shape).row (ix2 a l) * 8 + q) % 32 = 8 * (a.val % 4) + q := by rw [hrow]; omega
  have e1 : ((⟨2, ![r, n]⟩ : Shape).row (ix2 a l) * 8 + q) / 32 = p.val := by rw [hrow]; omega
  rw [e2]
  simp only [hq, decide_true, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

end Cert.KernelIdeal.Hand

end
-- ==== Proof.Tile.lean ====
/- A tile's sums and counts at an index, over the extended reals: the sum over the tile's tokens of the scaled projections whose code is
   the bucket, and the number of those tokens; and so for a document. -/
module

public import proofs.«01_k».proof.Proof.Hot
public import proofs.«01_k».proof.Proof.Epilogue

@[expose] public section

set_option maxRecDepth 16384

noncomputable section

namespace Cert.KernelIdeal.Hand

open Cert.KernelIdeal Cert.KernelIdeal.Gen
open Idealize.ShloMosaic Idealize.SL.Sem

/-! ## Real numbers among the extended ones -/

def IsReal (x : EReal) : Prop := ∃ r : ℝ, x = (r : EReal)
theorem IsReal.mul {x y : EReal} : IsReal x → IsReal y → IsReal (x * y) := fun ⟨a, ha⟩ ⟨b, hb⟩ => ⟨a * b, by rw [ha, hb, EReal.coe_mul]⟩
theorem IsReal.add {x y : EReal} : IsReal x → IsReal y → IsReal (x + y) := fun ⟨a, ha⟩ ⟨b, hb⟩ => ⟨a + b, by rw [ha, hb, EReal.coe_add]⟩
theorem isReal_zero : IsReal 0 := ⟨0, by simp⟩
theorem IsReal.sum {ι : Type} (s : Finset ι) (f : ι → EReal) (h : ∀ i, IsReal (f i)) : IsReal (∑ i ∈ s, f i) := by
  classical
  induction s using Finset.induction_on with
  | empty => simpa using isReal_zero
  | insert a s ha ih => rw [Finset.sum_insert ha]; exact (h a).add ih
theorem IsReal.sub_self {x : EReal} : IsReal x → x - x = 0 := fun ⟨a, ha⟩ => by rw [ha, ← EReal.coe_sub]; simp

/-! ## The two operands of a contraction -/

theorem piece_read (p : FVec Ideal S160x256 .bf16) (r : ℕ) (hr : r < 10) (j : Fin 16) (l : Fin 256) :
    piece p r hr (ix2 j l) = p (ix2 ⟨16 * r + j.val, by have h := j.isLt; omega⟩ l) := by
  unfold piece
  pointwise

variable (p : FVec Ideal S160x256 .f32) (hp : ∀ i, IsReal (p i))
include hp

theorem hi_read (i : S160x256.Idx) : hi p i = p i := rfl
theorem mid_read (i : S160x256.Idx) : mid p i = (0 : EReal) := (hp i).sub_self
theorem lo_read (i : S160x256.Idx) : lo p i = (0 : EReal) := by
  show (p i - p i) - (p i - p i) = (0 : EReal)
  rw [(hp i).sub_self]; simp

omit hp in
theorem ones_read (i : S16x256.Idx) : ones (F := Ideal) i = (1 : EReal) := Ideal.ofBits_one_bf16

omit hp in
theorem cat13_read (A : Fin 13 → FVec Ideal S16x256 .bf16) (h : Shape.Concatenates ((List.ofFn fun n => (⟨S16x256, A n⟩ : (s : Shape) × (s.Idx → Ideal .bf16))).map (·.1)) S208x256 0)
    (a : Fin 208) (l : Fin 256) :
    concatenate S208x256 0 (List.ofFn fun n => (⟨S16x256, A n⟩ : (s : Shape) × (s.Idx → Ideal .bf16))) h (ix2 a l)
      = A ⟨a.val / 16, by have ha := a.isLt; omega⟩ (ix2 ⟨a.val % 16, by omega⟩ l) := by
  refine concatenate_ofFn_apply (t := S208x256) 0 A h rfl 16 rfl (ix2 a l) _ rfl _ rfl ?_
  intro x hx
  match x with
  | ⟨0, _⟩ => exact absurd rfl hx
  | ⟨1, _⟩ => rfl

theorem lhs4_read (r : ℕ) (hr : r + 3 < 10) (a : Fin 208) (l : Fin 256) :
    lhs4 p r hr (ix2 a l) = if h : a.val < 192 then (if a.val / 16 % 3 = 0 then p (ix2 ⟨16 * (r + a.val / 48) + a.val % 16, by omega⟩ l) else (0 : EReal)) else (1 : EReal) := by
  have ha := a.isLt
  refine (cat13_read ![piece (hi p) (r + 0) (by omega), piece (mid p) (r + 0) (by omega), piece (lo p) (r + 0) (by omega), piece (hi p) (r + 1) (by omega), piece (mid p) (r + 1) (by omega), piece (lo p) (r + 1) (by omega), piece (hi p) (r + 2) (by omega), piece (mid p) (r + 2) (by omega), piece (lo p) (r + 2) (by omega), piece (hi p) (r + 3) (by omega), piece (mid p) (r + 3) (by omega), piece (lo p) (r + 3) (by omega), ones] concatenates_S16x256_S16x256_S16x256_S16x256_S16x256_S16x256_S16x256_S16x256_S16x256_S16x256_S16x256_S16x256_S16x256_S208x256_d0 a l).trans ?_
  have hn : a.val / 16 < 13 := by omega
  have key : ∀ m : Fin 13, m.val = a.val / 16 → (![piece (hi p) (r + 0) (by omega), piece (mid p) (r + 0) (by omega), piece (lo p) (r + 0) (by omega), piece (hi p) (r + 1) (by omega), piece (mid p) (r + 1) (by omega), piece (lo p) (r + 1) (by omega), piece (hi p) (r + 2) (by omega), piece (mid p) (r + 2) (by omega), piece (lo p) (r + 2) (by omega), piece (hi p) (r + 3) (by omega), piece (mid p) (r + 3) (by omega), piece (lo p) (r + 3) (by omega), ones] : Fin 13 → FVec Ideal S16x256 .bf16) m
      (ix2 ⟨a.val % 16, by omega⟩ l) = if h : a.val < 192 then (if a.val / 16 % 3 = 0 then p (ix2 ⟨16 * (r + a.val / 48) + a.val % 16, by omega⟩ l) else (0 : EReal)) else (1 : EReal) := by
    intro m hm
    match m, hm with
    | ⟨0, _⟩, hm =>
      have hm' : 0 = a.val / 16 := hm
      rw [dif_pos (by omega), if_pos (by omega)]
      exact (piece_read (hi p) (r + 0) (by omega) _ l).trans (congrArg p (congrArg (ix2 · l) (Fin.ext (by show 16 * (r + 0) + a.val % 16 = 16 * (r + a.val / 48) + a.val % 16; omega))))
    | ⟨1, _⟩, hm =>
      have hm' : 1 = a.val / 16 := hm
      rw [dif_pos (by omega), if_neg (by omega)]
      exact (piece_read (mid p) (r + 0) (by omega) _ l).trans (mid_read p hp _)
    | ⟨2, _⟩, hm =>
      have hm' : 2 = a.val / 16 := hm
      rw [dif_pos (by omega), if_neg (by omega)]
      exact (piece_read (lo p) (r + 0) (by omega) _ l).trans (lo_read p hp _)
    | ⟨3, _⟩, hm =>
      have hm' : 3 = a.val / 16 := hm
      rw [dif_pos (by omega), if_pos (by omega)]
      exact (piece_read (hi p) (r + 1) (by omega) _ l).trans (congrArg p (congrArg (ix2 · l) (Fin.ext (by show 16 * (r + 1) + a.val % 16 = 16 * (r + a.val / 48) + a.val % 16; omega))))
    | ⟨4, _⟩, hm =>
      have hm' : 4 = a.val / 16 := hm
      rw [dif_pos (by omega), if_neg (by omega)]
      exact (piece_read (mid p) (r + 1) (by omega) _ l).trans (mid_read p hp _)
    | ⟨5, _⟩, hm =>
      have hm' : 5 = a.val / 16 := hm
      rw [dif_pos (by omega), if_neg (by omega)]
      exact (piece_read (lo p) (r + 1) (by omega) _ l).trans (lo_read p hp _)
    | ⟨6, _⟩, hm =>
      have hm' : 6 = a.val / 16 := hm
      rw [dif_pos (by omega), if_pos (by omega)]
      exact (piece_read (hi p) (r + 2) (by omega) _ l).trans (congrArg p (congrArg (ix2 · l) (Fin.ext (by show 16 * (r + 2) + a.val % 16 = 16 * (r + a.val / 48) + a.val % 16; omega))))
    | ⟨7, _⟩, hm =>
      have hm' : 7 = a.val / 16 := hm
      rw [dif_pos (by omega), if_neg (by omega)]
      exact (piece_read (mid p) (r + 2) (by omega) _ l).trans (mid_read p hp _)
    | ⟨8, _⟩, hm =>
      have hm' : 8 = a.val / 16 := hm
      rw [dif_pos (by omega), if_neg (by omega)]
      exact (piece_read (lo p) (r + 2) (by omega) _ l).trans (lo_read p hp _)
    | ⟨9, _⟩, hm =>
      have hm' : 9 = a.val / 16 := hm
      rw [dif_pos (by omega), if_pos (by omega)]
      exact (piece_read (hi p) (r + 3) (by omega) _ l).trans (congrArg p (congrArg (ix2 · l) (Fin.ext (by show 16 * (r + 3) + a.val % 16 = 16 * (r + a.val / 48) + a.val % 16; omega))))
    | ⟨10, _⟩, hm =>
      have hm' : 10 = a.val / 16 := hm
      rw [dif_pos (by omega), if_neg (by omega)]
      exact (piece_read (mid p) (r + 3) (by omega) _ l).trans (mid_read p hp _)
    | ⟨11, _⟩, hm =>
      have hm' : 11 = a.val / 16 := hm
      rw [dif_pos (by omega), if_neg (by omega)]
      exact (piece_read (lo p) (r + 3) (by omega) _ l).trans (lo_read p hp _)
    | ⟨12, _⟩, hm =>
      have hm' : 12 = a.val / 16 := hm
      rw [dif_neg (by omega)]
      exact ones_read (ix2 ⟨a.val % 16, by omega⟩ l)
  exact key ⟨a.val / 16, hn⟩ rfl

omit hp in
theorem cat7_read (A : Fin 7 → FVec Ideal S16x256 .bf16) (h : Shape.Concatenates ((List.ofFn fun n => (⟨S16x256, A n⟩ : (s : Shape) × (s.Idx → Ideal .bf16))).map (·.1)) S112x256 0)
    (a : Fin 112) (l : Fin 256) :
    concatenate S112x256 0 (List.ofFn fun n => (⟨S16x256, A n⟩ : (s : Shape) × (s.Idx → Ideal .bf16))) h (ix2 a l)
      = A ⟨a.val / 16, by have ha := a.isLt; omega⟩ (ix2 ⟨a.val % 16, by omega⟩ l) := by
  refine concatenate_ofFn_apply (t := S112x256) 0 A h rfl 16 rfl (ix2 a l) _ rfl _ rfl ?_
  intro x hx
  match x with
  | ⟨0, _⟩ => exact absurd rfl hx
  | ⟨1, _⟩ => rfl

theorem lhs2_read (r : ℕ) (hr : r + 1 < 10) (a : Fin 112) (l : Fin 256) :
    lhs2 p r hr (ix2 a l) = if h : a.val < 96 then (if a.val / 16 % 3 = 0 then p (ix2 ⟨16 * (r + a.val / 48) + a.val % 16, by omega⟩ l) else (0 : EReal)) else (1 : EReal) := by
  have ha := a.isLt
  refine (cat7_read ![piece (hi p) (r + 0) (by omega), piece (mid p) (r + 0) (by omega), piece (lo p) (r + 0) (by omega), piece (hi p) (r + 1) (by omega), piece (mid p) (r + 1) (by omega), piece (lo p) (r + 1) (by omega), ones] concatenates_S16x256_S16x256_S16x256_S16x256_S16x256_S16x256_S16x256_S112x256_d0 a l).trans ?_
  have hn : a.val / 16 < 7 := by omega
  have key : ∀ m : Fin 7, m.val = a.val / 16 → (![piece (hi p) (r + 0) (by omega), piece (mid p) (r + 0) (by omega), piece (lo p) (r + 0) (by omega), piece (hi p) (r + 1) (by omega), piece (mid p) (r + 1) (by omega), piece (lo p) (r + 1) (by omega), ones] : Fin 7 → FVec Ideal S16x256 .bf16) m
      (ix2 ⟨a.val % 16, by omega⟩ l) = if h : a.val < 96 then (if a.val / 16 % 3 = 0 then p (ix2 ⟨16 * (r + a.val / 48) + a.val % 16, by omega⟩ l) else (0 : EReal)) else (1 : EReal) := by
    intro m hm
    match m, hm with
    | ⟨0, _⟩, hm =>
      have hm' : 0 = a.val / 16 := hm
      rw [dif_pos (by omega), if_pos (by omega)]
      exact (piece_read (hi p) (r + 0) (by omega) _ l).trans (congrArg p (congrArg (ix2 · l) (Fin.ext (by show 16 * (r + 0) + a.val % 16 = 16 * (r + a.val / 48) + a.val % 16; omega))))
    | ⟨1, _⟩, hm =>
      have hm' : 1 = a.val / 16 := hm
      rw [dif_pos (by omega), if_neg (by omega)]
      exact (piece_read (mid p) (r + 0) (by omega) _ l).trans (mid_read p hp _)
    | ⟨2, _⟩, hm =>
      have hm' : 2 = a.val / 16 := hm
      rw [dif_pos (by omega), if_neg (by omega)]
      exact (piece_read (lo p) (r + 0) (by omega) _ l).trans (lo_read p hp _)
    | ⟨3, _⟩, hm =>
      have hm' : 3 = a.val / 16 := hm
      rw [dif_pos (by omega), if_pos (by omega)]
      exact (piece_read (hi p) (r + 1) (by omega) _ l).trans (congrArg p (congrArg (ix2 · l) (Fin.ext (by show 16 * (r + 1) + a.val % 16 = 16 * (r + a.val / 48) + a.val % 16; omega))))
    | ⟨4, _⟩, hm =>
      have hm' : 4 = a.val / 16 := hm
      rw [dif_pos (by omega), if_neg (by omega)]
      exact (piece_read (mid p) (r + 1) (by omega) _ l).trans (mid_read p hp _)
    | ⟨5, _⟩, hm =>
      have hm' : 5 = a.val / 16 := hm
      rw [dif_pos (by omega), if_neg (by omega)]
      exact (piece_read (lo p) (r + 1) (by omega) _ l).trans (lo_read p hp _)
    | ⟨6, _⟩, hm =>
      have hm' : 6 = a.val / 16 := hm
      rw [dif_neg (by omega)]
      exact ones_read (ix2 ⟨a.val % 16, by omega⟩ l)
  exact key ⟨a.val / 16, hn⟩ rfl

omit hp

variable (b : ℕ) (C : IVec S10x256 32)

theorem words_read (r : ℕ) (hr : r < 10) (w : Fin 16) (l : Fin 256) :
    words (idxOf b C) (wordOf b C) r hr (ix2 w l)
      = Scalar.select (IntOp.cmpi .eq (BitVec.ofNat 32 w.val) (idxW b (C (ix2 ⟨r, hr⟩ l)))) (valW b (C (ix2 ⟨r, hr⟩ l))) 0#32 := by
  unfold words
  pointwise [idxOf, wordOf, rowOf]
  rfl

/-- What byte `n` of repetition `r`'s one-hot column of token `l` denotes. -/
def hot (r : Fin 10) (n : ℕ) (l : Fin 256) : EReal := Ideal.ofBits .fp8e4m3 (hotB b (C (ix2 r l)) n)

theorem oneHot4_read (r : ℕ) (hr : r + 3 < 10) (a : Fin 256) (l : Fin 256) :
    oneHot4 (F := Ideal) (idxOf b C) (wordOf b C) r hr (ix2 a l) = hot b C ⟨r + a.val / 64, by have h := a.isLt; omega⟩ (a.val % 64) l := by
  have ha := a.isLt
  unfold oneHot4
  show Ideal.ofBits .fp8e4m3 (bitcast S256x256 8 _ bitcasts_S64x256_w32_S256x256_w8 (ix2 a l)) = _
  rw [bitcast_32_8 _ bitcasts_S64x256_w32_S256x256_w8 a l ⟨a.val / 4, by omega⟩ rfl]
  unfold hot hotB
  congr 1
  have e : 8 * (a.val % 4) = 8 * (a.val % 64 % 4) := by omega
  rw [e]
  congr 1
  pointwise [words_read]
  split_ifs
  all_goals first
    | omega
    | (have e1 : (⟨r, by omega⟩ : Fin 10) = ⟨r + a.val / 64, by omega⟩ := Fin.ext (by dsimp only; omega)
       rw [e1]; congr 3; omega)
    | (have e1 : (⟨r + 1, by omega⟩ : Fin 10) = ⟨r + a.val / 64, by omega⟩ := Fin.ext (by dsimp only; omega)
       rw [e1]; congr 3; omega)
    | (have e1 : (⟨r + 2, by omega⟩ : Fin 10) = ⟨r + a.val / 64, by omega⟩ := Fin.ext (by dsimp only; omega)
       rw [e1]; congr 3; omega)
    | (have e1 : (⟨r + 3, by omega⟩ : Fin 10) = ⟨r + a.val / 64, by omega⟩ := Fin.ext (by dsimp only; omega)
       rw [e1]; congr 3; omega)

theorem oneHot2_read (r : ℕ) (hr : r + 1 < 10) (a : Fin 128) (l : Fin 256) :
    oneHot2 (F := Ideal) (idxOf b C) (wordOf b C) r hr (ix2 a l) = hot b C ⟨r + a.val / 64, by have h := a.isLt; omega⟩ (a.val % 64) l := by
  have ha := a.isLt
  unfold oneHot2
  show Ideal.ofBits .fp8e4m3 (bitcast S128x256 8 _ bitcasts_S32x256_w32_S128x256_w8 (ix2 a l)) = _
  rw [bitcast_32_8 _ bitcasts_S32x256_w32_S128x256_w8 a l ⟨a.val / 4, by omega⟩ rfl]
  unfold hot hotB
  congr 1
  have e : 8 * (a.val % 4) = 8 * (a.val % 64 % 4) := by omega
  rw [e]
  congr 1
  pointwise [words_read]
  split_ifs
  all_goals first
    | omega
    | (have e1 : (⟨r, by omega⟩ : Fin 10) = ⟨r + a.val / 64, by omega⟩ := Fin.ext (by dsimp only; omega)
       rw [e1]; congr 3; omega)
    | (have e1 : (⟨r + 1, by omega⟩ : Fin 10) = ⟨r + a.val / 64, by omega⟩ := Fin.ext (by dsimp only; omega)
       rw [e1]; congr 3; omega)

theorem out4_read (idx val : IVec S10x256 32) (r : ℕ) (hr : r + 3 < 10) (a : Fin 208) (c : Fin 256) :
    out4 p idx val r hr (ix2 a c) = ∑ l : Fin 256, (lhs4 p r hr (ix2 a l) : EReal) * oneHot4 (F := Ideal) idx val r hr (ix2 c l) := by
  unfold out4
  generalize lhs4 p r hr = L
  generalize oneHot4 (F := Ideal) idx val r hr = R
  pointwise
theorem out2_read (idx val : IVec S10x256 32) (r : ℕ) (hr : r + 1 < 10) (a : Fin 112) (c : Fin 128) :
    out2 p idx val r hr (ix2 a c) = ∑ l : Fin 256, (lhs2 p r hr (ix2 a l) : EReal) * oneHot2 (F := Ideal) idx val r hr (ix2 c l) := by
  unfold out2
  generalize lhs2 p r hr = L
  generalize oneHot2 (F := Ideal) idx val r hr = R
  pointwise

/-! ## A pair's sums and counts -/

/-- The sum over a tile's tokens of row `j` of repetition `r` at the tokens whose byte `n` is the one. -/
def tileSum (r : Fin 10) (j : Fin 16) (n : ℕ) : EReal :=
  ∑ l : Fin 256, (p (ix2 ⟨16 * r.val + j.val, by have h := r.isLt; have h' := j.isLt; omega⟩ l) : EReal) * hot b C r n l
def tileCnt (r : Fin 10) (n : ℕ) : EReal := ∑ l : Fin 256, hot b C r n l

theorem lt64_iff (n : ℕ) (h : n < 128) : IntOp.cmpi .slt (BitVec.ofNat 32 n) 64#32 = 1#1 ↔ n < 64 := by
  interval_cases n <;> decide

theorem halves_read (x1 x2 x3 y1 y2 y3 : FVec Ideal S16x128 .f32) (j : Fin 16) (L : Fin 128) :
    select (cmpi .slt lanes (broadcast S16x128 64#32)) (addf (addf x1 x2) x3) (addf (addf y1 y2) y3) (ix2 j L)
      = if L.val < 64 then ((x1 (ix2 j L) : EReal) + x2 (ix2 j L)) + x3 (ix2 j L) else ((y1 (ix2 j L) : EReal) + y2 (ix2 j L)) + y3 (ix2 j L) := by
  unfold lanes
  pointwise
  exact select_iff _ _ (lt64_iff L.val L.isLt) _ _

theorem slice4_read (o : FVec Ideal S208x256 .f32) (i h : ℕ) (hi : i ≤ 192) (hh : h < 2) (j : Fin 16) (L : Fin 128) :
    slice4 o i h hi hh (ix2 j L) = o (ix2 ⟨i + j.val, by have h := j.isLt; omega⟩ ⟨128 * h + L.val, by have h := L.isLt; omega⟩) := by
  unfold slice4
  pointwise
theorem slice2_read (o : FVec Ideal S112x128 .f32) (i : ℕ) (hi : i ≤ 96) (j : Fin 16) (L : Fin 128) :
    slice2 o i hi (ix2 j L) = o (ix2 ⟨i + j.val, by have h := j.isLt; omega⟩ L) := by
  unfold slice2
  pointwise

include hp

/-- A row of the contraction: a first piece's is the sum, a second's or a third's zero. -/
theorem out4_row (r : ℕ) (hr : r + 3 < 10) (q : ℕ) (hq : q < 4) (w : ℕ) (hw : w < 3) (j : Fin 16) (c : Fin 256) (hc : c.val / 64 = q) :
    out4 p (idxOf b C) (wordOf b C) r hr (ix2 ⟨48 * q + 16 * w + j.val, by have h := j.isLt; omega⟩ c)
      = if w = 0 then tileSum p b C ⟨r + q, by omega⟩ j (c.val % 64) else (0 : EReal) := by
  have hj := j.isLt
  rw [out4_read]
  by_cases h0 : w = 0
  · rw [if_pos h0]
    refine Finset.sum_congr rfl fun l _ => ?_
    rw [lhs4_read p hp, oneHot4_read, dif_pos (by dsimp only; omega), if_pos (by dsimp only; omega)]
    have e1 : (⟨r + c.val / 64, by have h := c.isLt; omega⟩ : Fin 10) = ⟨r + q, by omega⟩ := Fin.ext (by show r + c.val / 64 = r + q; omega)
    rw [e1]
    exact congrArg (fun a => (p (ix2 a l) : EReal) * _) (Fin.ext (by show 16 * (r + (48 * q + 16 * w + j.val) / 48) + (48 * q + 16 * w + j.val) % 16 = 16 * (r + q) + j.val; omega))
  · rw [if_neg h0]
    refine Finset.sum_eq_zero fun l _ => ?_
    rw [lhs4_read p hp, dif_pos (by dsimp only; omega), if_neg (by dsimp only; omega), zero_mul]
theorem out2_row (r : ℕ) (hr : r + 1 < 10) (q : ℕ) (hq : q < 2) (w : ℕ) (hw : w < 3) (j : Fin 16) (c : Fin 128) (hc : c.val / 64 = q) :
    out2 p (idxOf b C) (wordOf b C) r hr (ix2 ⟨48 * q + 16 * w + j.val, by have h := j.isLt; omega⟩ c)
      = if w = 0 then tileSum p b C ⟨r + q, by omega⟩ j (c.val % 64) else (0 : EReal) := by
  have hj := j.isLt
  rw [out2_read]
  by_cases h0 : w = 0
  · rw [if_pos h0]
    refine Finset.sum_congr rfl fun l _ => ?_
    rw [lhs2_read p hp, oneHot2_read, dif_pos (by dsimp only; omega), if_pos (by dsimp only; omega)]
    have e1 : (⟨r + c.val / 64, by have h := c.isLt; omega⟩ : Fin 10) = ⟨r + q, by omega⟩ := Fin.ext (by show r + c.val / 64 = r + q; omega)
    rw [e1]
    exact congrArg (fun a => (p (ix2 a l) : EReal) * _) (Fin.ext (by show 16 * (r + (48 * q + 16 * w + j.val) / 48) + (48 * q + 16 * w + j.val) % 16 = 16 * (r + q) + j.val; omega))
  · rw [if_neg h0]
    refine Finset.sum_eq_zero fun l _ => ?_
    rw [lhs2_read p hp, dif_pos (by dsimp only; omega), if_neg (by dsimp only; omega), zero_mul]
theorem out4_ones (r : ℕ) (hr : r + 3 < 10) (j : Fin 16) (c : Fin 256) :
    out4 p (idxOf b C) (wordOf b C) r hr (ix2 ⟨192 + j.val, by have h := j.isLt; omega⟩ c) = tileCnt b C ⟨r + c.val / 64, by have h := c.isLt; omega⟩ (c.val % 64) := by
  rw [out4_read]
  refine Finset.sum_congr rfl fun l _ => ?_
  rw [lhs4_read p hp, oneHot4_read, dif_neg (by dsimp only; omega), one_mul]
theorem out2_ones (r : ℕ) (hr : r + 1 < 10) (j : Fin 16) (c : Fin 128) :
    out2 p (idxOf b C) (wordOf b C) r hr (ix2 ⟨96 + j.val, by have h := j.isLt; omega⟩ c) = tileCnt b C ⟨r + c.val / 64, by have h := c.isLt; omega⟩ (c.val % 64) := by
  rw [out2_read]
  refine Finset.sum_congr rfl fun l _ => ?_
  rw [lhs2_read p hp, oneHot2_read, dif_neg (by dsimp only; omega), one_mul]

theorem sum4_read (r : ℕ) (hr : r + 3 < 10) (h : ℕ) (hh : h < 2) (j : Fin 16) (L : Fin 128) :
    sum4 (out4 p (idxOf b C) (wordOf b C) r hr) h hh (ix2 j L)
      = tileSum p b C ⟨r + 2 * h + L.val / 64, by have h := L.isLt; omega⟩ j (L.val % 64) := by
  have hj := j.isLt
  have hL := L.isLt
  have e : ∀ (q w i : ℕ) (hq : q < 4) (hw : w < 3) (hi : i ≤ 192), i = 48 * q + 16 * w → (128 * h + L.val) / 64 = q →
      slice4 (out4 p (idxOf b C) (wordOf b C) r hr) i h hi hh (ix2 j L)
        = if w = 0 then tileSum p b C ⟨r + q, by omega⟩ j ((128 * h + L.val) % 64) else (0 : EReal) := by
    intro q w i hq hw hi e1 e2
    rw [slice4_read]
    subst e1
    exact out4_row p hp b C r hr q hq w hw j ⟨128 * h + L.val, by omega⟩ e2
  unfold sum4
  rw [halves_read]
  have e3 : (128 * h + L.val) % 64 = L.val % 64 := by omega
  by_cases hl : L.val < 64
  · rw [if_pos hl, e (2 * h) 2 (96 * h + 32) (by omega) (by omega) (by omega) (by omega) (by omega), e (2 * h) 1 (96 * h + 16) (by omega) (by omega) (by omega) (by omega) (by omega),
      e (2 * h) 0 (96 * h) (by omega) (by omega) (by omega) (by omega) (by omega), if_neg (by decide), if_neg (by decide), if_pos rfl, zero_add, zero_add, e3]
    congr 2; omega
  · rw [if_neg hl, e (2 * h + 1) 2 (96 * h + 80) (by omega) (by omega) (by omega) (by omega) (by omega), e (2 * h + 1) 1 (96 * h + 64) (by omega) (by omega) (by omega) (by omega) (by omega),
      e (2 * h + 1) 0 (96 * h + 48) (by omega) (by omega) (by omega) (by omega) (by omega), if_neg (by decide), if_neg (by decide), if_pos rfl, zero_add, zero_add, e3]
    congr 2; omega
theorem sum2_read (r : ℕ) (hr : r + 1 < 10) (j : Fin 16) (L : Fin 128) :
    sum2 (out2 p (idxOf b C) (wordOf b C) r hr) (ix2 j L)
      = tileSum p b C ⟨r + L.val / 64, by have h := L.isLt; omega⟩ j (L.val % 64) := by
  have hj := j.isLt
  have hL := L.isLt
  have e : ∀ (q w i : ℕ) (hq : q < 2) (hw : w < 3) (hi : i ≤ 96), i = 48 * q + 16 * w → L.val / 64 = q →
      slice2 (out2 p (idxOf b C) (wordOf b C) r hr) i hi (ix2 j L)
        = if w = 0 then tileSum p b C ⟨r + q, by omega⟩ j (L.val % 64) else (0 : EReal) := by
    intro q w i hq hw hi e1 e2
    rw [slice2_read]
    subst e1
    exact out2_row p hp b C r hr q hq w hw j L e2
  unfold sum2
  rw [halves_read]
  by_cases hl : L.val < 64
  · rw [if_pos hl, e 0 2 32 (by omega) (by omega) (by omega) (by omega) (by omega), e 0 1 16 (by omega) (by omega) (by omega) (by omega) (by omega),
      e 0 0 0 (by omega) (by omega) (by omega) (by omega) (by omega), if_neg (by decide), if_neg (by decide), if_pos rfl, zero_add, zero_add]
    congr 2; omega
  · rw [if_neg hl, e 1 2 80 (by omega) (by omega) (by omega) (by omega) (by omega), e 1 1 64 (by omega) (by omega) (by omega) (by omega) (by omega),
      e 1 0 48 (by omega) (by omega) (by omega) (by omega) (by omega), if_neg (by decide), if_neg (by decide), if_pos rfl, zero_add, zero_add]
    congr 2; omega
theorem cnt4_read (r : ℕ) (hr : r + 3 < 10) (h : ℕ) (hh : h < 2) (L : Fin 128) :
    cnt4 (out4 p (idxOf b C) (wordOf b C) r hr) h hh (ix2 0 L)
      = tileCnt b C ⟨r + 2 * h + L.val / 64, by have h := L.isLt; omega⟩ (L.val % 64) := by
  have hL := L.isLt
  have e : cnt4 (out4 p (idxOf b C) (wordOf b C) r hr) h hh (ix2 0 L) = slice4 (out4 p (idxOf b C) (wordOf b C) r hr) 192 h (by omega) hh (ix2 0 L) := by
    unfold cnt4
    pointwise
  rw [e, slice4_read]
  refine (out4_ones p hp b C r hr 0 ⟨128 * h + L.val, by omega⟩).trans ?_
  have e1 : (⟨r + (128 * h + L.val) / 64, by omega⟩ : Fin 10) = ⟨r + 2 * h + L.val / 64, by omega⟩ := Fin.ext (by show r + (128 * h + L.val) / 64 = r + 2 * h + L.val / 64; omega)
  show tileCnt b C ⟨r + (128 * h + L.val) / 64, _⟩ ((128 * h + L.val) % 64) = _
  rw [e1, show (128 * h + L.val) % 64 = L.val % 64 by omega]
theorem cnt2_read (r : ℕ) (hr : r + 1 < 10) (L : Fin 128) :
    cnt2 (out2 p (idxOf b C) (wordOf b C) r hr) (ix2 0 L)
      = tileCnt b C ⟨r + L.val / 64, by have h := L.isLt; omega⟩ (L.val % 64) := by
  have e : cnt2 (out2 p (idxOf b C) (wordOf b C) r hr) (ix2 0 L) = slice2 (out2 p (idxOf b C) (wordOf b C) r hr) 96 (by omega) (ix2 0 L) := by
    unfold cnt2
    pointwise
  rw [e, slice2_read]
  exact out2_ones p hp b C r hr 0 L

theorem sumsOf_read (k : Fin 5) (j : Fin 16) (L : Fin 128) :
    sumsOf p (idxOf b C) (wordOf b C) k (ix2 j L)
      = tileSum p b C ⟨2 * k.val + L.val / 64, by have h := L.isLt; have h' := k.isLt; omega⟩ j (L.val % 64) := by
  match k with
  | ⟨0, _⟩ => exact (sum4_read p hp b C 0 (by omega) 0 (by omega) j L)
  | ⟨1, _⟩ => exact (sum4_read p hp b C 0 (by omega) 1 (by omega) j L)
  | ⟨2, _⟩ => exact (sum4_read p hp b C 4 (by omega) 0 (by omega) j L)
  | ⟨3, _⟩ => exact (sum4_read p hp b C 4 (by omega) 1 (by omega) j L)
  | ⟨4, _⟩ => exact (sum2_read p hp b C 8 (by omega) j L)
theorem cntsOf_read (k : Fin 5) (L : Fin 128) :
    cntsOf p (idxOf b C) (wordOf b C) k (ix2 0 L)
      = tileCnt b C ⟨2 * k.val + L.val / 64, by have h := L.isLt; have h' := k.isLt; omega⟩ (L.val % 64) := by
  match k with
  | ⟨0, _⟩ => exact (cnt4_read p hp b C 0 (by omega) 0 (by omega) L)
  | ⟨1, _⟩ => exact (cnt4_read p hp b C 0 (by omega) 1 (by omega) L)
  | ⟨2, _⟩ => exact (cnt4_read p hp b C 4 (by omega) 0 (by omega) L)
  | ⟨3, _⟩ => exact (cnt4_read p hp b C 4 (by omega) 1 (by omega) L)
  | ⟨4, _⟩ => exact (cnt2_read p hp b C 8 (by omega) L)

end Cert.KernelIdeal.Hand

end
-- ==== Proof.Spec.lean ====
/- What the two programs compute over the extended reals, as plain sums over a document's tokens. -/
module

public import Idealize.ShloMosaic.PureOps
public import Idealize.ShloMosaic.Lib.Pointwise

@[expose] public section

noncomputable section

namespace Cert.Spec

open Idealize.ShloMosaic

/-- Token `s` is below the length `n` and its code `c` is the bucket `u`. -/
def hit (n c : BitVec 32) (s u : ℕ) : Prop := IntOp.cmpi .slt (BitVec.ofNat 32 s) n = 1#1 ∧ c = BitVec.ofNat 32 u
instance (n c : BitVec 32) (s u : ℕ) : Decidable (hit n c s u) := by unfold hit; infer_instance

def quarter : EReal := Ideal.ofBits .f32 0x3E800000#32

variable (X : IVec ⟨3, ![200, 512, 768]⟩ 8) (S : FVec Ideal ⟨2, ![200, 512]⟩ .f32) (N : IVec ⟨1, ![200]⟩ 32)
  (C : IVec ⟨3, ![200, 512, 10]⟩ 32) (W : IVec ⟨3, ![10, 768, 16]⟩ 8)

/-- The scaled projection of token `s` of document `d`. -/
def term (d : Fin 200) (r : Fin 10) (p : Fin 16) (s : Fin 512) : EReal :=
  (∑ k : Fin 768, Ideal.ofBits .fp8e4m3 (W (ix3 r k p)) * Ideal.ofBits .fp8e4m3 (X (ix3 d s k))) * ((S (ix2 d s) : EReal) * quarter)
/-- The sum of a bucket's tokens. -/
def sums (d : Fin 200) (r : Fin 10) (u : Fin 64) (p : Fin 16) : EReal :=
  ∑ s : Fin 512, if hit (N (ix1 d)) (C (ix3 d s r)) s.val u.val then term X S W d r p s else 0
/-- The number of a bucket's tokens. -/
def count (d : Fin 200) (r : Fin 10) (u : Fin 64) : ℕ :=
  (Finset.univ.filter fun s : Fin 512 => hit (N (ix1 d)) (C (ix3 d s r)) s.val u.val).card

/-- The sum of ones over the tokens of a bucket, converted to a word, is their number. -/
theorem fptosi_count (P : Fin 512 → Prop) [DecidablePred P] :
    Ideal.fptosi 32 (∑ s : Fin 512, if P s then (1 : EReal) else 0) = BitVec.ofNat 32 (Finset.univ.filter P).card := by
  have h : (∑ s : Fin 512, if P s then (1 : EReal) else 0) = (((Finset.univ.filter P).card : ℝ) : EReal) := by
    rw [Finset.sum_ite, Finset.sum_const_zero, add_zero, Finset.sum_const]
    simp
  have hle : (Finset.univ.filter P).card ≤ 512 := (Finset.card_le_univ _).trans (by simp)
  rw [h]
  generalize (Finset.univ.filter P).card = n at hle
  unfold Ideal.fptosi
  rw [Ideal.toIntClamped_coe, if_pos (by positivity), Int.floor_natCast, min_eq_right (by norm_num; omega), max_eq_right (by norm_num)]
  exact BitVec.ofInt_natCast 32 n

theorem fde_split (f : Fin 512 → EReal) : ∑ s : Fin 512, f s
    = (∑ l : Fin 256, f ⟨256 * 0 + l.val, by have h := l.isLt; omega⟩) + ∑ l : Fin 256, f ⟨256 * 1 + l.val, by have h := l.isLt; omega⟩ := by
  refine (Fin.sum_univ_add (a := 256) (b := 256) f).trans ?_
  refine congrArg₂ (· + ·) (Finset.sum_congr rfl fun l _ => congrArg f (Fin.ext ?_)) (Finset.sum_congr rfl fun l _ => congrArg f (Fin.ext ?_))
  · show l.val = 256 * 0 + l.val; omega
  · show 256 + l.val = 256 * 1 + l.val; omega

end Cert.Spec

end
-- ==== Proof.Doc.lean ====
/- A document's sums and counts at an index, over the extended reals: plain sums over its tokens. -/
module

public import proofs.«01_k».proof.Proof.Tile
public import proofs.«01_k».proof.Proof.Spec

@[expose] public section

set_option maxRecDepth 16384

noncomputable section

namespace Cert.KernelIdeal.Hand

open Cert.KernelIdeal Cert.KernelIdeal.Gen
open Idealize.ShloMosaic Idealize.SL.Sem

/-! ## A tile -/

theorem valid_read (t : ℕ) (n : BitVec 32) (l : Fin 256) : valid t n (ix2 0 l) = IntOp.cmpi .slt (BitVec.ofNat 32 (256 * t + l.val)) n := by
  unfold valid
  pointwise
  congr 1
  show BitVec.ofNat 32 l.val + BitVec.ofNat 32 (256 * t) = _
  rw [← BitVec.ofNat_add, Nat.add_comm]
theorem scaleRow_read (t : ℕ) (n : BitVec 32) (vs : Vec Ideal S1x256 .f32) (l : Fin 256) :
    scaleRow t n vs (ix2 0 l) = if IntOp.cmpi .slt (BitVec.ofNat 32 (256 * t + l.val)) n = 1#1 then (vs (ix2 0 l) : EReal) * Spec.quarter else (0 : EReal) := by
  rw [← valid_read t n l]
  show Scalar.select (valid t n (ix2 0 l)) ((vs (ix2 0 l) : EReal) * Spec.quarter) (Ideal.ofBits .f32 0x00000000#32) = _
  rw [Ideal.ofBits_zero_f32]
  exact select_iff _ _ Iff.rfl _ _
theorem codeRow_read (t : ℕ) (n : BitVec 32) (vc : Vec Ideal S10x1x256 .i32) (r : Fin 10) (l : Fin 256) :
    codeRow (F := Ideal) t n vc (ix2 r l) = if IntOp.cmpi .slt (BitVec.ofNat 32 (256 * t + l.val)) n = 1#1 then vc (ix3 r 0 l) else 4294967295#32 := by
  rw [← valid_read t n l]
  unfold codeRow
  generalize valid t n = v
  pointwise
  exact select_iff _ _ Iff.rfl _ _
theorem proj_read (t : ℕ) (n : BitVec 32) (vp : FVec Ideal S160x768 .fp8e4m3) (vs : Vec Ideal S1x256 .f32) (vx : Vec Ideal S1x256x768 .fp8e4m3)
    (a : Fin 160) (l : Fin 256) :
    proj t n vp vs vx (ix2 a l) = (∑ k : Fin 768, (vp (ix2 a k) : EReal) * vx (ix3 0 l k)) * (scaleRow t n vs (ix2 0 l) : EReal) := by
  unfold proj
  generalize scaleRow t n vs = v
  pointwise

variable (x0 : Vec Ideal S8x512x768 .fp8e4m3) (x1 : Vec Ideal S8x512 .f32) (x2 : Vec Ideal S10x8x512 .i32) (vp : FVec Ideal S160x768 .fp8e4m3)

/-- The scaled projection of token `s` of document `b` of the point on row `a`. -/
def P1 (b : Fin 8) (a : Fin 160) (s : Fin 512) : EReal :=
  (∑ k : Fin 768, (vp (ix2 a k) : EReal) * x0 (ix3 b s k)) * ((x1 (ix2 b s) : EReal) * Spec.quarter)

theorem tileP_read (b : Fin 8) (t : Fin 2) (n : BitVec 32) (a : Fin 160) (l : Fin 256) :
    tileP x0 x1 vp b t n (ix2 a l) = if IntOp.cmpi .slt (BitVec.ofNat 32 (256 * t.val + l.val)) n = 1#1
      then P1 x0 x1 vp b a ⟨256 * t.val + l.val, by have h := l.isLt; have h' := t.isLt; omega⟩ else (0 : EReal) := by
  unfold tileP
  rw [proj_read, scaleRow_read]
  split_ifs
  · rfl
  · exact mul_zero _
theorem tileC_read (b : Fin 8) (t : Fin 2) (n : BitVec 32) (r : Fin 10) (l : Fin 256) :
    tileC x2 b t n (ix2 r l) = if IntOp.cmpi .slt (BitVec.ofNat 32 (256 * t.val + l.val)) n = 1#1
      then x2 (ix3 r b ⟨256 * t.val + l.val, by have h := l.isLt; have h' := t.isLt; omega⟩) else 4294967295#32 := by
  unfold tileC
  rw [codeRow_read]
  rfl

theorem hot_read (b : Fin 8) (t : Fin 2) (n : BitVec 32) (r : Fin 10) (l : Fin 256) (u : ℕ) (hu : u < 64) :
    hot b.val (tileC x2 b t n) r (8 * (u / 8) + (u + b.val) % 8) l
      = if Spec.hit n (x2 (ix3 r b ⟨256 * t.val + l.val, by have h := l.isLt; have h' := t.isLt; omega⟩)) (256 * t.val + l.val) u then (1 : EReal) else 0 := by
  unfold hot
  rw [hotB_eq b.val b.isLt _ u hu, tileC_read]
  by_cases hv : IntOp.cmpi .slt (BitVec.ofNat 32 (256 * t.val + l.val)) n = 1#1
  · rw [if_pos hv]
    by_cases hc : x2 (ix3 r b ⟨256 * t.val + l.val, by have h := l.isLt; have h' := t.isLt; omega⟩) = BitVec.ofNat 32 u
    · rw [if_pos hc, if_pos ⟨hv, hc⟩]; exact ofBits_one
    · rw [if_neg hc, if_neg fun h => hc h.2]; exact ofBits_zero
  · have hne : ¬ (4294967295#32 : BitVec 32) = BitVec.ofNat 32 u := by interval_cases u <;> decide
    rw [if_neg hv, if_neg hne, if_neg fun h => hv h.1]
    exact ofBits_zero

section
variable (h0 : ∀ i, IsReal (x0 i)) (h1 : ∀ i, IsReal (x1 i)) (hvp : ∀ i, IsReal (vp i)) (hq : IsReal Spec.quarter)
include h0 h1 hvp hq

theorem tileP_real (b : Fin 8) (t : Fin 2) (n : BitVec 32) (i : S160x256.Idx) : IsReal (tileP x0 x1 vp b t n i) := by
  obtain ⟨a, l, rfl⟩ : ∃ (a : Fin 160) (l : Fin 256), i = ix2 a l := ⟨i 0, i 1, eq_ix2 i⟩
  rw [tileP_read]
  split_ifs
  · exact (IsReal.sum _ _ fun k => (hvp _).mul (h0 _)).mul ((h1 _).mul hq)
  · exact isReal_zero

variable (n : BitVec 32) (b : Fin 8) (t : Fin 2) (k : Fin 5) (j : Fin 16) (L : Fin 128) (u : ℕ) (hu : u < 64) (hL : L.val % 64 = 8 * (u / 8) + (u + b.val) % 8)
  (r : Fin 10) (hr : r.val = 2 * k.val + L.val / 64)
include hu hL hr

theorem tileS_read : tileS x0 x1 x2 vp b t n k (ix2 j L)
    = ∑ l : Fin 256, if Spec.hit n (x2 (ix3 r b ⟨256 * t.val + l.val, by have h := l.isLt; have h' := t.isLt; omega⟩)) (256 * t.val + l.val) u
        then P1 x0 x1 vp b ⟨16 * r.val + j.val, by have h := r.isLt; have h' := j.isLt; omega⟩ ⟨256 * t.val + l.val, by have h := l.isLt; have h' := t.isLt; omega⟩ else (0 : EReal) := by
  unfold tileS
  rw [sumsOf_read _ (tileP_real x0 x1 vp h0 h1 hvp hq b t n)]
  have hr' : (⟨2 * k.val + L.val / 64, by have h := L.isLt; have h' := k.isLt; omega⟩ : Fin 10) = r := Fin.ext hr.symm
  rw [hr', hL]
  unfold tileSum
  refine Finset.sum_congr rfl fun l _ => ?_
  rw [hot_read x2 b t n r l u hu, tileP_read]
  by_cases hh : Spec.hit n (x2 (ix3 r b ⟨256 * t.val + l.val, by have h := l.isLt; have h' := t.isLt; omega⟩)) (256 * t.val + l.val) u
  · rw [if_pos hh, if_pos hh, if_pos hh.1, mul_one]
  · rw [if_neg hh, if_neg hh, mul_zero]
theorem tileN_read : tileN x0 x1 x2 vp b t n k (ix2 0 L)
    = ∑ l : Fin 256, if Spec.hit n (x2 (ix3 r b ⟨256 * t.val + l.val, by have h := l.isLt; have h' := t.isLt; omega⟩)) (256 * t.val + l.val) u
        then (1 : EReal) else 0 := by
  unfold tileN
  rw [cntsOf_read _ (tileP_real x0 x1 vp h0 h1 hvp hq b t n)]
  have hr' : (⟨2 * k.val + L.val / 64, by have h := L.isLt; have h' := k.isLt; omega⟩ : Fin 10) = r := Fin.ext hr.symm
  rw [hr', hL]
  unfold tileCnt
  exact Finset.sum_congr rfl fun l _ => hot_read x2 b t n r l u hu
end

/-! ## A document -/

theorem long_iff (n : BitVec 32) : long n ↔ (256#32).slt n = true := by
  have e : (Scalar.cmpi .sgt n 256#32 : BitVec 1) = BitVec.ofBool ((256#32).slt n) := rfl
  unfold long
  rw [e]
  cases (256#32).slt n <;> decide
theorem not_long (n : BitVec 32) (h : ¬ long n) (c : BitVec 32) (s u : ℕ) (hs : 256 ≤ s) (hs' : s < 512) : ¬ Spec.hit n c s u := by
  rintro ⟨h1, -⟩
  rw [long_iff] at h
  have e : IntOp.cmpi .slt (BitVec.ofNat 32 s) n = BitVec.ofBool ((BitVec.ofNat 32 s).slt n) := rfl
  rw [e] at h1
  have h2 : (BitVec.ofNat 32 s).slt n = true := by
    cases hc : (BitVec.ofNat 32 s).slt n with
    | true => rfl
    | false => rw [hc] at h1; exact absurd h1 (by decide)
  rw [BitVec.slt_iff_toInt_lt] at h h2
  have e1 : (256#32 : BitVec 32).toInt = 256 := rfl
  have e2 : (BitVec.ofNat 32 s).toInt = s := by
    rw [BitVec.toInt_eq_toNat_cond, BitVec.toNat_ofNat]
    have : s % 2 ^ 32 = s := Nat.mod_eq_of_lt (by omega)
    rw [this, if_pos (by omega)]
  omega

section
variable (h0 : ∀ i, IsReal (x0 i)) (h1 : ∀ i, IsReal (x1 i)) (hvp : ∀ i, IsReal (vp i)) (hq : IsReal Spec.quarter)
include h0 h1 hvp hq
variable (n : Fin 8 → BitVec 32) (b : Fin 8) (k : Fin 5) (j : Fin 16) (L : Fin 128) (u : ℕ) (hu : u < 64) (hL : L.val % 64 = 8 * (u / 8) + (u + b.val) % 8)
  (r : Fin 10) (hr : r.val = 2 * k.val + L.val / 64)
include hu hL hr

theorem docS_read : docS x0 x1 x2 vp n b k (ix2 j L)
    = ∑ s : Fin 512, if Spec.hit (n b) (x2 (ix3 r b s)) s.val u
        then P1 x0 x1 vp b ⟨16 * r.val + j.val, by have h := r.isLt; have h' := j.isLt; omega⟩ s else (0 : EReal) := by
  rw [Spec.fde_split]
  unfold docS
  have e := fun t => tileS_read x0 x1 x2 vp h0 h1 hvp hq (n b) b t k j L u hu hL r hr
  by_cases hl : long (n b)
  · rw [if_pos hl]
    exact congrArg₂ (· + ·) (e 0) (e 1)
  · rw [if_neg hl]
    refine (e 0).trans ((add_zero _).symm.trans (congrArg₂ (· + ·) rfl (Finset.sum_eq_zero fun l _ => ?_).symm))
    have hl' := l.isLt
    exact if_neg (not_long (n b) hl _ _ u (by show 256 ≤ 256 * 1 + l.val; omega) (by show 256 * 1 + l.val < 512; omega))
theorem docN_read : docN x0 x1 x2 vp n b k (ix2 0 L)
    = ∑ s : Fin 512, if Spec.hit (n b) (x2 (ix3 r b s)) s.val u then (1 : EReal) else 0 := by
  rw [Spec.fde_split]
  unfold docN
  have e := fun t => tileN_read x0 x1 x2 vp h0 h1 hvp hq (n b) b t k L u hu hL r hr
  by_cases hl : long (n b)
  · rw [if_pos hl]
    exact congrArg₂ (· + ·) (e 0) (e 1)
  · rw [if_neg hl]
    refine (e 0).trans ((add_zero _).symm.trans (congrArg₂ (· + ·) rfl (Finset.sum_eq_zero fun l _ => ?_).symm))
    have hl' := l.isLt
    exact if_neg (not_long (n b) hl _ _ u (by show 256 ≤ 256 * 1 + l.val; omega) (by show 256 * 1 + l.val < 512; omega))
end

theorem quarter_real : IsReal Spec.quarter := by
  unfold Spec.quarter
  show IsReal (Ideal.ieee 8 23 0x3E800000#32)
  unfold Ideal.ieee
  dsimp only
  rw [if_neg (by decide)]
  split
  · exact ⟨_, rfl⟩
  · exact ⟨_, rfl⟩

end Cert.KernelIdeal.Hand

end
-- ==== Proof.KernelOut.lean ====
/- What the idealized program leaves in its two results, as plain sums over a document's tokens. -/
module

public import proofs.«01_k».proof.Proof.ValueIdeal
public import proofs.«01_k».proof.Proof.Doc
public import proofs.«01_k».proof.Proof.Spec
public import Idealize.ShloMosaic.Lib.Pipeline.ValueKit

@[expose] public section

set_option maxRecDepth 16384

noncomputable section

namespace Cert.KernelIdeal.Hand.Val

open Cert.KernelIdeal Cert.KernelIdeal.Gen Cert.KernelIdeal.Hand
open Idealize.ShloMosaic Idealize.ShloMosaic.TcCoe Idealize.ShloMosaic.Tactic
open Idealize.SL Idealize.SL.RA Idealize.SL.Sem

variable (m : (ℓ : Loc nD τ sig) → Buf (Elt Ideal) ℓ) (ρ : Dev nD → PrngReg)

/-! ## The windows at an index -/

theorem doc_lt (t : Fin (cfgM m).N) (b : Fin 8) : 8 * t.val + b.val < 200 := by
  have h : t.val < 25 := lt_of_lt_of_eq t.isLt (N_eq m); have h' := b.isLt; omega
/-- The document at place `b` of point `t`. -/
abbrev doc (t : Fin (cfgM m).N) (b : Fin 8) : Fin 200 := ⟨8 * t.val + b.val, doc_lt m t b⟩

/-- A table of zeros: no window's index reads the table. -/
def zTbl : pre0.Contents (Elt Ideal) := fun j => match j with
  | ⟨0, _⟩ => fun _ => (0#32 : BitVec 32)
abbrev zAdm : (pcfg0 (F := Ideal)).Adm := ⟨zTbl, trivial⟩

theorem kidx0 (t : Fin (cfgM m).N) : ((cfgM m).win 0).index t = ![t.val, 0, 0] := by
  have h : ∀ t : Fin grid0.N, ((cfg0 zAdm).win 0).index t = ![t.val, 0, 0] := by decide +kernel
  exact h t
theorem kidx1 (t : Fin (cfgM m).N) : ((cfgM m).win 1).index t = ![t.val, 0] := by
  have h : ∀ t : Fin grid0.N, ((cfg0 zAdm).win 1).index t = ![t.val, 0] := by decide +kernel
  exact h t
theorem kidx2 (t : Fin (cfgM m).N) : ((cfgM m).win 2).index t = ![0, t.val, 0] := by
  have h : ∀ t : Fin grid0.N, ((cfg0 zAdm).win 2).index t = ![0, t.val, 0] := by decide +kernel
  exact h t
theorem kidx3 (t : Fin (cfgM m).N) : ((cfgM m).win 3).index t = ![0, 0] := by
  have h : ∀ t : Fin grid0.N, ((cfg0 zAdm).win 3).index t = ![0, 0] := by decide +kernel
  exact h t
theorem kidx4 (t : Fin (cfgM m).N) : ((cfgM m).win 4).index t = ![t.val, 0] := by
  have h : ∀ t : Fin grid0.N, ((cfg0 zAdm).win 4).index t = ![t.val, 0] := by decide +kernel
  exact h t
theorem kidx5 (t : Fin (cfgM m).N) : ((cfgM m).win 5).index t = ![0, 0, 0] := by
  have h : ∀ t : Fin grid0.N, ((cfg0 zAdm).win 5).index t = ![0, 0, 0] := by decide +kernel
  exact h t
theorem cov4 : ((cfgM m).win 4).Covers := by
  have h : ((cfg0 zAdm).win 4).Covers := by decide +kernel
  exact h
theorem cov5 : ((cfgM m).win 5).Covers := by
  have h : ((cfg0 zAdm).win 5).Covers := by decide +kernel
  exact h

theorem kblk0_read (c : Dev nD) (t : Fin (cfgM m).N) (b : Fin 8) (s : Fin 512) (k : Fin 768) :
    iblk m c 0 t (ix3 b s k) = Ideal.ofBits .fp8e4m3 (m ((c : Thread nD τ).loc main_arg0) (ix3 (doc m t b) s k)) := by
  have e : iblk m c 0 t (ix3 b s k) = V m c main_v0 (ix3 (doc m t b) s k) := by
    blk_ext [iblk, kidx0 m t]
  rw [e]
  unfold V V0
  simp only [List.flatten_cons, List.flatten_nil, List.append_nil]
  entry_read
  pointwise
theorem kblk1_read (c : Dev nD) (t : Fin (cfgM m).N) (b : Fin 8) (s : Fin 512) :
    iblk m c 1 t (ix2 b s) = m ((c : Thread nD τ).loc main_arg1) (ix2 (doc m t b) s) := by
  have e : iblk m c 1 t (ix2 b s) = V m c main_arg1 (ix2 (doc m t b) s) := by
    blk_ext [iblk, kidx1 m t]
  exact e.trans (congrFun (V_of_ne m c main_arg1 (by decide) (by decide) (by decide) (by decide) (by decide)) _)
theorem kblk2_read (c : Dev nD) (t : Fin (cfgM m).N) (r : Fin 10) (b : Fin 8) (s : Fin 512) :
    iblk m c 2 t (ix3 r b s) = m ((c : Thread nD τ).loc main_arg3) (ix3 (doc m t b) s r) := by
  have e : iblk m c 2 t (ix3 r b s) = V m c main_v2 (ix3 r (doc m t b) s) := by
    blk_ext [iblk, kidx2 m t]
  rw [e]
  unfold V V0
  simp only [List.flatten_cons, List.flatten_nil, List.append_nil]
  entry_read
  pointwise
theorem kblk3_read (c : Dev nD) (t : Fin (cfgM m).N) (r : Fin 10) (p : Fin 16) (k : Fin 768) (a : Fin 160) (ha : a.val = 16 * r.val + p.val) :
    iblk m c 3 t (ix2 a k) = Ideal.ofBits .fp8e4m3 (m ((c : Thread nD τ).loc main_arg4) (ix3 r k p)) := by
  have e : iblk m c 3 t (ix2 a k) = V m c main_v4 (ix2 a k) := by
    blk_ext [iblk, kidx3 m t]
  rw [e]
  unfold V V0
  simp only [List.flatten_cons, List.flatten_nil, List.append_nil]
  entry_read
  pointwise
  have hp := p.isLt
  have e1 : a.val / 16 = r.val := by omega
  have e2 : a.val % 16 = p.val := by omega
  simp only [e1, e2]
  rfl
theorem lens_read (t : Fin (cfgM m).N) (b : Fin 8) (c : Dev nD) :
    lensAt m t b = m ((c : Thread nD τ).loc main_arg2) (ix1 (doc m t b)) := by
  obtain rfl : c = 0 := Subsingleton.elim _ _
  unfold lensAt lens
  have e := coord_val t
  have e2 : tbl m 0 = m (((0 : Dev nD) : Thread nD τ).loc main_arg2) :=
    V_of_ne m 0 main_arg2 (by decide) (by decide) (by decide) (by decide) (by decide)
  rw [e2]
  refine congrArg _ (congrArg ix1 (Fin.ext ?_))
  show 8 * _ + b.val = 8 * t.val + b.val
  rw [e]

/-! ## The results -/

theorem at4 (y : S8x10240.Idx) : ∃ (b : Fin 8) (e : Fin 10240), y = ix2 b e := ⟨y 0, y 1, eq_ix2 y⟩
theorem at5 (y : S10x64x200.Idx) : ∃ (q : Fin 10) (u : Fin 64) (r : Fin 200), y = ix3 q u r := ⟨y 0, y 1, y 2, eq_ix3 y⟩

section
variable (c : Dev nD) (g0 : ∀ i, IsReal (Ideal.ofBits .fp8e4m3 (m ((c : Thread nD τ).loc main_arg0) i)))
  (g4 : ∀ i, IsReal (Ideal.ofBits .fp8e4m3 (m ((c : Thread nD τ).loc main_arg4) i))) (g1 : ∀ i, IsReal (m ((c : Thread nD τ).loc main_arg1) i))
include g0 g4 g1

theorem real0 (t : Fin (cfgM m).N) (i : S8x512x768.Idx) : IsReal (iblk m c 0 t i) := by
  obtain ⟨b, s, k, rfl⟩ : ∃ (b : Fin 8) (s : Fin 512) (k : Fin 768), i = ix3 b s k := ⟨i 0, i 1, i 2, eq_ix3 i⟩
  rw [kblk0_read]; exact g0 _
theorem real1 (t : Fin (cfgM m).N) (i : S8x512.Idx) : IsReal (iblk m c 1 t i) := by
  obtain ⟨b, s, rfl⟩ : ∃ (b : Fin 8) (s : Fin 512), i = ix2 b s := ⟨i 0, i 1, eq_ix2 i⟩
  rw [kblk1_read]; exact g1 _
theorem real3 (t : Fin (cfgM m).N) (i : S160x768.Idx) : IsReal (iblk m c 3 t i) := by
  obtain ⟨a, k, rfl⟩ : ∃ (a : Fin 160) (k : Fin 768), i = ix2 a k := ⟨i 0, i 1, eq_ix2 i⟩
  have ha := a.isLt
  rw [kblk3_read m c t ⟨a.val / 16, by omega⟩ ⟨a.val % 16, by omega⟩ k a (by show a.val = 16 * (a.val / 16) + a.val % 16; omega)]
  exact g4 _

theorem sumsAt_read (t : Fin (cfgM m).N) (b : Fin 8) (k : Fin 5) (p : Fin 16) (L : Fin 128) (u : Fin 64)
    (hL : L.val % 64 = 8 * (u.val / 8) + (u.val + b.val) % 8) (r : Fin 10) (hr : r.val = 2 * k.val + L.val / 64) :
    sumsAt m c t b k (ix2 p L) = Spec.sums (m ((c : Thread nD τ).loc main_arg0)) (m ((c : Thread nD τ).loc main_arg1))
      (m ((c : Thread nD τ).loc main_arg2)) (m ((c : Thread nD τ).loc main_arg3)) (m ((c : Thread nD τ).loc main_arg4)) (doc m t b) r u p := by
  refine (docS_read _ _ _ _ (real0 m c g0 g4 g1 t) (real1 m c g0 g4 g1 t) (real3 m c g0 g4 g1 t) quarter_real _ b k p L u.val u.isLt hL r hr).trans ?_
  unfold Spec.sums
  refine Finset.sum_congr rfl fun s _ => ?_
  rw [lens_read m t b c, kblk2_read]
  refine if_congr Iff.rfl ?_ rfl
  unfold P1 Spec.term
  rw [kblk1_read]
  refine congrArg (· * _) (Finset.sum_congr rfl fun k' _ => ?_)
  rw [kblk0_read, kblk3_read m c t r p k' _ rfl]
theorem cntsAt_read (t : Fin (cfgM m).N) (b : Fin 8) (k : Fin 5) (L : Fin 128) (u : Fin 64)
    (hL : L.val % 64 = 8 * (u.val / 8) + (u.val + b.val) % 8) (r : Fin 10) (hr : r.val = 2 * k.val + L.val / 64) :
    Ideal.fptosi 32 (cntsAt m c t b k (ix2 0 L)) = BitVec.ofNat 32 (Spec.count (m ((c : Thread nD τ).loc main_arg2)) (m ((c : Thread nD τ).loc main_arg3)) (doc m t b) r u) := by
  have e := docN_read _ _ (iblk m c 2 t) _ (real0 m c g0 g4 g1 t) (real1 m c g0 g4 g1 t) (real3 m c g0 g4 g1 t) quarter_real (lensAt m t) b k L u.val u.isLt hL r hr
  simp only [lens_read m t b c, kblk2_read] at e
  exact (congrArg (Ideal.fptosi 32) e).trans (Spec.fptosi_count _)

theorem arr4_eq : (dats m 0 c).arrAt 4 (cfgM m).N
    = fun y : S200x10240.Idx => Spec.sums (m ((c : Thread nD τ).loc main_arg0)) (m ((c : Thread nD τ).loc main_arg1)) (m ((c : Thread nD τ).loc main_arg2))
        (m ((c : Thread nD τ).loc main_arg3)) (m ((c : Thread nD τ).loc main_arg4)) (y 0)
        ⟨(y 1).val / 1024, by have h : (y 1).val < 10240 := (y 1).isLt; omega⟩ ⟨(y 1).val / 16 % 64, by omega⟩ ⟨(y 1).val % 16, by omega⟩ := by
  refine (dats m 0 c).arrAt_eq_of_covers 4 _ (cov4 m) fun t hf y => ?_
  obtain ⟨b, e, rfl⟩ := at4 y
  have he := e.isLt
  have hb := b.isLt
  have ei : (((cfgM m).win 4).blk t).view.emb (ix2 b e) = (ix2 (doc m t b) e : S200x10240.Idx) := by
    blk_ext [kidx4 m t]
  rw [ei]
  rw [after0_4]
  refine (fdeOf_read (sumsAt m c t) b e).trans ?_
  refine (sumsAt_read m c g0 g4 g1 t _ _ _ _ ⟨e.val / 16 % 64, by omega⟩ ?_ ⟨e.val / 1024, by omega⟩ ?_).trans ?_
  · unfold up
    dsimp only
    omega
  · unfold up
    dsimp only
    omega
  · rfl

theorem arr5_eq : (dats m 0 c).arrAt 5 (cfgM m).N
    = fun y : S10x64x200.Idx => BitVec.ofNat 32 (Spec.count (m ((c : Thread nD τ).loc main_arg2)) (m ((c : Thread nD τ).loc main_arg3)) (y 2) (y 0) (y 1)) := by
  refine (dats m 0 c).arrAt_eq_of_covers 5 _ (cov5 m) fun t hf y => ?_
  obtain ⟨q, u, r, rfl⟩ := at5 y
  have hq := q.isLt
  have hu := u.isLt
  have hr := r.isLt
  have ei : (((cfgM m).win 5).blk t).view.emb (ix3 q u r) = (ix3 q u r : S10x64x200.Idx) := by
    blk_ext [kidx5 m t]
  rw [ei]
  rw [after0_5]
  refine (cntOf_read (full m c) q u r).trans ?_
  have hlt : r.val / 8 < (cfgM m).N := by rw [N_eq m]; omega
  have ef : ∀ k L, full m c (ix3 k ⟨r.val, by omega⟩ L) = cntsAt m c ⟨r.val / 8, hlt⟩ ⟨r.val % 8, Nat.mod_lt _ (by decide)⟩ k (ix2 0 L) := fun k L => by
    unfold full
    exact dif_pos hlt
  rw [ef]
  refine (cntsAt_read m c g0 g4 g1 _ _ _ _ u ?_ q ?_).trans ?_
  · unfold up
    dsimp only
    omega
  · unfold up
    dsimp only
    omega
  · have ed : doc m ⟨r.val / 8, hlt⟩ ⟨r.val % 8, Nat.mod_lt _ (by decide)⟩ = r := Fin.ext (by show 8 * (r.val / 8) + r.val % 8 = r.val; omega)
    rw [ed]
    rfl

end

/-! ## The run -/

/-- The counts brought document by document. -/
def byDoc (v : Vec Ideal S10x64x200 .i32) : Vec Ideal S200x10x64 .i32 := transpose S200x10x64 [2, 0, 1] v transposes_S10x64x200_S200x10x64_2_0_1
theorem byDoc_read (v : Vec Ideal S10x64x200 .i32) (d : Fin 200) (r : Fin 10) (u : Fin 64) : byDoc v (ix3 d r u) = v (ix3 r u d) := by
  unfold byDoc
  pointwise

theorem tail_v6 (c : Dev nD) : tail m c main_v6 = byDoc ((dats m 0 c).arrAt 5 (cfgM m).N) := by
  unfold tail Pipeline.afterTail
  simp only [List.flatten_cons, List.flatten_nil, List.append_nil]
  rw [StableHlo.after_cons, StableHlo.after_nil, StableHlo.unary_result]
  refine congrArg byDoc ?_
  exact Pipeline.withArrays_arr spec0 (by decide +kernel) c (V0 m c) (fun w => (dats m 0 c).arrAt w (cfgM m).N) 5
theorem tail_of_ne (c : Dev nD) (b : Ref sig .tc) (h6 : b ≠ main_v6) (hw : ∀ w, Pipeline.arrRef spec0 w ≠ b) : tail m c b = V m c b := by
  unfold tail Pipeline.afterTail
  simp only [List.flatten_cons, List.flatten_nil, List.append_nil]
  rw [StableHlo.after_cons, StableHlo.after_nil, StableHlo.unary_result_ne _ _ _ _ _ _ h6]
  exact Pipeline.withArrays_of_ne spec0 c (V0 m c) (fun w => (dats m 0 c).arrAt w (cfgM m).N) b hw

theorem run_values (h : ∀ c : Dev nD, (∀ i, IsReal (Ideal.ofBits .fp8e4m3 (m ((c : Thread nD τ).loc main_arg0) i)))
      ∧ (∀ i, IsReal (Ideal.ofBits .fp8e4m3 (m ((c : Thread nD τ).loc main_arg4) i))) ∧ ∀ i, IsReal (m ((c : Thread nD τ).loc main_arg1) i)) :
    θ_run defs (onTc (τ := τ) (main (F := Ideal))) ⟨m, fun _ => 0, ρ⟩ (fun r => ∀ c : Dev nD,
      r.2.mem ((c.tc : Thread nD τ).loc main_v5_0) = (fun y : S200x10240.Idx => Spec.sums (m ((c : Thread nD τ).loc main_arg0)) (m ((c : Thread nD τ).loc main_arg1)) (m ((c : Thread nD τ).loc main_arg2))
        (m ((c : Thread nD τ).loc main_arg3)) (m ((c : Thread nD τ).loc main_arg4)) (y 0)
        ⟨(y 1).val / 1024, by have h : (y 1).val < 10240 := (y 1).isLt; omega⟩ ⟨(y 1).val / 16 % 64, by omega⟩ ⟨(y 1).val % 16, by omega⟩)
      ∧ r.2.mem ((c.tc : Thread nD τ).loc main_v6) = (fun y : S200x10x64.Idx =>
        BitVec.ofNat 32 (Spec.count (m ((c : Thread nD τ).loc main_arg2)) (m ((c : Thread nD τ).loc main_arg3)) (y 0) (y 1) (y 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r hr c => ?_) (run_main m ρ)
  obtain ⟨g0, g4, g1⟩ := h c
  have rest : ∀ b : Ref sig .tc, b ∈ Pipeline.restRefs sig spec0 → b ≠ main_v6 → (∀ w, Pipeline.arrRef spec0 w ≠ b) →
      b ≠ main_v0 → b ≠ main_v1 → b ≠ main_v2 → b ≠ main_v3 → b ≠ main_v4 →
      r.2.mem ((c.tc : Thread nD τ).loc b) = m ((c.tc : Thread nD τ).loc b) := fun b hb h6 hw h0 h1 h2 h3 h4 =>
    ((hr c).2 b hb).trans ((tail_of_ne m c b h6 hw).trans (V_of_ne m c b h0 h1 h2 h3 h4))
  have e6 : r.2.mem ((c.tc : Thread nD τ).loc main_v6) = tail m c main_v6 := (hr c).2 main_v6 (show main_v6 ∈ Pipeline.restRefs sig spec0 by decide)
  refine ⟨((hr c).1 4).trans (arr4_eq m c g0 g4 g1), e6.trans ((tail_v6 m c).trans ?_),
    rest main_arg0 (by decide) (by decide) (by decide) (by decide) (by decide) (by decide) (by decide) (by decide),
    ((hr c).1 1).trans (((dats m 0 c).arrAt_in 1 rfl _).trans ((A_eq m c 1).trans
      (V_of_ne m c main_arg1 (by decide) (by decide) (by decide) (by decide) (by decide)))),
    rest main_arg2 (by decide) (by decide) (by decide) (by decide) (by decide) (by decide) (by decide) (by decide),
    rest main_arg3 (by decide) (by decide) (by decide) (by decide) (by decide) (by decide) (by decide) (by decide),
    rest main_arg4 (by decide) (by decide) (by decide) (by decide) (by decide) (by decide) (by decide) (by decide)⟩
  rw [arr5_eq m c g0 g4 g1]
  funext y
  obtain ⟨d, r', u, rfl⟩ : ∃ (d : Fin 200) (r' : Fin 10) (u : Fin 64), y = ix3 d r' u := ⟨y 0, y 1, y 2, eq_ix3 y⟩
  rw [byDoc_read]
  rfl

end Cert.KernelIdeal.Hand.Val

end
-- ==== Proof.RefValue.lean ====
/- The reference's results over the extended reals: the plain sums and counts of its arguments. -/
module

public import proofs.«01_k».proof.Proof.Gen.ReferenceIdeal.Value
public import proofs.«01_k».proof.Proof.Spec
public import Idealize.ShloMosaic.Lib.WordSum
public import Idealize.ShloMosaic.Lib.Pipeline.ValueKit

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.SL.Sem
open Idealize.ShloMosaic.Pipeline (Dat)

theorem sel_iff {α : Type} (c : BitVec 1) (P : Prop) [Decidable P] (h : c = 1#1 ↔ P) (x y : α) : Scalar.select c x y = if P then x else y := by
  unfold Scalar.select
  by_cases hP : P
  · exact (if_pos (h.mpr hP)).trans (if_pos hP).symm
  · exact (if_neg fun hc => hP (h.mp hc)).trans (if_neg hP).symm

/-- Bits added up as words count the bits that are set. -/
theorem fold_count {ι : Type} [DecidableEq ι] (H : ι → BitVec 1) (P : ι → Prop) [DecidablePred P] (h : ∀ i, H i = 1#1 ↔ P i) (s : Finset ι) :
    s.fold IntOp.addi 0#32 (fun i => BitVec.setWidth 32 (H i)) = BitVec.ofNat 32 (s.filter P).card := by
  induction s using Finset.induction_on with
  | empty => rfl
  | insert a s ha ih =>
    rw [Finset.fold_insert ha, ih, Finset.filter_insert]
    have hz : ∀ b : BitVec 1, ¬ b = 1#1 → b = 0#1 := by decide
    by_cases hP : P a
    · rw [if_pos hP, Finset.card_insert_of_notMem fun hm => ha (Finset.mem_filter.mp hm).1, (h a).mpr hP, Nat.add_comm, BitVec.ofNat_add]
      rfl
    · rw [if_neg hP, hz _ fun hc => hP ((h a).mp hc)]
      exact BitVec.zero_add _

/-! ## The payloads at an index -/

theorem hit_read (v14 : Vec Ideal S200 .i32) (v20 : Vec Ideal S200x512x10 .i32) (d : Fin 200) (s : Fin 512) (r : Fin 10) (u : Fin 64) :
    k0_pay2 (F := Ideal) v14 v20 (ix4 d s r u) = 1#1 ↔ Spec.hit (v14 (ix1 d)) (v20 (ix3 d s r)) s.val u.val := by
  have e : k0_pay2 (F := Ideal) v14 v20 (ix4 d s r u)
      = IntOp.andi (IntOp.cmpi .slt (BitVec.ofNat 32 s.val) (v14 (ix1 d))) (IntOp.cmpi .eq (v20 (ix3 d s r)) (BitVec.ofNat 32 u.val)) := by
    unfold k0_pay2
    pointwise
  rw [e, IntOp.andi_eq_one]
  unfold Spec.hit
  refine and_congr_right fun _ => ?_
  generalize v20 (ix3 d s r) = c
  have e2 : IntOp.cmpi .eq c (BitVec.ofNat 32 u.val) = BitVec.ofBool (c == BitVec.ofNat 32 u.val) := rfl
  rw [e2]
  by_cases hc : c = BitVec.ofNat 32 u.val
  · rw [beq_iff_eq.mpr hc]; simp [hc]
  · rw [beq_eq_false_iff_ne.mpr hc]; simp [hc]

theorem pay3_read (v0 : Vec Ideal S200x512x768 .fp8e4m3) (v2 : Vec Ideal S10x768x16 .fp8e4m3) (v5 : Vec Ideal S200x512 .f32)
    (v14 : Vec Ideal S200 .i32) (v20 : Vec Ideal S200x512x10 .i32) (d : Fin 200) (r : Fin 10) (u : Fin 64) (p : Fin 16) :
    k0_pay3 (F := Ideal) v0 v2 v5 v14 v20 (ix4 d r u p)
      = ∑ s : Fin 512, if Spec.hit (v14 (ix1 d)) (v20 (ix3 d s r)) s.val u.val
          then (∑ k : Fin 768, (v2 (ix3 r k p) : EReal) * v0 (ix3 d s k)) * ((v5 (ix2 d s) : EReal) * Spec.quarter) else (0 : EReal) := by
  unfold k0_pay3
  have hh := fun s => hit_read v14 v20 d s r u
  generalize k0_pay2 (F := Ideal) v14 v20 = H at hh
  pointwise
  refine Finset.sum_congr rfl fun s _ => ?_
  rw [sel_iff _ _ (hh s)]
  refine if_congr Iff.rfl ?_ rfl
  rw [mul_assoc]
  exact congrArg (· * _) (Finset.sum_congr rfl fun k _ => mul_comm _ _)

theorem pay4_read (v14 : Vec Ideal S200 .i32) (v20 : Vec Ideal S200x512x10 .i32) (d : Fin 200) (r : Fin 10) (u : Fin 64) :
    k0_pay4 (F := Ideal) v14 v20 (ix3 d r u) = BitVec.ofNat 32 (Spec.count v14 v20 d r u) := by
  unfold k0_pay4
  have hh := fun s => hit_read v14 v20 d s r u
  generalize k0_pay2 (F := Ideal) v14 v20 = H at hh
  pointwise
  exact fold_count _ _ hh _

/-! ## The arrays the region finds -/

variable (m : (ℓ : Loc nD τ sig) → Buf (Elt Ideal) ℓ) (ρ : Dev nD → PrngReg)

theorem idx0 (t : Fin cfg0.N) : win0_0.index t = ![0, 0, 0] := by revert t; decide +kernel
theorem idx1 (t : Fin cfg0.N) : win0_1.index t = ![0, 0] := by revert t; decide +kernel
theorem idx2 (t : Fin cfg0.N) : win0_2.index t = ![0] := by revert t; decide +kernel
theorem idx3 (t : Fin cfg0.N) : win0_3.index t = ![0, 0, 0] := by revert t; decide +kernel
theorem idx4 (t : Fin cfg0.N) : win0_4.index t = ![0, 0, 0] := by revert t; decide +kernel
theorem idx5 (t : Fin cfg0.N) : win0_5.index t = ![0, 0] := by revert t; decide +kernel
theorem idx6 (t : Fin cfg0.N) : win0_6.index t = ![0, 0, 0] := by revert t; decide +kernel

theorem iblk0_read (c : Dev nD) (t : Fin cfg0.N) (d : Fin 200) (s : Fin 512) (k : Fin 768) :
    iblk m c 0 t (ix3 d s k) = Ideal.ofBits .fp8e4m3 (m ((c : Thread nD τ).loc main_arg0) (ix3 d s k)) := by
  have e : iblk m c 0 t (ix3 d s k) = V m c main_v0 (ix3 d s k) := by
    blk_ext [iblk, idx0 t]
  rw [e]
  entry_read
  pointwise
theorem iblk1_read (c : Dev nD) (t : Fin cfg0.N) (d : Fin 200) (s : Fin 512) :
    iblk m c 1 t (ix2 d s) = m ((c : Thread nD τ).loc main_arg1) (ix2 d s) := by
  have e : iblk m c 1 t (ix2 d s) = V m c main_arg1 (ix2 d s) := by
    blk_ext [iblk, idx1 t]
  rw [e]
  entry_read
  rfl
theorem iblk2_read (c : Dev nD) (t : Fin cfg0.N) (d : Fin 200) :
    iblk m c 2 t (ix1 d) = m ((c : Thread nD τ).loc main_arg2) (ix1 d) := by
  have e : iblk m c 2 t (ix1 d) = V m c main_arg2 (ix1 d) := by
    blk_ext [iblk, idx2 t]
  rw [e]
  entry_read
  rfl
theorem iblk3_read (c : Dev nD) (t : Fin cfg0.N) (d : Fin 200) (s : Fin 512) (k : Fin 10) :
    iblk m c 3 t (ix3 d s k) = m ((c : Thread nD τ).loc main_arg3) (ix3 d s k) := by
  have e : iblk m c 3 t (ix3 d s k) = V m c main_arg3 (ix3 d s k) := by
    blk_ext [iblk, idx3 t]
  rw [e]
  entry_read
  rfl
theorem iblk4_read (c : Dev nD) (t : Fin cfg0.N) (d : Fin 10) (s : Fin 768) (k : Fin 16) :
    iblk m c 4 t (ix3 d s k) = Ideal.ofBits .fp8e4m3 (m ((c : Thread nD τ).loc main_arg4) (ix3 d s k)) := by
  have e : iblk m c 4 t (ix3 d s k) = V m c main_v1 (ix3 d s k) := by
    blk_ext [iblk, idx4 t]
  rw [e]
  entry_read
  pointwise

theorem out5_eq (c : Dev nD) : (dats m 0 c).arrAt 5 cfg0.N
    = fun y : S200x10240.Idx => Spec.sums (m ((c : Thread nD τ).loc main_arg0)) (m ((c : Thread nD τ).loc main_arg1)) (m ((c : Thread nD τ).loc main_arg2))
        (m ((c : Thread nD τ).loc main_arg3)) (m ((c : Thread nD τ).loc main_arg4)) (y 0)
        ⟨(y 1).val / 1024, by have h : (y 1).val < 10240 := (y 1).isLt; omega⟩ ⟨(y 1).val / 16 % 64, by omega⟩ ⟨(y 1).val % 16, by omega⟩ := by
  refine (dats m 0 c).arrAt_eq_of_covers 5 _ (by decide +kernel) fun t hf y => ?_
  blk_simp
  rw [after0_5]
  frame_out
  obtain ⟨d, e, rfl⟩ : ∃ (d : Fin 200) (e : Fin 10240), y = ix2 d e := ⟨y 0, y 1, eq_ix2 y⟩
  have he := e.isLt
  have ed : (((View.whole main_v2_0).slice (win0_5.rect t)).emb (ix2 d e) 0 : Fin 200) = d := by
    apply Fin.ext
    blk_simp [idx5 t]
  rw [ed]
  have e1 : k0_pay1 (k0_pay3 (iblk m c 0 t) (iblk m c 4 t) (iblk m c 1 t) (iblk m c 2 t) (iblk m c 3 t)) (ix2 d e)
      = k0_pay3 (iblk m c 0 t) (iblk m c 4 t) (iblk m c 1 t) (iblk m c 2 t) (iblk m c 3 t)
        (ix4 d ⟨e.val / 1024, by omega⟩ ⟨e.val / 16 % 64, by omega⟩ ⟨e.val % 16, by omega⟩) := by
    generalize k0_pay3 (iblk m c 0 t) (iblk m c 4 t) (iblk m c 1 t) (iblk m c 2 t) (iblk m c 3 t) = v
    unfold k0_pay1
    pointwise
  rw [e1, pay3_read]
  simp only [iblk0_read, iblk1_read, iblk2_read, iblk3_read, iblk4_read]
  have ee : ∀ h1 h2 h3, Spec.sums (m ((c : Thread nD τ).loc main_arg0)) (m ((c : Thread nD τ).loc main_arg1)) (m ((c : Thread nD τ).loc main_arg2)) (m ((c : Thread nD τ).loc main_arg3)) (m ((c : Thread nD τ).loc main_arg4)) d
      ⟨(win0_5.index t 1 * 10240 + e.val) / 1024, h1⟩ ⟨(win0_5.index t 1 * 10240 + e.val) / 16 % 64, h2⟩ ⟨(win0_5.index t 1 * 10240 + e.val) % 16, h3⟩
      = Spec.sums (m ((c : Thread nD τ).loc main_arg0)) (m ((c : Thread nD τ).loc main_arg1)) (m ((c : Thread nD τ).loc main_arg2)) (m ((c : Thread nD τ).loc main_arg3)) (m ((c : Thread nD τ).loc main_arg4)) d
      ⟨e.val / 1024, by omega⟩ ⟨e.val / 16 % 64, by omega⟩ ⟨e.val % 16, by omega⟩ := by
    have ei : win0_5.index t 1 = 0 := by rw [idx5 t]; rfl
    simp only [ei, Nat.zero_mul, Nat.zero_add, implies_true]
  exact (ee _ _ _).symm

theorem out6_eq (c : Dev nD) : (dats m 0 c).arrAt 6 cfg0.N
    = fun y : S200x10x64.Idx => BitVec.ofNat 32 (Spec.count (m ((c : Thread nD τ).loc main_arg2)) (m ((c : Thread nD τ).loc main_arg3)) (y 0) (y 1) (y 2)) := by
  refine (dats m 0 c).arrAt_eq_of_covers 6 _ (by decide +kernel) fun t hf y => ?_
  blk_simp
  rw [after0_6]
  frame_out
  obtain ⟨d, r, u, rfl⟩ : ∃ (d : Fin 200) (r : Fin 10) (u : Fin 64), y = ix3 d r u := ⟨y 0, y 1, y 2, eq_ix3 y⟩
  have ed : (((View.whole main_v2_1).slice (win0_6.rect t)).emb (ix3 d r u) 0 : Fin 200) = d := by
    apply Fin.ext
    blk_simp [idx6 t]
  have er : (((View.whole main_v2_1).slice (win0_6.rect t)).emb (ix3 d r u) 1 : Fin 10) = r := by
    apply Fin.ext
    blk_simp [idx6 t]
  have eu : (((View.whole main_v2_1).slice (win0_6.rect t)).emb (ix3 d r u) 2 : Fin 64) = u := by
    apply Fin.ext
    blk_simp [idx6 t]
  rw [ed, er, eu, pay4_read]
  unfold Spec.count
  simp only [iblk2_read, iblk3_read]

end Cert.ReferenceIdeal.Val

end
-- ==== Proof.Tame.lean ====
/- What the precondition says: no byte of the two eight-bit arrays is a NaN and the scales are real numbers. -/
module

public import proofs.«01_k».proof.Pre_tame
public import proofs.«01_k».proof.Proof.Doc
public import Idealize.ShloMosaic.Lib.ReduceAll
public import Idealize.ShloMosaic.Lib.Affine

@[expose] public section

set_option maxRecDepth 16384

noncomputable section

namespace Cert.Tame

open Idealize.ShloMosaic Cert.Pre_tame Cert.KernelIdeal.Hand

theorem facts : Cert.Pre_tame.Facts := by
  constructor <;> decide

theorem ne_of (a b : BitVec 8) (h : IntOp.cmpi .ne a b = 1#1) : a ≠ b := by
  rintro rfl
  have e : IntOp.cmpi .ne a a = BitVec.ofBool (a != a) := rfl
  rw [e, bne_self_eq_false] at h
  exact absurd h (by decide)

instance : Subsingleton S_.Idx := ⟨fun a b => funext fun i => i.elim0⟩

theorem real_of_abs (x : EReal) (h : max x (-x) < ⊤) : IsReal x := by
  induction x using EReal.rec with
  | bot => simp at h
  | top => simp at h
  | coe r => exact ⟨r, rfl⟩

theorem tame_read [Facts] (a0 : IVec S200x512x768 8) (a1 : FVec Ideal S200x512 .f32) (a2 : IVec S200 32) (a3 : IVec S200x512x10 32)
    (a4 : IVec S10x768x16 8) (h : Cert.Pre_tame.fn (F := Ideal) a0 a1 a2 a3 a4 = fun _ => 1#1) :
    (∀ i, IsReal (Ideal.ofBits .fp8e4m3 (a0 i))) ∧ (∀ i, IsReal (Ideal.ofBits .fp8e4m3 (a4 i))) ∧ (∀ i, IsReal (a1 i)) := by
  have h' := congrFun h (fun i => i.elim0)
  dsimp only [fn, fn_part1] at h'
  obtain ⟨h12, h16⟩ := IntOp.andi_eq_one.1 h'
  obtain ⟨h5, h11⟩ := IntOp.andi_eq_one.1 h12
  have k0 := Host.reduce_andi_all _ _ _ _ _ h5
  have k4 := Host.reduce_andi_all _ _ _ _ _ h11
  have k1 := Host.reduce_andi_all _ _ _ _ _ h16
  refine ⟨fun i => ?_, fun i => ?_, fun i => ?_⟩
  · obtain ⟨e1, e2⟩ := IntOp.andi_eq_one.1 (k0 i)
    exact ofBits_real _ (ne_of _ _ e1) (ne_of _ _ e2)
  · obtain ⟨e1, e2⟩ := IntOp.andi_eq_one.1 (k4 i)
    exact ofBits_real _ (ne_of _ _ e1) (ne_of _ _ e2)
  · have e := k1 i
    have e' : BitVec.ofBool (decide (max (a1 i : EReal) (-(a1 i : EReal)) < Ideal.ofBits .f32 0x7F800000#32)) = 1#1 := e
    have hinf : Ideal.ofBits .f32 0x7F800000#32 = ⊤ := by
      simp [Ideal.ofBits, Ideal.ieee]
    rw [hinf] at e'
    refine real_of_abs _ ?_
    by_contra hn
    rw [decide_eq_false hn] at e'
    exact absurd e' (by decide)

end Cert.Tame

end
-- ==== Proof.lean ====
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.FrameBits
public import proofs.«01_k».proof.Proof.FrameIdeal
public import proofs.«01_k».proof.Proof.KernelOut
public import proofs.«01_k».proof.Proof.RefValue
public import proofs.«01_k».proof.Proof.Tame
public import Idealize.ShloMosaic.Adequacy
public import Idealize.ShloMosaic.Init

@[expose] public section

noncomputable section

namespace Cert.Proof

open Idealize.ShloMosaic Idealize.SL.Sem Cert.Kernel

theorem same : Cert.algebraic_KernelIdeal_ReferenceIdeal_pre_tame (hKernelIdeal := Cert.KernelIdeal.Gen.facts)
    (hReferenceIdeal := Cert.ReferenceIdeal.Gen.facts) (hPre_tame := Cert.Tame.facts) := by
  intro m g m' g' hpre heq
  letI := Cert.Tame.facts
  refine ⟨_, _, Cert.KernelIdeal.Hand.Val.run_values m g fun c => Cert.Tame.tame_read _ _ _ _ _ (hpre c), ?_⟩
  refine (θ_run _ _ _).mono (fun r h c => ?_) (Cert.ReferenceIdeal.Value.run_blocks m' g')
  obtain ⟨h5, h6, k0, k1, k2, k3, k4⟩ := h c
  obtain ⟨e0, e1, e2, e3, e4⟩ := heq c
  refine ⟨h5.trans ((Cert.ReferenceIdeal.Val.out5_eq m' c).trans ?_), h6.trans ((Cert.ReferenceIdeal.Val.out6_eq m' c).trans ?_), k0, k1, k2, k3, k4⟩
  · rw [e0, e1, e2, e3, e4]
  · rw [e2, e3]

theorem claim : Cert.Claim := ⟨Cert.Kernel.Gen.facts, Cert.KernelIdeal.Gen.facts, Cert.ReferenceIdeal.Gen.facts, Cert.Tame.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ,
  Idealize.ShloMosaic.IdealRules.bf16_pack.statement _, same⟩

end Cert.Proof

end
